-- ==== Defs.lean ====
def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_slots_in_range : Cert.Pre_slots_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_slots_in_range : Cert.Pre_slots_in_range.Facts] (m : (ℓ : Loc Cert.Reference.nD Cert.Reference.τ Cert.Reference.sig) → Buf (Elt Bits) ℓ) : Prop :=
  ∀ c : Dev Cert.Reference.nD,
    (Cert.Pre_slots_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Moe [hPre_blocks_in_range : Cert.Pre_blocks_in_range.Facts] (m : (ℓ : Loc Cert.Moe.nD Cert.Moe.τ Cert.Moe.sig) → Buf (Elt Bits) ℓ) : Prop :=
  ∀ c : Dev Cert.Moe.nD,
    (Cert.Pre_blocks_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_blocks_in_range : Cert.Pre_blocks_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_blocks_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal [hPre_blocks_in_range : Cert.Pre_blocks_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_blocks_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Merge [hPre_rows_finite : Cert.Pre_rows_finite.Facts] (m : (ℓ : Loc Cert.Merge.nD Cert.Merge.τ Cert.Merge.sig) → Buf (Elt Bits) ℓ) : Prop :=
  ∀ c : Dev Cert.Merge.nD,
    (Cert.Pre_rows_finite.fn (F := Bits) (m ((c.tc : Thread Cert.Merge.nD Cert.Merge.τ).loc Cert.Merge.main_arg0)) (m ((c.tc : Thread Cert.Merge.nD Cert.Merge.τ).loc Cert.Merge.main_arg1)) (m ((c.tc : Thread Cert.Merge.nD Cert.Merge.τ).loc Cert.Merge.main_arg2)) (m ((c.tc : Thread Cert.Merge.nD Cert.Merge.τ).loc Cert.Merge.main_arg3)) (m ((c.tc : Thread Cert.Merge.nD Cert.Merge.τ).loc Cert.Merge.main_arg4)) (m ((c.tc : Thread Cert.Merge.nD Cert.Merge.τ).loc Cert.Merge.main_arg5)) (m ((c.tc : Thread Cert.Merge.nD Cert.Merge.τ).loc Cert.Merge.main_arg6)) (m ((c.tc : Thread Cert.Merge.nD Cert.Merge.τ).loc Cert.Merge.main_arg7)) (m ((c.tc : Thread Cert.Merge.nD Cert.Merge.τ).loc Cert.Merge.main_arg8)) (m ((c.tc : Thread Cert.Merge.nD Cert.Merge.τ).loc Cert.Merge.main_arg9)) (m ((c.tc : Thread Cert.Merge.nD Cert.Merge.τ).loc Cert.Merge.main_arg10)) (m ((c.tc : Thread Cert.Merge.nD Cert.Merge.τ).loc Cert.Merge.main_arg11)) (m ((c.tc : Thread Cert.Merge.nD Cert.Merge.τ).loc Cert.Merge.main_arg12)) (m ((c.tc : Thread Cert.Merge.nD Cert.Merge.τ).loc Cert.Merge.main_arg13)) (m ((c.tc : Thread Cert.Merge.nD Cert.Merge.τ).loc Cert.Merge.main_arg14))) = (fun _ => 1#1)

def Pre_MergeIdeal [hPre_rows_finite : Cert.Pre_rows_finite.Facts] (m : (ℓ : Loc Cert.MergeIdeal.nD Cert.MergeIdeal.τ Cert.MergeIdeal.sig) → Buf (Elt Ideal) ℓ) : Prop :=
  ∀ c : Dev Cert.MergeIdeal.nD,
    (Cert.Pre_rows_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14))) = (fun _ => 1#1)

def Pre_MergeRefIdeal [hPre_rows_finite : Cert.Pre_rows_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_rows_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_slots_in_range : Cert.Pre_slots_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_slots_in_range : Cert.Pre_slots_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Moe [hMoe : Cert.Moe.Facts] [hPre_blocks_in_range : Cert.Pre_blocks_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_blocks_in_range : Cert.Pre_blocks_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] [hPre_blocks_in_range : Cert.Pre_blocks_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Merge [hMerge : Cert.Merge.Facts] [hPre_rows_finite : Cert.Pre_rows_finite.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] [hPre_rows_finite : Cert.Pre_rows_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] [hPre_rows_finite : Cert.Pre_rows_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v12_0)) (v1 : (c : Dev Cert.InProjIdeal.nD) → Buf (Elt Ideal) ((c.tc : Thread Cert.InProjIdeal.nD Cert.InProjIdeal.τ).loc Cert.InProjIdeal.main_v12_1)) (v2 : (c : Dev Cert.InProjIdeal.nD) → Buf (Elt Ideal) ((c.tc : Thread Cert.InProjIdeal.nD Cert.InProjIdeal.τ).loc Cert.InProjIdeal.main_v12_2)) (v3 : (c : Dev Cert.InProjIdeal.nD) → Buf (Elt Ideal) ((c.tc : Thread Cert.InProjIdeal.nD Cert.InProjIdeal.τ).loc Cert.InProjIdeal.main_v12_3)) (v4 : (c : Dev Cert.InProjIdeal.nD) → Buf (Elt Ideal) ((c.tc : Thread Cert.InProjIdeal.nD Cert.InProjIdeal.τ).loc Cert.InProjIdeal.main_v12_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12_0) = v0 c
          ∧ r.2.mem ((c.tc : Thread Cert.InProjIdeal.nD Cert.InProjIdeal.τ).loc Cert.InProjIdeal.main_v12_1) = v1 c
          ∧ r.2.mem ((c.tc : Thread Cert.InProjIdeal.nD Cert.InProjIdeal.τ).loc Cert.InProjIdeal.main_v12_2) = v2 c
          ∧ r.2.mem ((c.tc : Thread Cert.InProjIdeal.nD Cert.InProjIdeal.τ).loc Cert.InProjIdeal.main_v12_3) = v3 c
          ∧ r.2.mem ((c.tc : Thread Cert.InProjIdeal.nD Cert.InProjIdeal.τ).loc Cert.InProjIdeal.main_v12_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v31) = v3 c
          ∧ r.2.mem ((c.tc : Thread Cert.InProjRefIdeal.nD Cert.InProjRefIdeal.τ).loc Cert.InProjRefIdeal.main_v30) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Moe_MoeIdeal : Prop :=
  True

def algebraic_MoeIdeal_MoeRefIdeal [hMoeIdeal : Cert.MoeIdeal.Facts] [hMoeRefIdeal : Cert.MoeRefIdeal.Facts] [hPre_blocks_in_range : Cert.Pre_blocks_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v1)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v1) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v38) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Merge_MergeIdeal : Prop :=
  True

def algebraic_MergeIdeal_MergeRefIdeal [hMergeIdeal : Cert.MergeIdeal.Facts] [hMergeRefIdeal : Cert.MergeRefIdeal.Facts] [hPre_rows_finite : Cert.Pre_rows_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v28_0)) (v1 : (c : Dev Cert.MergeIdeal.nD) → Buf (Elt Ideal) ((c.tc : Thread Cert.MergeIdeal.nD Cert.MergeIdeal.τ).loc Cert.MergeIdeal.main_v28_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v28_0) = v0 c
          ∧ r.2.mem ((c.tc : Thread Cert.MergeIdeal.nD Cert.MergeIdeal.τ).loc Cert.MergeIdeal.main_v28_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v71) = v0 c
          ∧ r.2.mem ((c.tc : Thread Cert.MergeRefIdeal.nD Cert.MergeRefIdeal.τ).loc Cert.MergeRefIdeal.main_v73) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v19) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v20) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hKernel : Cert.Kernel.Facts) (hKernelIdeal : Cert.KernelIdeal.Facts) (hReferenceIdeal : Cert.ReferenceIdeal.Facts) (hReference : Cert.Reference.Facts) (hInProj : Cert.InProj.Facts) (hInProjIdeal : Cert.InProjIdeal.Facts) (hInProjRefIdeal : Cert.InProjRefIdeal.Facts) (hMoe : Cert.Moe.Facts) (hMoeIdeal : Cert.MoeIdeal.Facts) (hMoeRefIdeal : Cert.MoeRefIdeal.Facts) (hMerge : Cert.Merge.Facts) (hMergeIdeal : Cert.MergeIdeal.Facts) (hMergeRefIdeal : Cert.MergeRefIdeal.Facts) (hFinal : Cert.Final.Facts) (hFinalIdeal : Cert.FinalIdeal.Facts) (hFinalRefIdeal : Cert.FinalRefIdeal.Facts) (hAda : Cert.Ada.Facts) (hAdaIdeal : Cert.AdaIdeal.Facts) (hAdaRefIdeal : Cert.AdaRefIdeal.Facts) (hPre_slots_in_range : Cert.Pre_slots_in_range.Facts) (hPre_blocks_in_range : Cert.Pre_blocks_in_range.Facts) (hPre_rows_finite : Cert.Pre_rows_finite.Facts),
    quiescent_Kernel (hKernel := hKernel) (hPre_slots_in_range := hPre_slots_in_range)
    ∧ quiescent_KernelIdeal (hKernelIdeal := hKernelIdeal) (hPre_slots_in_range := hPre_slots_in_range)
    ∧ quiescent_ReferenceIdeal (hReferenceIdeal := hReferenceIdeal) (hPre_slots_in_range := hPre_slots_in_range)
    ∧ quiescent_Reference (hReference := hReference) (hPre_slots_in_range := hPre_slots_in_range)
    ∧ quiescent_InProj (hInProj := hInProj)
    ∧ quiescent_InProjIdeal (hInProjIdeal := hInProjIdeal)
    ∧ quiescent_InProjRefIdeal (hInProjRefIdeal := hInProjRefIdeal)
    ∧ quiescent_Moe (hMoe := hMoe) (hPre_blocks_in_range := hPre_blocks_in_range)
    ∧ quiescent_MoeIdeal (hMoeIdeal := hMoeIdeal) (hPre_blocks_in_range := hPre_blocks_in_range)
    ∧ quiescent_MoeRefIdeal (hMoeRefIdeal := hMoeRefIdeal) (hPre_blocks_in_range := hPre_blocks_in_range)
    ∧ quiescent_Merge (hMerge := hMerge) (hPre_rows_finite := hPre_rows_finite)
    ∧ quiescent_MergeIdeal (hMergeIdeal := hMergeIdeal) (hPre_rows_finite := hPre_rows_finite)
    ∧ quiescent_MergeRefIdeal (hMergeRefIdeal := hMergeRefIdeal) (hPre_rows_finite := hPre_rows_finite)
    ∧ quiescent_Final (hFinal := hFinal)
    ∧ quiescent_FinalIdeal (hFinalIdeal := hFinalIdeal)
    ∧ quiescent_FinalRefIdeal (hFinalRefIdeal := hFinalRefIdeal)
    ∧ quiescent_Ada (hAda := hAda)
    ∧ quiescent_AdaIdeal (hAdaIdeal := hAdaIdeal)
    ∧ quiescent_AdaRefIdeal (hAdaRefIdeal := hAdaRefIdeal)
    ∧ preserves_Kernel_KernelIdeal
    ∧ algebraic_KernelIdeal_ReferenceIdeal (hKernelIdeal := hKernelIdeal) (hReferenceIdeal := hReferenceIdeal) (hPre_slots_in_range := hPre_slots_in_range)
    ∧ bitexact_Kernel_Reference (hKernel := hKernel) (hReference := hReference) (hPre_slots_in_range := hPre_slots_in_range)
    ∧ preserves_InProj_InProjIdeal
    ∧ algebraic_InProjIdeal_InProjRefIdeal (hInProjIdeal := hInProjIdeal) (hInProjRefIdeal := hInProjRefIdeal)
    ∧ preserves_Moe_MoeIdeal
    ∧ algebraic_MoeIdeal_MoeRefIdeal (hMoeIdeal := hMoeIdeal) (hMoeRefIdeal := hMoeRefIdeal) (hPre_blocks_in_range := hPre_blocks_in_range)
    ∧ preserves_Merge_MergeIdeal
    ∧ algebraic_MergeIdeal_MergeRefIdeal (hMergeIdeal := hMergeIdeal) (hMergeRefIdeal := hMergeRefIdeal) (hPre_rows_finite := hPre_rows_finite)
    ∧ preserves_Final_FinalIdeal
    ∧ algebraic_FinalIdeal_FinalRefIdeal (hFinalIdeal := hFinalIdeal) (hFinalRefIdeal := hFinalRefIdeal)
    ∧ preserves_Ada_AdaIdeal
    ∧ algebraic_AdaIdeal_AdaRefIdeal (hAdaIdeal := hAdaIdeal) (hAdaRefIdeal := hAdaRefIdeal)
-- ==== Pre_blocks_in_range.lean ====
abbrev S40960x1024 : Shape := ⟨2, ![40960, 1024]⟩
abbrev S80 : Shape := ⟨1, ![80]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S80 : S_.BroadcastsInDim S80 (![] : Fin 0 → Fin S80.rank)

variable [Facts]

def fn {F : FTy → Type} [FloatOps F] (main_arg0 : FVec F S40960x1024 .f32) (main_arg1 : IVec S80 32) (main_arg2 : IVec S80 32) (main_arg3 : FVec F S2x16x1024x512 .f32) (main_arg4 : FVec F S2x16x1024x512 .f32) (main_arg5 : FVec F S2x16x512x1024 .f32) : IVec S80 1 :=
  let main_c : IVec S_ 32 := constantI S_ 32 0#32
  let main_v0 : IVec S80 32 := broadcastInDim S80 ![] bcast_S_S80 main_c
  let main_v1 : IVec S80 1 := cmpi .sge main_arg1 main_v0
  let main_c_0 : IVec S_ 32 := constantI S_ 32 16#32
  let main_v2 : IVec S80 32 := broadcastInDim S80 ![] bcast_S_S80 main_c_0
  let main_v3 : IVec S80 1 := cmpi .slt main_arg1 main_v2
  let main_v4 : IVec S80 1 := andi main_v1 main_v3
  let main_c_1 : IVec S_ 32 := constantI S_ 32 0#32
  let main_v5 : IVec S80 32 := broadcastInDim S80 ![] bcast_S_S80 main_c_1
  let main_v6 : IVec S80 1 := cmpi .sge main_arg2 main_v5
  let main_v7 : IVec S80 1 := andi main_v4 main_v6
  main_v7
-- ==== Pre_rows_finite.lean ====
abbrev S16384x512 : Shape := ⟨2, ![16384, 512]⟩
abbrev S512 : Shape := ⟨1, ![512]⟩
abbrev S16384x2048 : Shape := ⟨2, ![16384, 2048]⟩
abbrev S16384x1024 : Shape := ⟨2, ![16384, 1024]⟩
abbrev S2x6x1024 : Shape := ⟨3, ![2, 6, 1024]⟩
abbrev S1024 : Shape := ⟨1, ![1024]⟩
abbrev S512x1024 : Shape := ⟨2, ![512, 1024]⟩
abbrev S1024x1024 : Shape := ⟨2, ![1024, 1024]⟩
abbrev S1024x16 : Shape := ⟨2, ![1024, 16]⟩
abbrev S16 : Shape := ⟨1, ![16]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .f32) (main_arg1 : FVec F S16384x512 .f32) (main_arg2 : FVec F S16384x512 .f32) (main_arg3 : FVec F S512 .f32) (main_arg4 : FVec F S512 .f32) (main_arg5 : FVec F S16384x512 .f32) (main_arg6 : FVec F S16384x2048 .f32) (main_arg7 : FVec F S16384x1024 .f32) (main_arg8 : FVec F S2x6x1024 .f32) (main_arg9 : FVec F S1024 .f32) (main_arg10 : FVec F S512x1024 .f32) (main_arg11 : FVec F S512x1024 .f32) (main_arg12 : FVec F S1024x1024 .f32) (main_arg13 : FVec F S1024x16 .f32) (main_arg14 : FVec F S16 .f32) : IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  main_v2
-- ==== Pre_slots_in_range.lean ====
abbrev S40960x512 : Shape := ⟨2, ![40960, 512]⟩
abbrev S512x128 : Shape := ⟨2, ![512, 128]⟩
abbrev S512x64 : Shape := ⟨2, ![512, 64]⟩
abbrev S_ : Shape := ⟨0, ![]⟩

class Facts : Prop where
  slices_S512x128_S512x64_0_0 : S512x128.Slices ![0, 0] S512x64
  bcast_S_S512x64 : S_.BroadcastsInDim S512x64 (![] : Fin 0 → Fin S512x64.rank)

variable [Facts]

def fn {F : FTy → Type} [FloatOps F] (main_arg0 : FVec F S40960x512 .f32) (main_arg1 : IVec S512x128 32) : IVec S512x64 1 :=
  let main_v0 : IVec S512x64 32 := (extractStridedSlice S512x64 ![0, 0] · slices_S512x128_S512x64_0_0) main_arg1
  let main_c : IVec S_ 32 := constantI S_ 32 0#32
  let main_v1 : IVec S512x64 32 := broadcastInDim S512x64 ![] bcast_S_S512x64 main_c
  let main_v2 : IVec S512x64 1 := cmpi .sge main_v0 main_v1
  let main_c_0 : IVec S_ 32 := constantI S_ 32 40960#32
  let main_v3 : IVec S512x64 32 := broadcastInDim S512x64 ![] bcast_S_S512x64 main_c_0
  let main_v4 : IVec S512x64 1 := cmpi .slt main_v0 main_v3
  let main_v5 : IVec S512x64 1 := andi main_v2 main_v4
  main_v5
-- ==== Kernel.lean ====
abbrev S40960x512 : Shape := ⟨2, ![40960, 512]⟩
abbrev S512x128 : Shape := ⟨2, ![512, 128]⟩
abbrev S32768x512 : Shape := ⟨2, ![32768, 512]⟩
abbrev S2x1x128 : Shape := ⟨3, ![2, 1, 128]⟩
abbrev S2 : Shape := ⟨1, ![2]⟩
abbrev S2x64x512 : Shape := ⟨3, ![2, 64, 512]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x64x512 : Shape := ⟨3, ![1, 64, 512]⟩
abbrev S64x512 : Shape := ⟨2, ![64, 512]⟩
abbrev S64x128 : Shape := ⟨2, ![64, 128]⟩
abbrev S1x64 : Shape := ⟨2, ![1, 64]⟩
abbrev S64 : Shape := ⟨1, ![64]⟩
abbrev S40960x128 : Shape := ⟨2, ![40960, 128]⟩

abbrev nBuf : Table → Nat
  | .hbm => 3
  | .local .scVector .vmem => 2
  | _ => 0

abbrev bufTy : (tb : Table) → Fin (nBuf tb) → BufTy
  | .hbm, ⟨0, _⟩ => ⟨S40960x512, .f32⟩
  | .hbm, ⟨1, _⟩ => ⟨S512x128, .i32⟩
  | .hbm, ⟨2, _⟩ => ⟨S32768x512, .f32⟩
  | .local .scVector .vmem, ⟨0, _⟩ => ⟨S2x1x128, .i32⟩
  | .local .scVector .vmem, ⟨1, _⟩ => ⟨S2x64x512, .f32⟩
  | _, _ => ⟨S40960x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_26_r0 : BitVec 32 := 0#32
  let c2_i32_27_r0 : BitVec 32 := 2#32
  let v34_r0 : BitVec 32 := Scalar.remui c0_i32_26_r0 c2_i32_27_r0
  let c0_i32_30_r0 : BitVec 32 := 0#32
  let c0_i32_31_r0 : BitVec 32 := 0#32
  ![v34_r0.toNat, 0, 0]
def k0_off2 (i : grid0.Coords) : Fin 2 → Nat :=
  let c1_i32_29_r0 : BitVec 32 := 1#32
  let c0_i32_28_r0 : BitVec 32 := 0#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v35_r0 : BitVec 32 := Scalar.addi c0_i32_28_r0 v7_r0
  let v36_r0 : BitVec 32 := Scalar.muli c1_i32_29_r0 v35_r0
  let c0_i32_32_r0 : BitVec 32 := 0#32
  ![v36_r0.toNat, 0]
def k0_off3 : Fin 1 → Nat :=
  let c0_i32_26_r0 : BitVec 32 := 0#32
  let c2_i32_27_r0 : BitVec 32 := 2#32
  let v34_r0 : BitVec 32 := Scalar.remui c0_i32_26_r0 c2_i32_27_r0
  ![v34_r0.toNat]
@[reducible] def k0_t1_loop : Scf.Loop 32 :=
  let c0_i32_43_r0 : BitVec 32 := 0#32
  let c16_i32_44_r0 : BitVec 32 := 16#32
  let v46_r0 : BitVec 32 := Scalar.addi c0_i32_43_r0 c16_i32_44_r0
  let c1_i32_45_r0 : BitVec 32 := 1#32
  ⟨c0_i32_43_r0, v46_r0, c1_i32_45_r0⟩
def k0_off4 (arg6_r0 : BitVec 32) : Fin 3 → Nat :=
  let c2_i32_155_r0 : BitVec 32 := 2#32
  let v212_r0 : BitVec 32 := Scalar.remui arg6_r0 c2_i32_155_r0
  let c0_i32_158_r0 : BitVec 32 := 0#32
  let c0_i32_159_r0 : BitVec 32 := 0#32
  ![v212_r0.toNat, 0, 0]
def k0_cond1 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c256_i32_112_r0 : BitVec 32 := 256#32
  let v134_r0 : BitVec 32 := Scalar.muli v102_r0 c256_i32_112_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v103_r0 : BitVec 32 := Scalar.addi arg11_r0 v4
  let v135_r0 : BitVec 32 := Scalar.addi v134_r0 v103_r0
  let true_97_r0 : BitVec 1 := 1#1
  let c1_i32_96_r0 : BitVec 32 := 1#32
  let v114_r0 : BitVec 32 := Scalar.addi arg11_r0 c1_i32_96_r0
  let v115_r0 : BitVec 32 := Scalar.select true_97_r0 v114_r0 arg11_r0
  let c8_i32_98_r0 : BitVec 32 := 8#32
  let v116_r0 : BitVec 1 := Scalar.cmpi .eq v115_r0 c8_i32_98_r0
  let c1_i32_100_r0 : BitVec 32 := 1#32
  let v118_r0 : BitVec 32 := Scalar.addi arg10_r0 c1_i32_100_r0
  let v119_r0 : BitVec 32 := Scalar.select v116_r0 v118_r0 arg10_r0
  let c2_i32_101_r0 : BitVec 32 := 2#32
  let v120_r0 : BitVec 1 := Scalar.cmpi .eq v119_r0 c2_i32_101_r0
  let c0_i32_102_r0 : BitVec 32 := 0#32
  let v121_r0 : BitVec 32 := Scalar.select v120_r0 c0_i32_102_r0 v119_r0
  let c0_i32_103_r0 : BitVec 32 := 0#32
  let v122_r0 : BitVec 32 := Scalar.addi v121_r0 c0_i32_103_r0
  let c256_i32_113_r0 : BitVec 32 := 256#32
  let v136_r0 : BitVec 32 := Scalar.muli v122_r0 c256_i32_113_r0
  let c0_i32_99_r0 : BitVec 32 := 0#32
  let v117_r0 : BitVec 32 := Scalar.select v116_r0 c0_i32_99_r0 v115_r0
  let v123_r0 : BitVec 32 := Scalar.addi v117_r0 v4
  let v137_r0 : BitVec 32 := Scalar.addi v136_r0 v123_r0
  let v138_r0 : BitVec 1 := Scalar.cmpi .ne v135_r0 v137_r0
  let c0_i32_43_r0 : BitVec 32 := 0#32
  let c1_i32_45_r0 : BitVec 32 := 1#32
  let arg5_r0 : BitVec 32 := Scf.iv c0_i32_43_r0 c1_i32_45_r0 k0_t1
  let c15_i32_114_r0 : BitVec 32 := 15#32
  let v139_r0 : BitVec 1 := Scalar.cmpi .sge arg5_r0 c15_i32_114_r0
  let true_115_r0 : BitVec 1 := 1#1
  let v140_r0 : BitVec 1 := Scalar.xori v139_r0 true_115_r0
  let v141_r0 : BitVec 1 := Scalar.andi v138_r0 v140_r0
  let true_116_r0 : BitVec 1 := 1#1
  let v142_r0 : BitVec 1 := Scalar.andi v141_r0 true_116_r0
  let v143_r0 : BitVec 32 := Scalar.extui v142_r0
  let c0_i32_117_r0 : BitVec 32 := 0#32
  let v144_r0 : BitVec 1 := Scalar.cmpi .ne v143_r0 c0_i32_117_r0
  v144_r0

def k0_off5 (i : grid0.Coords) (arg10_r0 : BitVec 32) (arg11_r0 : BitVec 32) : Fin 2 → Nat :=
  let c1_i32_157_r0 : BitVec 32 := 1#32
  let true_97_r0 : BitVec 1 := 1#1
  let c1_i32_96_r0 : BitVec 32 := 1#32
  let v114_r0 : BitVec 32 := Scalar.addi arg11_r0 c1_i32_96_r0
  let v115_r0 : BitVec 32 := Scalar.select true_97_r0 v114_r0 arg11_r0
  let c8_i32_98_r0 : BitVec 32 := 8#32
  let v116_r0 : BitVec 1 := Scalar.cmpi .eq v115_r0 c8_i32_98_r0
  let c1_i32_100_r0 : BitVec 32 := 1#32
  let v118_r0 : BitVec 32 := Scalar.addi arg10_r0 c1_i32_100_r0
  let v119_r0 : BitVec 32 := Scalar.select v116_r0 v118_r0 arg10_r0
  let c2_i32_101_r0 : BitVec 32 := 2#32
  let v120_r0 : BitVec 1 := Scalar.cmpi .eq v119_r0 c2_i32_101_r0
  let c0_i32_102_r0 : BitVec 32 := 0#32
  let v121_r0 : BitVec 32 := Scalar.select v120_r0 c0_i32_102_r0 v119_r0
  let c0_i32_103_r0 : BitVec 32 := 0#32
  let v122_r0 : BitVec 32 := Scalar.addi v121_r0 c0_i32_103_r0
  let c256_i32_156_r0 : BitVec 32 := 256#32
  let v213_r0 : BitVec 32 := Scalar.muli v122_r0 c256_i32_156_r0
  let c0_i32_99_r0 : BitVec 32 := 0#32
  let v117_r0 : BitVec 32 := Scalar.select v116_r0 c0_i32_99_r0 v115_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v123_r0 : BitVec 32 := Scalar.addi v117_r0 v4
  let v214_r0 : BitVec 32 := Scalar.addi v213_r0 v123_r0
  let v215_r0 : BitVec 32 := Scalar.muli c1_i32_157_r0 v214_r0
  let c0_i32_160_r0 : BitVec 32 := 0#32
  ![v215_r0.toNat, 0]
def k0_off6 (arg6_r0 : BitVec 32) : Fin 1 → Nat :=
  let c2_i32_155_r0 : BitVec 32 := 2#32
  let v212_r0 : BitVec 32 := Scalar.remui arg6_r0 c2_i32_155_r0
  ![v212_r0.toNat]
def k0_off7 (arg7_r0 : BitVec 32) : Fin 3 → Nat :=
  let c2_i32_157_r0 : BitVec 32 := 2#32
  let v215_r0 : BitVec 32 := Scalar.remui arg7_r0 c2_i32_157_r0
  let c0_i32_158_r0 : BitVec 32 := 0#32
  let c0_i32_159_r0 : BitVec 32 := 0#32
  ![v215_r0.toNat, 0, 0]
def k0_cond2 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c256_i32_112_r0 : BitVec 32 := 256#32
  let v134_r0 : BitVec 32 := Scalar.muli v102_r0 c256_i32_112_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v103_r0 : BitVec 32 := Scalar.addi arg11_r0 v4
  let v135_r0 : BitVec 32 := Scalar.addi v134_r0 v103_r0
  let true_89_r0 : BitVec 1 := 1#1
  let c1_i32_88_r0 : BitVec 32 := 1#32
  let v104_r0 : BitVec 32 := Scalar.subi arg11_r0 c1_i32_88_r0
  let v105_r0 : BitVec 32 := Scalar.select true_89_r0 v104_r0 arg11_r0
  let c_m1_i32_90_r0 : BitVec 32 := 4294967295#32
  let v106_r0 : BitVec 1 := Scalar.cmpi .eq v105_r0 c_m1_i32_90_r0
  let c1_i32_92_r0 : BitVec 32 := 1#32
  let v108_r0 : BitVec 32 := Scalar.subi arg10_r0 c1_i32_92_r0
  let v109_r0 : BitVec 32 := Scalar.select v106_r0 v108_r0 arg10_r0
  let c_m1_i32_93_r0 : BitVec 32 := 4294967295#32
  let v110_r0 : BitVec 1 := Scalar.cmpi .eq v109_r0 c_m1_i32_93_r0
  let c1_i32_94_r0 : BitVec 32 := 1#32
  let v111_r0 : BitVec 32 := Scalar.select v110_r0 c1_i32_94_r0 v109_r0
  let c0_i32_95_r0 : BitVec 32 := 0#32
  let v112_r0 : BitVec 32 := Scalar.addi v111_r0 c0_i32_95_r0
  let c256_i32_124_r0 : BitVec 32 := 256#32
  let v156_r0 : BitVec 32 := Scalar.muli v112_r0 c256_i32_124_r0
  let c7_i32_91_r0 : BitVec 32 := 7#32
  let v107_r0 : BitVec 32 := Scalar.select v106_r0 c7_i32_91_r0 v105_r0
  let v113_r0 : BitVec 32 := Scalar.addi v107_r0 v4
  let v157_r0 : BitVec 32 := Scalar.addi v156_r0 v113_r0
  let v158_r0 : BitVec 1 := Scalar.cmpi .ne v135_r0 v157_r0
  let c0_i32_43_r0 : BitVec 32 := 0#32
  let c1_i32_45_r0 : BitVec 32 := 1#32
  let arg5_r0 : BitVec 32 := Scf.iv c0_i32_43_r0 c1_i32_45_r0 k0_t1
  let c0_i32_86_r0 : BitVec 32 := 0#32
  let v100_r0 : BitVec 1 := Scalar.cmpi .eq arg5_r0 c0_i32_86_r0
  let v159_r0 : BitVec 1 := Scalar.ori v158_r0 v100_r0
  let c0_i32_125_r0 : BitVec 32 := 0#32
  let v160_r0 : BitVec 1 := Scalar.cmpi .sge arg5_r0 c0_i32_125_r0
  let v161_r0 : BitVec 1 := Scalar.andi v159_r0 v160_r0
  let v162_r0 : BitVec 32 := Scalar.extui v161_r0
  let c0_i32_126_r0 : BitVec 32 := 0#32
  let v163_r0 : BitVec 1 := Scalar.cmpi .ne v162_r0 c0_i32_126_r0
  v163_r0

def k0_off8 (i : grid0.Coords) (arg10_r0 : BitVec 32) (arg11_r0 : BitVec 32) : Fin 2 → Nat :=
  let c1_i32_156_r0 : BitVec 32 := 1#32
  let c0_i32_87_r0 : BitVec 32 := 0#32
  let v102_r0 : BitVec 32 := Scalar.addi arg10_r0 c0_i32_87_r0
  let c256_i32_155_r0 : BitVec 32 := 256#32
  let v212_r0 : BitVec 32 := Scalar.muli v102_r0 c256_i32_155_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v103_r0 : BitVec 32 := Scalar.addi arg11_r0 v4
  let v213_r0 : BitVec 32 := Scalar.addi v212_r0 v103_r0
  let v214_r0 : BitVec 32 := Scalar.muli c1_i32_156_r0 v213_r0
  let c0_i32_160_r0 : BitVec 32 := 0#32
  ![v214_r0.toNat, 0]
def k0_off9 (arg7_r0 : BitVec 32) : Fin 1 → Nat :=
  let c2_i32_157_r0 : BitVec 32 := 2#32
  let v215_r0 : BitVec 32 := Scalar.remui arg7_r0 c2_i32_157_r0
  ![v215_r0.toNat]
def k0_off10 (arg8_r0 : BitVec 32) : Fin 3 → Nat :=
  let c2_i32_131_r0 : BitVec 32 := 2#32
  let v173_r0 : BitVec 32 := Scalar.remui arg8_r0 c2_i32_131_r0
  let c0_i32_155_r1 : BitVec 32 := 0#32
  let c0_i32_156_r1 : BitVec 32 := 0#32
  ![v173_r0.toNat, 0, 0]

def k0_chk2 (arg8_r0 : BitVec 32) : Prop :=
  (∀ a, (k0_off10 arg8_r0) a + S1x64x512.size a ≤ S2x64x512.size a)
theorem k0_off10_inb : ∀ (arg8_r0 : BitVec 32) (k0_hw2 : k0_chk2 arg8_r0), ∀ a, (k0_off10 arg8_r0) a + S1x64x512.size a ≤ S2x64x512.size a := fun arg8_r0 k0_hw2 => k0_hw2

def k0_off11 (arg7_r0 : BitVec 32) : Fin 3 → Nat :=
  let c2_i32_130_r0 : BitVec 32 := 2#32
  let v172_r0 : BitVec 32 := Scalar.remui arg7_r0 c2_i32_130_r0
  let c0_i32_159_r1 : BitVec 32 := 0#32
  let c0_i32_160_r1 : BitVec 32 := 0#32
  ![v172_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_155_r0 : BitVec 32 := 2#32
  let v212_r0 : BitVec 32 := Scalar.remui arg8_r0 c2_i32_155_r0
  let c0_i32_158_r0 : BitVec 32 := 0#32
  let c0_i32_159_r0 : BitVec 32 := 0#32
  ![v212_r0.toNat, 0, 0]
def k0_cond5 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c256_i32_120_r0 : BitVec 32 := 256#32
  let v148_r0 : BitVec 32 := Scalar.muli v102_r0 c256_i32_120_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v103_r0 : BitVec 32 := Scalar.addi arg11_r0 v4
  let v149_r0 : BitVec 32 := Scalar.addi v148_r0 v103_r0
  let true_97_r0 : BitVec 1 := 1#1
  let c1_i32_96_r0 : BitVec 32 := 1#32
  let v114_r0 : BitVec 32 := Scalar.addi arg11_r0 c1_i32_96_r0
  let v115_r0 : BitVec 32 := Scalar.select true_97_r0 v114_r0 arg11_r0
  let c8_i32_98_r0 : BitVec 32 := 8#32
  let v116_r0 : BitVec 1 := Scalar.cmpi .eq v115_r0 c8_i32_98_r0
  let c1_i32_100_r0 : BitVec 32 := 1#32
  let v118_r0 : BitVec 32 := Scalar.addi arg10_r0 c1_i32_100_r0
  let v119_r0 : BitVec 32 := Scalar.select v116_r0 v118_r0 arg10_r0
  let c2_i32_101_r0 : BitVec 32 := 2#32
  let v120_r0 : BitVec 1 := Scalar.cmpi .eq v119_r0 c2_i32_101_r0
  let c0_i32_102_r0 : BitVec 32 := 0#32
  let v121_r0 : BitVec 32 := Scalar.select v120_r0 c0_i32_102_r0 v119_r0
  let c0_i32_103_r0 : BitVec 32 := 0#32
  let v122_r0 : BitVec 32 := Scalar.addi v121_r0 c0_i32_103_r0
  let c256_i32_121_r0 : BitVec 32 := 256#32
  let v150_r0 : BitVec 32 := Scalar.muli v122_r0 c256_i32_121_r0
  let c0_i32_99_r0 : BitVec 32 := 0#32
  let v117_r0 : BitVec 32 := Scalar.select v116_r0 c0_i32_99_r0 v115_r0
  let v123_r0 : BitVec 32 := Scalar.addi v117_r0 v4
  let v151_r0 : BitVec 32 := Scalar.addi v150_r0 v123_r0
  let v179_r0 : BitVec 1 := Scalar.cmpi .ne v149_r0 v151_r0
  let c0_i32_43_r0 : BitVec 32 := 0#32
  let c1_i32_45_r0 : BitVec 32 := 1#32
  let arg5_r0 : BitVec 32 := Scf.iv c0_i32_43_r0 c1_i32_45_r0 k0_t1
  let c15_i32_r0 : BitVec 32 := 15#32
  let v101_r0 : BitVec 1 := Scalar.cmpi .eq arg5_r0 c15_i32_r0
  let v180_r0 : BitVec 1 := Scalar.ori v179_r0 v101_r0
  let v181_r0 : BitVec 32 := Scalar.extui v180_r0
  let c0_i32_137_r0 : BitVec 32 := 0#32
  let v182_r0 : BitVec 1 := Scalar.cmpi .ne v181_r0 c0_i32_137_r0
  v182_r0

def k0_off13 (i : grid0.Coords) (arg10_r0 : BitVec 32) (arg11_r0 : BitVec 32) : Fin 2 → Nat :=
  let c64_i32_157_r0 : BitVec 32 := 64#32
  let c0_i32_87_r0 : BitVec 32 := 0#32
  let v102_r0 : BitVec 32 := Scalar.addi arg10_r0 c0_i32_87_r0
  let c256_i32_156_r0 : BitVec 32 := 256#32
  let v213_r0 : BitVec 32 := Scalar.muli v102_r0 c256_i32_156_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v103_r0 : BitVec 32 := Scalar.addi arg11_r0 v4
  let v214_r0 : BitVec 32 := Scalar.addi v213_r0 v103_r0
  let v215_r0 : BitVec 32 := Scalar.muli c64_i32_157_r0 v214_r0
  let c0_i32_160_r0 : BitVec 32 := 0#32
  ![v215_r0.toNat, 0]
def k0_off14 (arg8_r0 : BitVec 32) : Fin 1 → Nat :=
  let c2_i32_155_r0 : BitVec 32 := 2#32
  let v212_r0 : BitVec 32 := Scalar.remui arg8_r0 c2_i32_155_r0
  ![v212_r0.toNat]
def k0_off15 (arg9_r0 : BitVec 32) : Fin 3 → Nat :=
  let c2_i32_155_r0 : BitVec 32 := 2#32
  let v212_r0 : BitVec 32 := Scalar.remui arg9_r0 c2_i32_155_r0
  let c0_i32_158_r0 : BitVec 32 := 0#32
  let c0_i32_159_r0 : BitVec 32 := 0#32
  ![v212_r0.toNat, 0, 0]
def k0_cond7 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c256_i32_120_r0 : BitVec 32 := 256#32
  let v148_r0 : BitVec 32 := Scalar.muli v102_r0 c256_i32_120_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v103_r0 : BitVec 32 := Scalar.addi arg11_r0 v4
  let v149_r0 : BitVec 32 := Scalar.addi v148_r0 v103_r0
  let true_89_r0 : BitVec 1 := 1#1
  let c1_i32_88_r0 : BitVec 32 := 1#32
  let v104_r0 : BitVec 32 := Scalar.subi arg11_r0 c1_i32_88_r0
  let v105_r0 : BitVec 32 := Scalar.select true_89_r0 v104_r0 arg11_r0
  let c_m1_i32_90_r0 : BitVec 32 := 4294967295#32
  let v106_r0 : BitVec 1 := Scalar.cmpi .eq v105_r0 c_m1_i32_90_r0
  let c1_i32_92_r0 : BitVec 32 := 1#32
  let v108_r0 : BitVec 32 := Scalar.subi arg10_r0 c1_i32_92_r0
  let v109_r0 : BitVec 32 := Scalar.select v106_r0 v108_r0 arg10_r0
  let c_m1_i32_93_r0 : BitVec 32 := 4294967295#32
  let v110_r0 : BitVec 1 := Scalar.cmpi .eq v109_r0 c_m1_i32_93_r0
  let c1_i32_94_r0 : BitVec 32 := 1#32
  let v111_r0 : BitVec 32 := Scalar.select v110_r0 c1_i32_94_r0 v109_r0
  let c0_i32_95_r0 : BitVec 32 := 0#32
  let v112_r0 : BitVec 32 := Scalar.addi v111_r0 c0_i32_95_r0
  let c256_i32_127_r0 : BitVec 32 := 256#32
  let v164_r0 : BitVec 32 := Scalar.muli v112_r0 c256_i32_127_r0
  let c7_i32_91_r0 : BitVec 32 := 7#32
  let v107_r0 : BitVec 32 := Scalar.select v106_r0 c7_i32_91_r0 v105_r0
  let v113_r0 : BitVec 32 := Scalar.addi v107_r0 v4
  let v165_r0 : BitVec 32 := Scalar.addi v164_r0 v113_r0
  let v192_r0 : BitVec 1 := Scalar.cmpi .ne v149_r0 v165_r0
  let c0_i32_43_r0 : BitVec 32 := 0#32
  let c1_i32_45_r0 : BitVec 32 := 1#32
  let arg5_r0 : BitVec 32 := Scf.iv c0_i32_43_r0 c1_i32_45_r0 k0_t1
  let c0_i32_86_r0 : BitVec 32 := 0#32
  let v100_r0 : BitVec 1 := Scalar.cmpi .eq arg5_r0 c0_i32_86_r0
  let true_143_r0 : BitVec 1 := 1#1
  let v193_r0 : BitVec 1 := Scalar.xori v100_r0 true_143_r0
  let v194_r0 : BitVec 1 := Scalar.andi v192_r0 v193_r0
  let v195_r0 : BitVec 32 := Scalar.extui v194_r0
  let c0_i32_144_r0 : BitVec 32 := 0#32
  let v196_r0 : BitVec 1 := Scalar.cmpi .ne v195_r0 c0_i32_144_r0
  v196_r0

def k0_off16 (i : grid0.Coords) (arg10_r0 : BitVec 32) (arg11_r0 : BitVec 32) : Fin 2 → Nat :=
  let c64_i32_157_r0 : BitVec 32 := 64#32
  let true_89_r0 : BitVec 1 := 1#1
  let c1_i32_88_r0 : BitVec 32 := 1#32
  let v104_r0 : BitVec 32 := Scalar.subi arg11_r0 c1_i32_88_r0
  let v105_r0 : BitVec 32 := Scalar.select true_89_r0 v104_r0 arg11_r0
  let c_m1_i32_90_r0 : BitVec 32 := 4294967295#32
  let v106_r0 : BitVec 1 := Scalar.cmpi .eq v105_r0 c_m1_i32_90_r0
  let c1_i32_92_r0 : BitVec 32 := 1#32
  let v108_r0 : BitVec 32 := Scalar.subi arg10_r0 c1_i32_92_r0
  let v109_r0 : BitVec 32 := Scalar.select v106_r0 v108_r0 arg10_r0
  let c_m1_i32_93_r0 : BitVec 32 := 4294967295#32
  let v110_r0 : BitVec 1 := Scalar.cmpi .eq v109_r0 c_m1_i32_93_r0
  let c1_i32_94_r0 : BitVec 32 := 1#32
  let v111_r0 : BitVec 32 := Scalar.select v110_r0 c1_i32_94_r0 v109_r0
  let c0_i32_95_r0 : BitVec 32 := 0#32
  let v112_r0 : BitVec 32 := Scalar.addi v111_r0 c0_i32_95_r0
  let c256_i32_156_r0 : BitVec 32 := 256#32
  let v213_r0 : BitVec 32 := Scalar.muli v112_r0 c256_i32_156_r0
  let c7_i32_91_r0 : BitVec 32 := 7#32
  let v107_r0 : BitVec 32 := Scalar.select v106_r0 c7_i32_91_r0 v105_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v113_r0 : BitVec 32 := Scalar.addi v107_r0 v4
  let v214_r0 : BitVec 32 := Scalar.addi v213_r0 v113_r0
  let v215_r0 : BitVec 32 := Scalar.muli c64_i32_157_r0 v214_r0
  let c0_i32_160_r0 : BitVec 32 := 0#32
  ![v215_r0.toNat, 0]
def k0_off17 (arg9_r0 : BitVec 32) : Fin 1 → Nat :=
  let c2_i32_155_r0 : BitVec 32 := 2#32
  let v212_r0 : BitVec 32 := Scalar.remui arg9_r0 c2_i32_155_r0
  ![v212_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) : Prop :=
  (∀ (k0_h1 : k0_cond1 i k0_t1 arg10_r0 arg11_r0 = 1#1), ∀ a, (k0_off4 arg6_r0) a + S1x1x128.size a ≤ S2x1x128.size a) ∧
  (∀ (k0_h1 : k0_cond1 i k0_t1 arg10_r0 arg11_r0 = 1#1), ∀ a, (k0_off5 i arg10_r0 arg11_r0) a + S1x128.size a ≤ S512x128.size a) ∧
  (∀ (k0_h1 : k0_cond1 i k0_t1 arg10_r0 arg11_r0 = 1#1), ∀ a, (k0_off6 arg6_r0) a + S1.size a ≤ S2.size a) ∧
  (∀ (k0_h2 : k0_cond2 i k0_t1 arg10_r0 arg11_r0 = 1#1), ∀ a, (k0_off7 arg7_r0) a + S1x1x128.size a ≤ S2x1x128.size a) ∧
  (∀ (k0_h2 : k0_cond2 i k0_t1 arg10_r0 arg11_r0 = 1#1), ∀ a, (k0_off8 i arg10_r0 arg11_r0) a + S1x128.size a ≤ S512x128.size a) ∧
  (∀ (k0_h2 : k0_cond2 i k0_t1 arg10_r0 arg11_r0 = 1#1), ∀ a, (k0_off9 arg7_r0) a + S1.size a ≤ S2.size a) ∧
  (∀ (k0_h5 : k0_cond5 i k0_t1 arg10_r0 arg11_r0 = 1#1), ∀ a, (k0_off12 arg8_r0) a + S1x64x512.size a ≤ S2x64x512.size a) ∧
  (∀ (k0_h5 : k0_cond5 i k0_t1 arg10_r0 arg11_r0 = 1#1), ∀ a, (k0_off13 i arg10_r0 arg11_r0) a + S64x512.size a ≤ S32768x512.size a) ∧
  (∀ (k0_h5 : k0_cond5 i k0_t1 arg10_r0 arg11_r0 = 1#1), ∀ a, (k0_off14 arg8_r0) a + S1.size a ≤ S2.size a) ∧
  (∀ (k0_h7 : k0_cond7 i k0_t1 arg10_r0 arg11_r0 = 1#1), ∀ a, (k0_off15 arg9_r0) a + S1x64x512.size a ≤ S2x64x512.size a) ∧
  (∀ (k0_h7 : k0_cond7 i k0_t1 arg10_r0 arg11_r0 = 1#1), ∀ a, (k0_off16 i arg10_r0 arg11_r0) a + S64x512.size a ≤ S32768x512.size a) ∧
  (∀ (k0_h7 : k0_cond7 i k0_t1 arg10_r0 arg11_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off4 arg6_r0) a + S1x1x128.size a ≤ S2x1x128.size a := fun i k0_t1 arg6_r0 arg7_r0 arg8_r0 arg9_r0 arg10_r0 arg11_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off5 i arg10_r0 arg11_r0) a + S1x128.size a ≤ S512x128.size a := fun i k0_t1 arg6_r0 arg7_r0 arg8_r0 arg9_r0 arg10_r0 arg11_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off6 arg6_r0) a + S1.size a ≤ S2.size a := fun i k0_t1 arg6_r0 arg7_r0 arg8_r0 arg9_r0 arg10_r0 arg11_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off7 arg7_r0) a + S1x1x128.size a ≤ S2x1x128.size a := fun i k0_t1 arg6_r0 arg7_r0 arg8_r0 arg9_r0 arg10_r0 arg11_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off8 i arg10_r0 arg11_r0) a + S1x128.size a ≤ S512x128.size a := fun i k0_t1 arg6_r0 arg7_r0 arg8_r0 arg9_r0 arg10_r0 arg11_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off9 arg7_r0) a + S1.size a ≤ S2.size a := fun i k0_t1 arg6_r0 arg7_r0 arg8_r0 arg9_r0 arg10_r0 arg11_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off12 arg8_r0) a + S1x64x512.size a ≤ S2x64x512.size a := fun i k0_t1 arg6_r0 arg7_r0 arg8_r0 arg9_r0 arg10_r0 arg11_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off13 i arg10_r0 arg11_r0) a + S64x512.size a ≤ S32768x512.size a := fun i k0_t1 arg6_r0 arg7_r0 arg8_r0 arg9_r0 arg10_r0 arg11_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off14 arg8_r0) a + S1.size a ≤ S2.size a := fun i k0_t1 arg6_r0 arg7_r0 arg8_r0 arg9_r0 arg10_r0 arg11_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off15 arg9_r0) a + S1x64x512.size a ≤ S2x64x512.size a := fun i k0_t1 arg6_r0 arg7_r0 arg8_r0 arg9_r0 arg10_r0 arg11_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off16 i arg10_r0 arg11_r0) a + S64x512.size a ≤ S32768x512.size a := fun i k0_t1 arg6_r0 arg7_r0 arg8_r0 arg9_r0 arg10_r0 arg11_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off17 arg9_r0) a + S1.size a ≤ S2.size a := fun i k0_t1 arg6_r0 arg7_r0 arg8_r0 arg9_r0 arg10_r0 arg11_r0 k0_hw1 k0_h7 => k0_hw1.2.2.2.2.2.2.2.2.2.2.2 k0_h7

def k0_off18 (v47_3_r0 : BitVec 32) : Fin 3 → Nat :=
  let c2_i32_79_r0 : BitVec 32 := 2#32
  let v88_r0 : BitVec 32 := Scalar.remui v47_3_r0 c2_i32_79_r0
  let c0_i32_80_r0 : BitVec 32 := 0#32
  let c0_i32_81_r0 : BitVec 32 := 0#32
  ![v88_r0.toNat, 0, 0]

def k0_off19 (i : grid0.Coords) (v47_5_r0 : BitVec 32) (v47_4_r0 : BitVec 32) : Fin 2 → Nat :=
  let c64_i32_r0 : BitVec 32 := 64#32
  let true_48_r0 : BitVec 1 := 1#1
  let c1_i32_47_r0 : BitVec 32 := 1#32
  let v48_r0 : BitVec 32 := Scalar.subi v47_5_r0 c1_i32_47_r0
  let v49_r0 : BitVec 32 := Scalar.select true_48_r0 v48_r0 v47_5_r0
  let c_m1_i32_49_r0 : BitVec 32 := 4294967295#32
  let v50_r0 : BitVec 1 := Scalar.cmpi .eq v49_r0 c_m1_i32_49_r0
  let c1_i32_51_r0 : BitVec 32 := 1#32
  let v52_r0 : BitVec 32 := Scalar.subi v47_4_r0 c1_i32_51_r0
  let v53_r0 : BitVec 32 := Scalar.select v50_r0 v52_r0 v47_4_r0
  let c_m1_i32_52_r0 : BitVec 32 := 4294967295#32
  let v54_r0 : BitVec 1 := Scalar.cmpi .eq v53_r0 c_m1_i32_52_r0
  let c1_i32_53_r0 : BitVec 32 := 1#32
  let v55_r0 : BitVec 32 := Scalar.select v54_r0 c1_i32_53_r0 v53_r0
  let c0_i32_54_r0 : BitVec 32 := 0#32
  let v56_r0 : BitVec 32 := Scalar.addi v55_r0 c0_i32_54_r0
  let c256_i32_r0 : BitVec 32 := 256#32
  let v89_r0 : BitVec 32 := Scalar.muli v56_r0 c256_i32_r0
  let c7_i32_50_r0 : BitVec 32 := 7#32
  let v51_r0 : BitVec 32 := Scalar.select v50_r0 c7_i32_50_r0 v49_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v57_r0 : BitVec 32 := Scalar.addi v51_r0 v4
  let v90_r0 : BitVec 32 := Scalar.addi v89_r0 v57_r0
  let v91_r0 : BitVec 32 := Scalar.muli c64_i32_r0 v90_r0
  let c0_i32_82_r0 : BitVec 32 := 0#32
  ![v91_r0.toNat, 0]

def k0_chk5 (i : grid0.Coords) (v47_5_r0 : BitVec 32) (v47_4_r0 : BitVec 32) : Prop :=
  (∀ a, (k0_off19 i v47_5_r0 v47_4_r0) a + S64x512.size a ≤ S32768x512.size a)
theorem k0_off19_inb : ∀ (i : grid0.Coords) (v47_5_r0 : BitVec 32) (v47_4_r0 : BitVec 32) (k0_hw5 : k0_chk5 i v47_5_r0 v47_4_r0), ∀ a, (k0_off19 i v47_5_r0 v47_4_r0) a + S64x512.size a ≤ S32768x512.size a := fun i v47_5_r0 v47_4_r0 k0_hw5 => k0_hw5

def k0_off20 (v47_3_r0 : BitVec 32) : Fin 1 → Nat :=
  let c2_i32_79_r0 : BitVec 32 := 2#32
  let v88_r0 : BitVec 32 := Scalar.remui v47_3_r0 c2_i32_79_r0
  ![v88_r0.toNat]
def k0_off21 (v47_3_r0 : BitVec 32) : Fin 3 → Nat :=
  let c2_i32_79_r0 : BitVec 32 := 2#32
  let v88_r0 : BitVec 32 := Scalar.remui v47_3_r0 c2_i32_79_r0
  let c0_i32_84_r0 : BitVec 32 := 0#32
  let c0_i32_85_r0 : BitVec 32 := 0#32
  ![v88_r0.toNat, 0, 0]

def k0_chk4 (v47_3_r0 : BitVec 32) : Prop :=
  (∀ a, (k0_off18 v47_3_r0) a + S1x64x512.size a ≤ S2x64x512.size a) ∧
  (∀ a, (k0_off20 v47_3_r0) a + S1.size a ≤ S2.size a) ∧
  (∀ a, (k0_off21 v47_3_r0) a + S1x64x512.size a ≤ S2x64x512.size a)
theorem k0_off18_inb : ∀ (v47_3_r0 : BitVec 32) (k0_hw4 : k0_chk4 v47_3_r0), ∀ a, (k0_off18 v47_3_r0) a + S1x64x512.size a ≤ S2x64x512.size a := fun v47_3_r0 k0_hw4 => k0_hw4.1
theorem k0_off20_inb : ∀ (v47_3_r0 : BitVec 32) (k0_hw4 : k0_chk4 v47_3_r0), ∀ a, (k0_off20 v47_3_r0) a + S1.size a ≤ S2.size a := fun v47_3_r0 k0_hw4 => k0_hw4.2.1
theorem k0_off21_inb : ∀ (v47_3_r0 : BitVec 32) (k0_hw4 : k0_chk4 v47_3_r0), ∀ a, (k0_off21 v47_3_r0) a + S1x64x512.size a ≤ S2x64x512.size a := fun v47_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S40960x512 : Shape := ⟨2, ![40960, 512]⟩
abbrev S512x128 : Shape := ⟨2, ![512, 128]⟩
abbrev S512x64 : Shape := ⟨2, ![512, 64]⟩
abbrev S32768 : Shape := ⟨1, ![32768]⟩
abbrev S_ : Shape := ⟨0, ![]⟩
abbrev S32768x1 : Shape := ⟨2, ![32768, 1]⟩
abbrev S32768x512 : Shape := ⟨2, ![32768, 512]⟩

abbrev nBuf : Space → Nat
  | .hbm => 13
  | .vmem => 0
  | .smem => 0
  | _ => 0

abbrev bufTy : (tb : Table) → Fin (tcTables nBuf tb) → BufTy
  | .hbm, ⟨0, _⟩ => ⟨S40960x512, .f32⟩
  | .hbm, ⟨1, _⟩ => ⟨S512x128, .i32⟩
  | .hbm, ⟨2, _⟩ => ⟨S512x64, .i32⟩
  | .hbm, ⟨3, _⟩ => ⟨S32768, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768x512, .f32⟩
  | _, _ => ⟨S40960x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== InProj.lean ====
abbrev S2x8192x1024 : Shape := ⟨3, ![2, 8192, 1024]⟩
abbrev S2x6x1024 : Shape := ⟨3, ![2, 6, 1024]⟩
abbrev S1024 : Shape := ⟨1, ![1024]⟩
abbrev S1024x5144 : Shape := ⟨2, ![1024, 5144]⟩
abbrev S5144 : Shape := ⟨1, ![5144]⟩
abbrev S16384x1024 : Shape := ⟨2, ![16384, 1024]⟩
abbrev S1024x3096 : Shape := ⟨2, ![1024, 3096]⟩
abbrev S_ : Shape := ⟨0, ![]⟩
abbrev S1024x104 : Shape := ⟨2, ![1024, 104]⟩
abbrev S1024x2048 : Shape := ⟨2, ![1024, 2048]⟩
abbrev S1024x5248 : Shape := ⟨2, ![1024, 5248]⟩
abbrev S3096 : Shape := ⟨1, ![3096]⟩
abbrev S104 : Shape := ⟨1, ![104]⟩
abbrev S2048 : Shape := ⟨1, ![2048]⟩
abbrev S5248 : Shape := ⟨1, ![5248]⟩
abbrev S1x5248 : Shape := ⟨2, ![1, 5248]⟩
abbrev S1x1024 : Shape := ⟨2, ![1, 1024]⟩
abbrev S16384x1792 : Shape := ⟨2, ![16384, 1792]⟩
abbrev S16384x512 : Shape := ⟨2, ![16384, 512]⟩
abbrev S16384x768 : Shape := ⟨2, ![16384, 768]⟩
abbrev S16384x128 : Shape := ⟨2, ![16384, 128]⟩
abbrev S16384x2048 : Shape := ⟨2, ![16384, 2048]⟩
abbrev S512x1024 : Shape := ⟨2, ![512, 1024]⟩
abbrev S512x1792 : Shape := ⟨2, ![512, 1792]⟩
abbrev S512x512 : Shape := ⟨2, ![512, 512]⟩
abbrev S512x768 : Shape := ⟨2, ![512, 768]⟩
abbrev S512x128 : Shape := ⟨2, ![512, 128]⟩
abbrev S512x2048 : Shape := ⟨2, ![512, 2048]⟩
abbrev S1x6x1024 : Shape := ⟨3, ![1, 6, 1024]⟩
abbrev S6x1024 : Shape := ⟨2, ![6, 1024]⟩
abbrev S512 : Shape := ⟨1, ![512]⟩
abbrev S512x1 : Shape := ⟨2, ![512, 1]⟩
abbrev S1024x1792 : Shape := ⟨2, ![1024, 1792]⟩
abbrev S1x1792 : Shape := ⟨2, ![1, 1792]⟩
abbrev S1024x512 : Shape := ⟨2, ![1024, 512]⟩
abbrev S1x512 : Shape := ⟨2, ![1, 512]⟩
abbrev S1024x768 : Shape := ⟨2, ![1024, 768]⟩
abbrev S1x768 : Shape := ⟨2, ![1, 768]⟩
abbrev S1024x128 : Shape := ⟨2, ![1024, 128]⟩
abbrev S1x128 : Shape := ⟨2, ![1, 128]⟩
abbrev S1x2048 : Shape := ⟨2, ![1, 2048]⟩

abbrev nBuf : Space → Nat
  | .hbm => 24
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S1024x5144, .f32⟩
  | .hbm, ⟨4, _⟩ => ⟨S5144, .f32⟩
  | .hbm, ⟨5, _⟩ => ⟨S16384x1024, .f32⟩
  | .hbm, ⟨6, _⟩ => ⟨S1024x5144, .bf16⟩
  | .hbm, ⟨7, _⟩ => ⟨S1024x3096, .bf16⟩
  | .hbm, ⟨8, _⟩ => ⟨S_, .bf16⟩
  | .hbm, ⟨9, _⟩ => ⟨S1024x104, .bf16⟩
  | .hbm, ⟨10, _⟩ => ⟨S1024x2048, .bf16⟩
  | .hbm, ⟨11, _⟩ => ⟨S1024x5248, .bf16⟩
  | .hbm, ⟨12, _⟩ => ⟨S3096, .f32⟩
  | .hbm, ⟨13, _⟩ => ⟨S_, .f32⟩
  | .hbm, ⟨14, _⟩ => ⟨S104, .f32⟩
  | .hbm, ⟨15, _⟩ => ⟨S2048, .f32⟩
  | .hbm, ⟨16, _⟩ => ⟨S5248, .f32⟩
  | .hbm, ⟨17, _⟩ => ⟨S1x5248, .f32⟩
  | .hbm, ⟨18, _⟩ => ⟨S1x1024, .f32⟩
  | .hbm, ⟨19, _⟩ => ⟨S16384x1792, .f32⟩
  | .hbm, ⟨20, _⟩ => ⟨S16384x512, .f32⟩
  | .hbm, ⟨21, _⟩ => ⟨S16384x768, .f32⟩
  | .hbm, ⟨22, _⟩ => ⟨S16384x128, .f32⟩
  | .hbm, ⟨23, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S2x6x1024, .f32⟩
  | .local _ .vmem, ⟨3, _⟩ => ⟨S1x1024, .f32⟩
  | .local _ .vmem, ⟨4, _⟩ => ⟨S1024x5248, .bf16⟩
  | .local _ .vmem, ⟨5, _⟩ => ⟨S1x5248, .f32⟩
  | .local _ .vmem, ⟨6, _⟩ => ⟨S512x1792, .f32⟩
  | .local _ .vmem, ⟨7, _⟩ => ⟨S512x1792, .f32⟩
  | .local _ .vmem, ⟨8, _⟩ => ⟨S512x512, .f32⟩
  | .local _ .vmem, ⟨9, _⟩ => ⟨S512x512, .f32⟩
  | .local _ .vmem, ⟨10, _⟩ => ⟨S512x768, .f32⟩
  | .local _ .vmem, ⟨11, _⟩ => ⟨S512x768, .f32⟩
  | .local _ .vmem, ⟨12, _⟩ => ⟨S512x128, .f32⟩
  | .local _ .vmem, ⟨13, _⟩ => ⟨S512x128, .f32⟩
  | .local _ .vmem, ⟨14, _⟩ => ⟨S512x2048, .f32⟩
  | .local _ .vmem, ⟨15, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let v2 : Index := Scalar.indexCast arg0
  let c0_1 : Index := 0#32
  let c0_2 : Index := 0#32
  ![v2.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5248 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5248 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProjRefIdeal.lean ====
abbrev S2x8192x1024 : Shape := ⟨3, ![2, 8192, 1024]⟩
abbrev S2x6x1024 : Shape := ⟨3, ![2, 6, 1024]⟩
abbrev S1024 : Shape := ⟨1, ![1024]⟩
abbrev S1024x5144 : Shape := ⟨2, ![1024, 5144]⟩
abbrev S5144 : Shape := ⟨1, ![5144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5144 : Shape := ⟨3, ![2, 8192, 5144]⟩
abbrev S1x1x5144 : Shape := ⟨3, ![1, 1, 5144]⟩
abbrev S16384x5144 : Shape := ⟨2, ![16384, 5144]⟩
abbrev S16384x1792 : Shape := ⟨2, ![16384, 1792]⟩
abbrev S16384x512 : Shape := ⟨2, ![16384, 512]⟩
abbrev S16384x768 : Shape := ⟨2, ![16384, 768]⟩
abbrev S16384x24 : Shape := ⟨2, ![16384, 24]⟩
abbrev S16384x2048 : Shape := ⟨2, ![16384, 2048]⟩
abbrev S16384x128 : Shape := ⟨2, ![16384, 128]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S1024x5144, .f32⟩
  | .hbm, ⟨4, _⟩ => ⟨S5144, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x5144, .f32⟩
  | .hbm, ⟨31, _⟩ => ⟨S1x1x5144, .f32⟩
  | .hbm, ⟨32, _⟩ => ⟨S2x8192x5144, .f32⟩
  | .hbm, ⟨33, _⟩ => ⟨S2x8192x5144, .f32⟩
  | .hbm, ⟨34, _⟩ => ⟨S16384x5144, .f32⟩
  | .hbm, ⟨35, _⟩ => ⟨S16384x1792, .f32⟩
  | .hbm, ⟨36, _⟩ => ⟨S16384x512, .f32⟩
  | .hbm, ⟨37, _⟩ => ⟨S16384x768, .f32⟩
  | .hbm, ⟨38, _⟩ => ⟨S16384x24, .f32⟩
  | .hbm, ⟨39, _⟩ => ⟨S16384x2048, .f32⟩
  | .hbm, ⟨40, _⟩ => ⟨S_, .i32⟩
  | .hbm, ⟨41, _⟩ => ⟨S_, .f32⟩
  | .hbm, ⟨42, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_call0_v0 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Moe.lean ====
abbrev S40960x1024 : Shape := ⟨2, ![40960, 1024]⟩
abbrev S80 : Shape := ⟨1, ![80]⟩
abbrev S2x16x1024x512 : Shape := ⟨4, ![2, 16, 1024, 512]⟩
abbrev S2x16x512x1024 : Shape := ⟨4, ![2, 16, 512, 1024]⟩
abbrev S512x1024 : Shape := ⟨2, ![512, 1024]⟩
abbrev S1x1x1024x512 : Shape := ⟨4, ![1, 1, 1024, 512]⟩
abbrev S1 : Shape := ⟨1, ![1]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 6
  | .vmem => 13
  | .smem => 2
  | _ => 0

abbrev bufTy : (tb : Table) → Fin (tcTables nBuf tb) → BufTy
  | .hbm, ⟨0, _⟩ => ⟨S40960x1024, .f32⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S40960x1024, .bf16⟩
  | .hbm, ⟨5, _⟩ => ⟨S40960x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S80, .i32⟩
  | .local _ .smem, ⟨1, _⟩ => ⟨S80, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_2 : BitVec 32 := 0#32
  let v13 : BitVec 1 := Scalar.cmpi .sgt v1 c0_i32_2
  let v14 : BitVec 32 := Scalar.extui v13
  let c0_i32_3 : BitVec 32 := 0#32
  let v15 : BitVec 1 := Scalar.cmpi .ne v14 c0_i32_3
  v15

def k0_cond3 (v1 : BitVec 32) : BitVec 1 :=
  let c0_i32_4 : BitVec 32 := 0#32
  let v16 : BitVec 1 := Scalar.cmpi .eq v1 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S40960x1024 : Shape := ⟨2, ![40960, 1024]⟩
abbrev S80 : Shape := ⟨1, ![80]⟩
abbrev S2x16x1024x512 : Shape := ⟨4, ![2, 16, 1024, 512]⟩
abbrev S2x16x512x1024 : Shape := ⟨4, ![2, 16, 512, 1024]⟩
abbrev S80x512x1024 : Shape := ⟨3, ![80, 512, 1024]⟩
abbrev S1x16x1024x512 : Shape := ⟨4, ![1, 16, 1024, 512]⟩
abbrev S16x1024x512 : Shape := ⟨3, ![16, 1024, 512]⟩
abbrev S_ : Shape := ⟨0, ![]⟩
abbrev S80x1 : Shape := ⟨2, ![80, 1]⟩
abbrev S80x1024x512 : Shape := ⟨3, ![80, 1024, 512]⟩
abbrev S80x512x512 : Shape := ⟨3, ![80, 512, 512]⟩
abbrev S1x16x512x1024 : Shape := ⟨4, ![1, 16, 512, 1024]⟩
abbrev S16x512x1024 : Shape := ⟨3, ![16, 512, 1024]⟩
abbrev S80x1x1 : Shape := ⟨3, ![80, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S80, .i32⟩
  | .hbm, ⟨2, _⟩ => ⟨S80, .i32⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S80x512x1024, .f32⟩
  | .hbm, ⟨7, _⟩ => ⟨S1x16x1024x512, .f32⟩
  | .hbm, ⟨8, _⟩ => ⟨S16x1024x512, .f32⟩
  | .hbm, ⟨9, _⟩ => ⟨S_, .i32⟩
  | .hbm, ⟨10, _⟩ => ⟨S80, .i32⟩
  | .hbm, ⟨11, _⟩ => ⟨S80, .i1⟩
  | .hbm, ⟨12, _⟩ => ⟨S_, .i32⟩
  | .hbm, ⟨13, _⟩ => ⟨S80, .i32⟩
  | .hbm, ⟨14, _⟩ => ⟨S80, .i32⟩
  | .hbm, ⟨15, _⟩ => ⟨S80, .i32⟩
  | .hbm, ⟨16, _⟩ => ⟨S80x1, .i32⟩
  | .hbm, ⟨17, _⟩ => ⟨S80x1024x512, .f32⟩
  | .hbm, ⟨18, _⟩ => ⟨S80x512x512, .f32⟩
  | .hbm, ⟨19, _⟩ => ⟨S1x16x1024x512, .f32⟩
  | .hbm, ⟨20, _⟩ => ⟨S16x1024x512, .f32⟩
  | .hbm, ⟨21, _⟩ => ⟨S_, .i32⟩
  | .hbm, ⟨22, _⟩ => ⟨S80, .i32⟩
  | .hbm, ⟨23, _⟩ => ⟨S80, .i1⟩
  | .hbm, ⟨24, _⟩ => ⟨S_, .i32⟩
  | .hbm, ⟨25, _⟩ => ⟨S80, .i32⟩
  | .hbm, ⟨26, _⟩ => ⟨S80, .i32⟩
  | .hbm, ⟨27, _⟩ => ⟨S80, .i32⟩
  | .hbm, ⟨28, _⟩ => ⟨S80x1, .i32⟩
  | .hbm, ⟨29, _⟩ => ⟨S80x1024x512, .f32⟩
  | .hbm, ⟨30, _⟩ => ⟨S80x512x512, .f32⟩
  | .hbm, ⟨31, _⟩ => ⟨S80x512x512, .f32⟩
  | .hbm, ⟨32, _⟩ => ⟨S80x512x512, .f32⟩
  | .hbm, ⟨33, _⟩ => ⟨S_, .f32⟩
  | .hbm, ⟨34, _⟩ => ⟨S80x512x512, .f32⟩
  | .hbm, ⟨35, _⟩ => ⟨S80x512x512, .f32⟩
  | .hbm, ⟨36, _⟩ => ⟨S_, .f32⟩
  | .hbm, ⟨37, _⟩ => ⟨S80x512x512, .f32⟩
  | .hbm, ⟨38, _⟩ => ⟨S80x512x512, .f32⟩
  | .hbm, ⟨39, _⟩ => ⟨S80x512x512, .f32⟩
  | .hbm, ⟨40, _⟩ => ⟨S80x512x512, .f32⟩
  | .hbm, ⟨41, _⟩ => ⟨S1x16x512x1024, .f32⟩
  | .hbm, ⟨42, _⟩ => ⟨S16x512x1024, .f32⟩
  | .hbm, ⟨43, _⟩ => ⟨S_, .i32⟩
  | .hbm, ⟨44, _⟩ => ⟨S80, .i32⟩
  | .hbm, ⟨45, _⟩ => ⟨S80, .i1⟩
  | .hbm, ⟨46, _⟩ => ⟨S_, .i32⟩
  | .hbm, ⟨47, _⟩ => ⟨S80, .i32⟩
  | .hbm, ⟨48, _⟩ => ⟨S80, .i32⟩
  | .hbm, ⟨49, _⟩ => ⟨S80, .i32⟩
  | .hbm, ⟨50, _⟩ => ⟨S80x1, .i32⟩
  | .hbm, ⟨51, _⟩ => ⟨S80x512x1024, .f32⟩
  | .hbm, ⟨52, _⟩ => ⟨S80x512x1024, .f32⟩
  | .hbm, ⟨53, _⟩ => ⟨S_, .i32⟩
  | .hbm, ⟨54, _⟩ => ⟨S80, .i32⟩
  | .hbm, ⟨55, _⟩ => ⟨S80, .i1⟩
  | .hbm, ⟨56, _⟩ => ⟨S80x1x1, .i1⟩
  | .hbm, ⟨57, _⟩ => ⟨S_, .f32⟩
  | .hbm, ⟨58, _⟩ => ⟨S_, .f32⟩
  | .hbm, ⟨59, _⟩ => ⟨S80x512x1024, .i1⟩
  | .hbm, ⟨60, _⟩ => ⟨S80x512x1024, .f32⟩
  | .hbm, ⟨61, _⟩ => ⟨S80x512x1024, .f32⟩
  | .hbm, ⟨62, _⟩ => ⟨S40960x1024, .f32⟩
  | .hbm, ⟨63, _⟩ => ⟨S40960x1024, .bf16⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Merge.lean ====
abbrev S16384x512 : Shape := ⟨2, ![16384, 512]⟩
abbrev S512 : Shape := ⟨1, ![512]⟩
abbrev S16384x2048 : Shape := ⟨2, ![16384, 2048]⟩
abbrev S16384x1024 : Shape := ⟨2, ![16384, 1024]⟩
abbrev S2x6x1024 : Shape := ⟨3, ![2, 6, 1024]⟩
abbrev S1024 : Shape := ⟨1, ![1024]⟩
abbrev S512x1024 : Shape := ⟨2, ![512, 1024]⟩
abbrev S1024x1024 : Shape := ⟨2, ![1024, 1024]⟩
abbrev S1024x16 : Shape := ⟨2, ![1024, 16]⟩
abbrev S16 : Shape := ⟨1, ![16]⟩
abbrev S1x1024 : Shape := ⟨2, ![1, 1024]⟩
abbrev S1x512 : Shape := ⟨2, ![1, 512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024x128 : Shape := ⟨2, ![1024, 128]⟩
abbrev S1 : Shape := ⟨1, ![1]⟩
abbrev S1x1024x128 : Shape := ⟨3, ![1, 1024, 128]⟩
abbrev S2x1024x128 : Shape := ⟨3, ![2, 1024, 128]⟩
abbrev S16x1 : Shape := ⟨2, ![16, 1]⟩
abbrev S8x16384 : Shape := ⟨2, ![8, 16384]⟩
abbrev S256x512 : Shape := ⟨2, ![256, 512]⟩
abbrev S256x2048 : Shape := ⟨2, ![256, 2048]⟩
abbrev S256x1024 : Shape := ⟨2, ![256, 1024]⟩
abbrev S8x256 : Shape := ⟨2, ![8, 256]⟩
abbrev S16x128 : Shape := ⟨2, ![16, 128]⟩
abbrev S1x6x1024 : Shape := ⟨3, ![1, 6, 1024]⟩
abbrev S6x1024 : Shape := ⟨2, ![6, 1024]⟩
abbrev S256x128 : Shape := ⟨2, ![256, 128]⟩
abbrev S128x256 : Shape := ⟨2, ![128, 256]⟩
abbrev S16x256 : Shape := ⟨2, ![16, 256]⟩
abbrev S32x256 : Shape := ⟨2, ![32, 256]⟩

abbrev nBuf : Space → Nat
  | .hbm => 67
  | .vmem => 30
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512, .f32⟩
  | .hbm, ⟨5, _⟩ => ⟨S16384x512, .f32⟩
  | .hbm, ⟨6, _⟩ => ⟨S16384x2048, .f32⟩
  | .hbm, ⟨7, _⟩ => ⟨S16384x1024, .f32⟩
  | .hbm, ⟨8, _⟩ => ⟨S2x6x1024, .f32⟩
  | .hbm, ⟨9, _⟩ => ⟨S1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x16, .f32⟩
  | .hbm, ⟨14, _⟩ => ⟨S16, .f32⟩
  | .hbm, ⟨15, _⟩ => ⟨S1x1024, .f32⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x512, .f32⟩
  | .hbm, ⟨20, _⟩ => ⟨S1x512, .f32⟩
  | .hbm, ⟨21, _⟩ => ⟨S256, .i32⟩
  | .hbm, ⟨22, _⟩ => ⟨S_, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S256, .i32⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S256, .i1⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S256x256, .f32⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S256x256, .bf16⟩
  | .hbm, ⟨50, _⟩ => ⟨S_, .f32⟩
  | .hbm, ⟨51, _⟩ => ⟨S1024x128, .f32⟩
  | .hbm, ⟨52, _⟩ => ⟨S_, .i32⟩
  | .hbm, ⟨53, _⟩ => ⟨S1, .i32⟩
  | .hbm, ⟨54, _⟩ => ⟨S1024x128, .f32⟩
  | .hbm, ⟨55, _⟩ => ⟨S1024x128, .bf16⟩
  | .hbm, ⟨56, _⟩ => ⟨S1024x128, .f32⟩
  | .hbm, ⟨57, _⟩ => ⟨S1024x128, .f32⟩
  | .hbm, ⟨58, _⟩ => ⟨S1024x128, .bf16⟩
  | .hbm, ⟨59, _⟩ => ⟨S1x1024x128, .bf16⟩
  | .hbm, ⟨60, _⟩ => ⟨S1x1024x128, .bf16⟩
  | .hbm, ⟨61, _⟩ => ⟨S2x1024x128, .bf16⟩
  | .hbm, ⟨62, _⟩ => ⟨S16x1, .f32⟩
  | .hbm, ⟨63, _⟩ => ⟨S16384x1024, .f32⟩
  | .hbm, ⟨64, _⟩ => ⟨S16384x1024, .bf16⟩
  | .hbm, ⟨65, _⟩ => ⟨S8x16384, .f32⟩
  | .hbm, ⟨66, _⟩ => ⟨S1024x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S256x256, .bf16⟩
  | .local _ .vmem, ⟨9, _⟩ => ⟨S256x512, .f32⟩
  | .local _ .vmem, ⟨10, _⟩ => ⟨S256x512, .f32⟩
  | .local _ .vmem, ⟨11, _⟩ => ⟨S256x2048, .f32⟩
  | .local _ .vmem, ⟨12, _⟩ => ⟨S256x2048, .f32⟩
  | .local _ .vmem, ⟨13, _⟩ => ⟨S256x1024, .f32⟩
  | .local _ .vmem, ⟨14, _⟩ => ⟨S256x1024, .f32⟩
  | .local _ .vmem, ⟨15, _⟩ => ⟨S2x6x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S2x1024x128, .bf16⟩
  | .local _ .vmem, ⟨21, _⟩ => ⟨S16x1, .f32⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S8x256, .f32⟩
  | .local _ .vmem, ⟨27, _⟩ => ⟨S8x256, .f32⟩
  | .local _ .vmem, ⟨28, _⟩ => ⟨S16x128, .f32⟩
  | .local _ .vmem, ⟨29, _⟩ => ⟨S16x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_0 : Ref sig .tc := ⟨.hbm, 50, rfl⟩
abbrev main_v17 : Ref sig .tc := ⟨.hbm, 51, rfl⟩
abbrev main_c_1 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28_0 : Ref sig .tc := ⟨.hbm, 63, rfl⟩
abbrev main_v28_1 : Ref sig .tc := ⟨.hbm, 64, rfl⟩
abbrev main_v28_2 : Ref sig .tc := ⟨.hbm, 65, rfl⟩
abbrev main_v28_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![2, 32], ![false, false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_19 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2x6x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S16x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MergeRefIdeal.lean ====
abbrev S16384x512 : Shape := ⟨2, ![16384, 512]⟩
abbrev S512 : Shape := ⟨1, ![512]⟩
abbrev S16384x2048 : Shape := ⟨2, ![16384, 2048]⟩
abbrev S16384x1024 : Shape := ⟨2, ![16384, 1024]⟩
abbrev S2x6x1024 : Shape := ⟨3, ![2, 6, 1024]⟩
abbrev S1024 : Shape := ⟨1, ![1024]⟩
abbrev S512x1024 : Shape := ⟨2, ![512, 1024]⟩
abbrev S1024x1024 : Shape := ⟨2, ![1024, 1024]⟩
abbrev S1024x16 : Shape := ⟨2, ![1024, 16]⟩
abbrev S16 : Shape := ⟨1, ![16]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S8x64 : Shape := ⟨2, ![8, 64]⟩
abbrev S1x8x64 : Shape := ⟨3, ![1, 8, 64]⟩
abbrev S2x8192x1024 : Shape := ⟨3, ![2, 8192, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512, .f32⟩
  | .hbm, ⟨5, _⟩ => ⟨S16384x512, .f32⟩
  | .hbm, ⟨6, _⟩ => ⟨S16384x2048, .f32⟩
  | .hbm, ⟨7, _⟩ => ⟨S16384x1024, .f32⟩
  | .hbm, ⟨8, _⟩ => ⟨S2x6x1024, .f32⟩
  | .hbm, ⟨9, _⟩ => ⟨S1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x16, .f32⟩
  | .hbm, ⟨14, _⟩ => ⟨S16, .f32⟩
  | .hbm, ⟨15, _⟩ => ⟨S16384x8x64, .f32⟩
  | .hbm, ⟨16, _⟩ => ⟨S_, .f32⟩
  | .hbm, ⟨17, _⟩ => ⟨S16384x8, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S16384x8x64, .f32⟩
  | .hbm, ⟨23, _⟩ => ⟨S16384x8x64, .f32⟩
  | .hbm, ⟨24, _⟩ => ⟨S16384x8x64, .f32⟩
  | .hbm, ⟨25, _⟩ => ⟨S_, .f32⟩
  | .hbm, ⟨26, _⟩ => ⟨S16384x8, .f32⟩
  | .hbm, ⟨27, _⟩ => ⟨S16384x8x1, .f32⟩
  | .hbm, ⟨28, _⟩ => ⟨S_, .f32⟩
  | .hbm, ⟨29, _⟩ => ⟨S16384x8x1, .f32⟩
  | .hbm, ⟨30, _⟩ => ⟨S16384x8x1, .f32⟩
  | .hbm, ⟨31, _⟩ => ⟨S16384x8x64, .f32⟩
  | .hbm, ⟨32, _⟩ => ⟨S16384x8x64, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S16384x8x1, .f32⟩
  | .hbm, ⟨37, _⟩ => ⟨S16384x8x64, .f32⟩
  | .hbm, ⟨38, _⟩ => ⟨S16384x8x64, .f32⟩
  | .hbm, ⟨39, _⟩ => ⟨S8x64, .f32⟩
  | .hbm, ⟨40, _⟩ => ⟨S1x8x64, .f32⟩
  | .hbm, ⟨41, _⟩ => ⟨S16384x8x64, .f32⟩
  | .hbm, ⟨42, _⟩ => ⟨S16384x8x64, .f32⟩
  | .hbm, ⟨43, _⟩ => ⟨S8x64, .f32⟩
  | .hbm, ⟨44, _⟩ => ⟨S1x8x64, .f32⟩
  | .hbm, ⟨45, _⟩ => ⟨S16384x8x64, .f32⟩
  | .hbm, ⟨46, _⟩ => ⟨S16384x8x64, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S2x8192x1024, .f32⟩
  | .hbm, ⟨66, _⟩ => ⟨S2x1x1024, .f32⟩
  | .hbm, ⟨67, _⟩ => ⟨S16384x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x1, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | .hbm, ⟨88, _⟩ => ⟨S2x1x1024, .f32⟩
  | .hbm, ⟨89, _⟩ => ⟨S_, .f32⟩
  | .hbm, ⟨90, _⟩ => ⟨S2x1x1024, .f32⟩
  | .hbm, ⟨91, _⟩ => ⟨S2x1x1024, .f32⟩
  | .hbm, ⟨92, _⟩ => ⟨S2x8192x1024, .f32⟩
  | .hbm, ⟨93, _⟩ => ⟨S2x8192x1024, .f32⟩
  | .hbm, ⟨94, _⟩ => ⟨S2x1x1024, .f32⟩
  | .hbm, ⟨95, _⟩ => ⟨S2x8192x1024, .f32⟩
  | .hbm, ⟨96, _⟩ => ⟨S2x8192x1024, .f32⟩
  | .hbm, ⟨97, _⟩ => ⟨S16384x1024, .f32⟩
  | .hbm, ⟨98, _⟩ => ⟨S16384x1024, .f32⟩
  | .hbm, ⟨99, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Final.lean ====
abbrev S16384x1024 : Shape := ⟨2, ![16384, 1024]⟩
abbrev S32768x1024 : Shape := ⟨2, ![32768, 1024]⟩
abbrev S16384x2 : Shape := ⟨2, ![16384, 2]⟩
abbrev S2x6x1024 : Shape := ⟨3, ![2, 6, 1024]⟩
abbrev S512x1024 : Shape := ⟨2, ![512, 1024]⟩
abbrev S512x2 : Shape := ⟨2, ![512, 2]⟩
abbrev S1x6x1024 : Shape := ⟨3, ![1, 6, 1024]⟩
abbrev S6x1024 : Shape := ⟨2, ![6, 1024]⟩
abbrev S1x1024 : Shape := ⟨2, ![1, 1024]⟩
abbrev S512x1 : Shape := ⟨2, ![512, 1]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S32768x1024, .bf16⟩
  | .hbm, ⟨2, _⟩ => ⟨S16384x2, .f32⟩
  | .hbm, ⟨3, _⟩ => ⟨S2x6x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2, .f32⟩
  | .local _ .vmem, ⟨7, _⟩ => ⟨S512x2, .f32⟩
  | .local _ .vmem, ⟨8, _⟩ => ⟨S2x6x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinalRefIdeal.lean ====
abbrev S16384x1024 : Shape := ⟨2, ![16384, 1024]⟩
abbrev S32768x1024 : Shape := ⟨2, ![32768, 1024]⟩
abbrev S16384x2 : Shape := ⟨2, ![16384, 2]⟩
abbrev S2x6x1024 : Shape := ⟨3, ![2, 6, 1024]⟩
abbrev S2x16384x1024 : Shape := ⟨3, ![2, 16384, 1024]⟩
abbrev S1x16384x1024 : Shape := ⟨3, ![1, 16384, 1024]⟩
abbrev S16384x1 : Shape := ⟨2, ![16384, 1]⟩
abbrev S2x8192x1024 : Shape := ⟨3, ![2, 8192, 1024]⟩
abbrev S2x1x1024 : Shape := ⟨3, ![2, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32768x1024, .bf16⟩
  | .hbm, ⟨2, _⟩ => ⟨S16384x2, .f32⟩
  | .hbm, ⟨3, _⟩ => ⟨S2x6x1024, .f32⟩
  | .hbm, ⟨4, _⟩ => ⟨S32768x1024, .f32⟩
  | .hbm, ⟨5, _⟩ => ⟨S2x16384x1024, .f32⟩
  | .hbm, ⟨6, _⟩ => ⟨S1x16384x1024, .f32⟩
  | .hbm, ⟨7, _⟩ => ⟨S16384x1024, .f32⟩
  | .hbm, ⟨8, _⟩ => ⟨S16384x1, .f32⟩
  | .hbm, ⟨9, _⟩ => ⟨S16384x1024, .f32⟩
  | .hbm, ⟨10, _⟩ => ⟨S16384x1024, .f32⟩
  | .hbm, ⟨11, _⟩ => ⟨S1x16384x1024, .f32⟩
  | .hbm, ⟨12, _⟩ => ⟨S16384x1024, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S2x8192x1024, .f32⟩
  | .hbm, ⟨18, _⟩ => ⟨S2x1x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Ada.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 34
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S1x1024x6144, .f32⟩
  | .hbm, ⟨16, _⟩ => ⟨S1024x6144, .f32⟩
  | .hbm, ⟨17, _⟩ => ⟨S8x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S8x6144, .f32⟩
  | .hbm, ⟨22, _⟩ => ⟨S8x6144, .f32⟩
  | .hbm, ⟨23, _⟩ => ⟨S1x1024x6144, .f32⟩
  | .hbm, ⟨24, _⟩ => ⟨S1024x6144, .f32⟩
  | .hbm, ⟨25, _⟩ => ⟨S8x6144, .f32⟩
  | .hbm, ⟨26, _⟩ => ⟨S1x6144, .f32⟩
  | .hbm, ⟨27, _⟩ => ⟨S6144, .f32⟩
  | .hbm, ⟨28, _⟩ => ⟨S1x6144, .f32⟩
  | .hbm, ⟨29, _⟩ => ⟨S8x6144, .f32⟩
  | .hbm, ⟨30, _⟩ => ⟨S8x6144, .f32⟩
  | .hbm, ⟨31, _⟩ => ⟨S1x8x6144, .f32⟩
  | .hbm, ⟨32, _⟩ => ⟨S1x8x6144, .f32⟩
  | .hbm, ⟨33, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Proof.Words.lean ====
/-
  The words of the collect's pipeline: sixteen trips per subcore, trip `t` of subcore `(i 0, i 1)` on row
  `blockRow i t` of the index array. `words t` is what the loop carries before trip `t`; every offset, condition and
  check the body computes from them is given here in closed form.
-/
module

public import proofs.«01_k».proof.Defs
public import proofs.«01_k».proof.Proof.Gen.KernelIdeal
public import proofs.«01_k».proof.Proof.Gen.KernelIdeal.Skeleton

@[expose] public section

set_option maxRecDepth 16384
set_option Elab.async false

noncomputable section

namespace Cert.Proof.Collect

open Cert.KernelIdeal Cert.KernelIdeal.Gen
open Idealize.ShloMosaic

/-- The row of the index array, and the 64-row block of the result, that trip `t` of subcore `i` works on. -/
abbrev blockRow (i : grid0.Coords) (t : ℕ) : ℕ := (t / 8) * 256 + t % 8 + 8 * ((i 1).val + 16 * (i 0).val)

/-- The six carried words before trip `t`: fetches issued, fetches awaited, copies issued, copies awaited, and the two
    coordinates of the pipeline's own grid. -/
abbrev w6 (t : ℕ) : BitVec 32 := BitVec.ofNat 32 (min (t + 1) 16)
abbrev w7 (t : ℕ) : BitVec 32 := BitVec.ofNat 32 t
abbrev w9 (t : ℕ) : BitVec 32 := BitVec.ofNat 32 (t - 1)
abbrev w10 (t : ℕ) : BitVec 32 := BitVec.ofNat 32 (t / 8 % 2)
abbrev w11 (t : ℕ) : BitVec 32 := BitVec.ofNat 32 (t % 8)
abbrev words (t : ℕ) : BitVec 32 × BitVec 32 × BitVec 32 × BitVec 32 × BitVec 32 × BitVec 32 :=
  (w6 t, w7 t, w7 t, w9 t, w10 t, w11 t)

theorem trips_eq : k0_t1_loop.trips = 16 := by decide +kernel

theorem off4_eq : ∀ t : Fin k0_t1_loop.trips, k0_off4 (w6 t) = ![min (t.val + 1) 16 % 2, 0, 0] := by decide +kernel
theorem off5_eq : ∀ (i : grid0.Coords) (t : Fin k0_t1_loop.trips), t.val < 15 →
    k0_off5 i (w10 t) (w11 t) = ![blockRow i (t.val + 1), 0] := by decide +kernel
theorem off6_eq : ∀ t : Fin k0_t1_loop.trips, k0_off6 (w6 t) = ![min (t.val + 1) 16 % 2] := by decide +kernel
theorem off7_eq : ∀ t : Fin k0_t1_loop.trips, k0_off7 (w7 t) = ![t.val % 2, 0, 0] := by decide +kernel
theorem off8_eq : ∀ (i : grid0.Coords) (t : Fin k0_t1_loop.trips),
    k0_off8 i (w10 t) (w11 t) = ![blockRow i t.val, 0] := by decide +kernel
theorem off9_eq : ∀ t : Fin k0_t1_loop.trips, k0_off9 (w7 t) = ![t.val % 2] := by decide +kernel
theorem off10_eq : ∀ t : Fin k0_t1_loop.trips, k0_off10 (w7 t) = ![t.val % 2, 0, 0] := by decide +kernel
theorem off11_eq : ∀ t : Fin k0_t1_loop.trips, k0_off11 (w7 t) = ![t.val % 2, 0, 0] := by decide +kernel
theorem off12_eq : ∀ t : Fin k0_t1_loop.trips, k0_off12 (w7 t) = ![t.val % 2, 0, 0] := by decide +kernel
theorem off13_eq : ∀ (i : grid0.Coords) (t : Fin k0_t1_loop.trips),
    k0_off13 i (w10 t) (w11 t) = ![64 * blockRow i t.val, 0] := by decide +kernel
theorem off14_eq : ∀ t : Fin k0_t1_loop.trips, k0_off14 (w7 t) = ![t.val % 2] := by decide +kernel
theorem off15_eq : ∀ t : Fin k0_t1_loop.trips, k0_off15 (w9 t) = ![(t.val - 1) % 2, 0, 0] := by decide +kernel
theorem off16_eq : ∀ (i : grid0.Coords) (t : Fin k0_t1_loop.trips), 0 < t.val →
    k0_off16 i (w10 t) (w11 t) = ![64 * blockRow i (t.val - 1), 0] := by decide +kernel
theorem off17_eq : ∀ t : Fin k0_t1_loop.trips, k0_off17 (w9 t) = ![(t.val - 1) % 2] := by decide +kernel
theorem off18_eq : k0_off18 (w9 16) = ![1, 0, 0] := by decide +kernel
theorem off19_eq : ∀ i : grid0.Coords, k0_off19 i (w11 16) (w10 16) = ![64 * blockRow i 15, 0] := by decide +kernel
theorem off20_eq : k0_off20 (w9 16) = ![1] := by decide +kernel
theorem off21_eq : k0_off21 (w9 16) = ![1, 0, 0] := by decide +kernel

theorem cond1_eq : ∀ (i : grid0.Coords) (t : Fin k0_t1_loop.trips),
    k0_cond1 i t (w10 t) (w11 t) = 1#1 ↔ t.val < 15 := by decide +kernel
theorem cond2_eq : ∀ (i : grid0.Coords) (t : Fin k0_t1_loop.trips), k0_cond2 i t (w10 t) (w11 t) = 1#1 := by decide +kernel
theorem cond5_eq : ∀ (i : grid0.Coords) (t : Fin k0_t1_loop.trips), k0_cond5 i t (w10 t) (w11 t) = 1#1 := by decide +kernel
theorem cond7_eq : ∀ (i : grid0.Coords) (t : Fin k0_t1_loop.trips),
    k0_cond7 i t (w10 t) (w11 t) = 1#1 ↔ 0 < t.val := by decide +kernel

theorem chk3_ok : ∀ t : Fin k0_t1_loop.trips, k0_chk3 (w7 t) := by decide +kernel
theorem chk2_ok : ∀ t : Fin k0_t1_loop.trips, k0_chk2 (w7 t) := by decide +kernel
theorem chk1_ok : ∀ (i : grid0.Coords) (t : Fin k0_t1_loop.trips),
    k0_chk1 i t (w6 t) (w7 t) (w7 t) (w9 t) (w10 t) (w11 t) := by decide +kernel
theorem chk5_ok : ∀ i : grid0.Coords, k0_chk5 i (w11 16) (w10 16) := by decide +kernel
theorem chk4_ok : k0_chk4 (w9 16) := by decide +kernel

end Cert.Proof.Collect

end
-- ==== Proof.Views.lean ====
/-
  The windows the collect's subcore program names — an index slot, a row of the index array, a half of the result's
  double buffer and its 128-column strips, a strip of the row table, a block of the result — at literal places, with
  their elements and the buffer index under each of theirs.
-/
module

public import proofs.«01_k».proof.Proof.Words
public import Idealize.ShloMosaic.Lib.ValueIdxCore
public import Idealize.ShloMosaic.Lib.ValueLayout

@[expose] public section

set_option maxRecDepth 16384
set_option Elab.async false

noncomputable section

namespace Cert.Proof.Collect

open Cert.KernelIdeal Cert.KernelIdeal.Gen
open Idealize.ShloMosaic
open Idealize.ShloMosaic.ValueIdx

local notation "yV" => (Memref.whole Cert.KernelIdeal.main_arg0_scv : Memref Cert.KernelIdeal.sig Kind.scVector Space.hbm Cert.KernelIdeal.S40960x512 EltTy.f32)
local notation "eV" => (Memref.whole Cert.KernelIdeal.main_arg1_scv : Memref Cert.KernelIdeal.sig Kind.scVector Space.hbm Cert.KernelIdeal.S512x128 EltTy.i32)
local notation "oV" => (Memref.whole Cert.KernelIdeal.main_v0_scv : Memref Cert.KernelIdeal.sig Kind.scVector Space.hbm Cert.KernelIdeal.S32768x512 EltTy.f32)
local notation "aV" => (Memref.whole Cert.KernelIdeal.cc0_scoped0 : Memref Cert.KernelIdeal.sig Kind.scVector Space.vmem Cert.KernelIdeal.S2x1x128 EltTy.i32)
local notation "bV" => (Memref.whole Cert.KernelIdeal.cc0_scoped2 : Memref Cert.KernelIdeal.sig Kind.scVector Space.vmem Cert.KernelIdeal.S2x64x512 EltTy.f32)

/-! ## The windows -/

theorem inbA (p : Fin 2) : ∀ a, (![p.val, 0, 0] : Fin 3 → ℕ) a + S1x1x128.size a ≤ S2x1x128.size a := by revert p; decide
theorem inbE (r : Fin 512) : ∀ a, (![r.val, 0] : Fin 2 → ℕ) a + S1x128.size a ≤ S512x128.size a := by revert r; decide +kernel
theorem inbB (p : Fin 2) : ∀ a, (![p.val, 0, 0] : Fin 3 → ℕ) a + S1x64x512.size a ≤ S2x64x512.size a := by revert p; decide
theorem inbO (r : Fin 512) : ∀ a, (![64 * r.val, 0] : Fin 2 → ℕ) a + S64x512.size a ≤ S32768x512.size a := by revert r; decide +kernel
theorem inbSem (p : Fin 2) : ∀ a, (![p.val] : Fin 1 → ℕ) a + S1.size a ≤ S2.size a := by revert p; decide

/-- Index slot `p`. -/
abbrev aSlot (p : Fin 2) : Memref sig .scVector .vmem S1x128 .i32 :=
  ((aV).slice (Rect.unit (s := S2x1x128) ![p.val, 0, 0] S1x1x128.size (inbA p)) (fun _ => rfl)).squeeze S1x128 squeezes_S1x1x128_S1x128
/-- The 64 words of index slot `p` that are read. -/
abbrev aList (p : Fin 2) : Memref sig .scVector .vmem S64 .i32 :=
  ((aSlot p).slice (Rect.unit (s := S1x128) ![0, 0] S1x64.size inb_S1x128_S1x64_0_0) (fun _ => rfl)).squeeze S64 squeezes_S1x64_S64
/-- Row `r` of the index array. -/
abbrev eRow (r : Fin 512) : Memref sig .scVector .hbm S1x128 .i32 :=
  (eV).slice (Rect.unit (s := S512x128) ![r.val, 0] S1x128.size (inbE r)) (fun _ => rfl)
/-- Half `p` of the result's double buffer. -/
abbrev bSlot (p : Fin 2) : Memref sig .scVector .vmem S64x512 .f32 :=
  ((bV).slice (Rect.unit (s := S2x64x512) ![p.val, 0, 0] S1x64x512.size (inbB p)) (fun _ => rfl)).squeeze S64x512 squeezes_S1x64x512_S64x512
/-- The 128 columns of that half from column `c` on. -/
abbrev bStrip (p : Fin 2) (c : ℕ) (hc : ∀ a, (![0, c] : Fin 2 → ℕ) a + S64x128.size a ≤ S64x512.size a) : Memref sig .scVector .vmem S64x128 .f32 :=
  (bSlot p).slice (Rect.unit (s := S64x512) ![0, c] S64x128.size hc) (fun _ => rfl)
/-- The 128 columns of the row table from column `c` on. -/
abbrev yStrip (c : ℕ) (hc : ∀ a, (![0, c] : Fin 2 → ℕ) a + S40960x128.size a ≤ S40960x512.size a) : Memref sig .scVector .hbm S40960x128 .f32 :=
  (yV).slice (Rect.unit (s := S40960x512) ![0, c] S40960x128.size hc) (fun _ => rfl)
/-- Block `r` of the result. -/
abbrev oBlk (r : Fin 512) : Memref sig .scVector .hbm S64x512 .f32 :=
  (oV).slice (Rect.unit (s := S32768x512) ![64 * r.val, 0] S64x512.size (inbO r)) (fun _ => rfl)
/-- The semaphore of the fetch into index slot `p`, of the copy out of half `p`. -/
abbrev semA (p : Fin 2) : DmaSem sig := ((cc0_scoped1.slice (Rect.unit (s := S2) ![p.val] S1.size (inbSem p))).squeeze S_ squeezes_S1_S_).sem
abbrev semB (p : Fin 2) : DmaSem sig := ((cc0_scoped3.slice (Rect.unit (s := S2) ![p.val] S1.size (inbSem p))).squeeze S_ squeezes_S1_S_).sem

/-! ## The buffer index under each window's -/

section Emb
variable {sp : Space} {s s' : Shape} {e : EltTy}
theorem emb_slice (m : Memref sig .scVector sp s e) (off size : Fin s.rank → ℕ) (inb) (y : (Rect.unit off size inb).shape.Idx) :
    (m.slice (Rect.unit (s := s) off size inb) (fun _ => rfl)).view.emb y = m.view.emb ((Rect.unit (s := s) off size inb).emb y) := rfl
theorem emb_squeeze (m : Memref sig .scVector sp s e) (h : s.Squeezes s') (y : s'.Idx) :
    (m.squeeze s' h).view.emb y = m.view.emb (Shape.reshapeEquiv h.numel_eq y) := rfl
theorem emb_whole (b : Ref sig .scVector) (y : b.ty.shape.Idx) : (Memref.whole b : Memref sig .scVector _ _ _).view.emb y = y := rfl
end Emb

theorem emb_aSlot (p : Fin 2) (y : S1x128.Idx) : (aSlot p).view.emb y = (ix3 p (0 : Fin 1) (y 1) : S2x1x128.Idx) := by
  obtain ⟨a, k, rfl⟩ : ∃ a k, y = ix2 a k := ⟨_, _, eq_ix2 y⟩
  rw [emb_squeeze, reshapeEquiv_ix2_1ab, emb_slice, emb_whole]
  have ha := a.isLt
  funext d; apply Fin.ext; fin_cases d
  · simp [Rect.emb_apply]
  · simp [Rect.emb_apply]; try omega
  · simp [Rect.emb_apply]

theorem emb_aList (p : Fin 2) (y : S64.Idx) :
    (aList p).view.emb y = (ix3 p (0 : Fin 1) (⟨(y 0).val, Nat.lt_of_lt_of_le (show (y 0).val < 64 from (y 0).isLt) (by decide)⟩ : Fin 128) : S2x1x128.Idx) := by
  obtain ⟨k, rfl⟩ : ∃ k, y = ix1 k := ⟨_, eq_ix1 y⟩
  rw [emb_squeeze, emb_slice, emb_aSlot, show Shape.reshapeEquiv squeezes_S1x64_S64.numel_eq (ix1 k) = (ix2 (0 : Fin 1) k : S1x64.Idx) from
    Shape.reshapeEquiv_eq_of_rowMajor _ (by rw [Shape.rowMajor_val_two, Shape.rowMajor_val_one]; simp)]
  funext d; apply Fin.ext; fin_cases d
  · rfl
  · rfl
  · simp [Rect.emb_apply]

theorem emb_eRow (r : Fin 512) (y : S1x128.Idx) : (eRow r).view.emb y = (ix2 r (y 1) : S512x128.Idx) := by
  have h0 : (y 0).val < 1 := (y 0).isLt
  rw [emb_slice, emb_whole]
  funext d; apply Fin.ext; fin_cases d
  · simp [Rect.emb_apply]; try omega
  · simp [Rect.emb_apply]

theorem emb_bSlot (p : Fin 2) (y : S64x512.Idx) : (bSlot p).view.emb y = (ix3 p (y 0) (y 1) : S2x64x512.Idx) := by
  obtain ⟨a, k, rfl⟩ : ∃ a k, y = ix2 a k := ⟨_, _, eq_ix2 y⟩
  rw [emb_squeeze, reshapeEquiv_ix2_1ab, emb_slice, emb_whole]
  funext d; apply Fin.ext; fin_cases d <;> simp [Rect.emb_apply]

theorem col_lt {c : ℕ} (hc : ∀ a, (![0, c] : Fin 2 → ℕ) a + S64x128.size a ≤ S64x512.size a) (k : Fin 128) : c + k.val < 512 := by
  have := hc 1; have hk := k.isLt
  change c + 128 ≤ 512 at this; omega
theorem col_lt' {c : ℕ} (hc : ∀ a, (![0, c] : Fin 2 → ℕ) a + S40960x128.size a ≤ S40960x512.size a) (k : Fin 128) : c + k.val < 512 := by
  have := hc 1; have hk := k.isLt
  change c + 128 ≤ 512 at this; omega

theorem emb_bStrip (p : Fin 2) (c : ℕ) (hc) (y : S64x128.Idx) :
    (bStrip p c hc).view.emb y = (ix3 p (y 0) (⟨c + (y 1).val, col_lt hc (y 1)⟩ : Fin 512) : S2x64x512.Idx) := by
  rw [emb_slice, emb_bSlot]
  funext d; apply Fin.ext; fin_cases d
  · rfl
  · simp [Rect.emb_apply]
  · simp [Rect.emb_apply]

theorem emb_yStrip (c : ℕ) (hc) (y : S40960x128.Idx) :
    (yStrip c hc).view.emb y = (ix2 (y 0) (⟨c + (y 1).val, col_lt' hc (y 1)⟩ : Fin 512) : S40960x512.Idx) := by
  rw [emb_slice, emb_whole]
  funext d; apply Fin.ext; fin_cases d <;> simp [Rect.emb_apply]

theorem row_lt (r : Fin 512) (k : Fin 64) : 64 * r.val + k.val < 32768 := by have := r.isLt; have := k.isLt; omega

theorem emb_oBlk (r : Fin 512) (y : S64x512.Idx) :
    (oBlk r).view.emb y = (ix2 (⟨64 * r.val + (y 0).val, row_lt r (y 0)⟩ : Fin 32768) (y 1) : S32768x512.Idx) := by
  rw [emb_slice, emb_whole]
  funext d; apply Fin.ext; fin_cases d <;> simp [Rect.emb_apply]

/-! ## The windows' elements -/

theorem mem_aSlot (p : Fin 2) (j : S2x1x128.Idx) : j ∈ (aSlot p).view.set ↔ (j 0).val = p.val := by
  constructor
  · intro h; obtain ⟨y, -, rfl⟩ := Finset.mem_map.mp h; rw [emb_aSlot]
  · intro h
    have : j = (aSlot p).view.emb (ix2 (0 : Fin 1) (j 2)) := by
      rw [emb_aSlot]; funext d; apply Fin.ext
      have h1 : (j 1).val < 1 := (j 1).isLt
      fin_cases d
      · exact h
      · show (j 1).val = 0; omega
      · rfl
    rw [this]; exact View.emb_mem_set _ _

theorem mem_eRow (r : Fin 512) (j : S512x128.Idx) : j ∈ (eRow r).view.set ↔ (j 0).val = r.val := by
  constructor
  · intro h; obtain ⟨y, -, rfl⟩ := Finset.mem_map.mp h; rw [emb_eRow]
  · intro h
    have : j = (eRow r).view.emb (ix2 (0 : Fin 1) (j 1)) := by
      rw [emb_eRow]; funext d; apply Fin.ext; fin_cases d
      · exact h
      · rfl
    rw [this]; exact View.emb_mem_set _ _

theorem mem_bSlot (p : Fin 2) (j : S2x64x512.Idx) : j ∈ (bSlot p).view.set ↔ (j 0).val = p.val := by
  constructor
  · intro h; obtain ⟨y, -, rfl⟩ := Finset.mem_map.mp h; rw [emb_bSlot]
  · intro h
    have : j = (bSlot p).view.emb (ix2 (j 1) (j 2)) := by
      rw [emb_bSlot]; funext d; apply Fin.ext; fin_cases d
      · exact h
      · rfl
      · rfl
    rw [this]; exact View.emb_mem_set _ _

theorem mem_bStrip (p : Fin 2) (c : ℕ) (hc) (j : S2x64x512.Idx) :
    j ∈ (bStrip p c hc).view.set ↔ (j 0).val = p.val ∧ c ≤ (j 2).val ∧ (j 2).val < c + 128 := by
  constructor
  · intro h; obtain ⟨y, -, rfl⟩ := Finset.mem_map.mp h; rw [emb_bStrip]
    have hy : (y 1).val < 128 := (y 1).isLt
    refine ⟨rfl, ?_, ?_⟩
    · show c ≤ c + (y 1).val; omega
    · show c + (y 1).val < c + 128; omega
  · rintro ⟨h, h1, h2⟩
    have : j = (bStrip p c hc).view.emb (ix2 (j 1) (⟨(j 2).val - c, by omega⟩ : Fin 128)) := by
      rw [emb_bStrip]; funext d; apply Fin.ext; fin_cases d
      · exact h
      · rfl
      · show (j 2).val = c + ((j 2).val - c); omega
    rw [this]; exact View.emb_mem_set _ _

theorem mem_oBlk (r : Fin 512) (j : S32768x512.Idx) : j ∈ (oBlk r).view.set ↔ (j 0).val / 64 = r.val := by
  constructor
  · intro h; obtain ⟨y, -, rfl⟩ := Finset.mem_map.mp h; rw [emb_oBlk]
    have hy : (y 0).val < 64 := (y 0).isLt
    show (64 * r.val + (y 0).val) / 64 = r.val
    omega
  · intro h
    have : j = (oBlk r).view.emb (ix2 (⟨(j 0).val % 64, Nat.mod_lt _ (by decide)⟩ : Fin 64) (j 1)) := by
      rw [emb_oBlk]; funext d; apply Fin.ext; fin_cases d
      · show (j 0).val = 64 * r.val + (j 0).val % 64; omega
      · rfl
    rw [this]; exact View.emb_mem_set _ _

end Cert.Proof.Collect

end
-- ==== Proof.Ops.lean ====
/-
  The collect's five transfers, each with what it takes and gives: the fetch of a row of the index array into a slot and
  its wait, the gather of one 128-column strip through the fetched words, the copy of a finished half out to its block of
  the result and its wait.
-/
module

public import proofs.«01_k».proof.Proof.Views
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

set_option maxRecDepth 16384
set_option Elab.async false

noncomputable section

namespace Cert.Proof.Collect

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "yV" => (Memref.whole Cert.KernelIdeal.main_arg0_scv : Memref Cert.KernelIdeal.sig Kind.scVector Space.hbm Cert.KernelIdeal.S40960x512 EltTy.f32)
local notation "eV" => (Memref.whole Cert.KernelIdeal.main_arg1_scv : Memref Cert.KernelIdeal.sig Kind.scVector Space.hbm Cert.KernelIdeal.S512x128 EltTy.i32)
local notation "oV" => (Memref.whole Cert.KernelIdeal.main_v0_scv : Memref Cert.KernelIdeal.sig Kind.scVector Space.hbm Cert.KernelIdeal.S32768x512 EltTy.f32)
local notation "aV" => (Memref.whole Cert.KernelIdeal.cc0_scoped0 : Memref Cert.KernelIdeal.sig Kind.scVector Space.vmem Cert.KernelIdeal.S2x1x128 EltTy.i32)
local notation "bV" => (Memref.whole Cert.KernelIdeal.cc0_scoped2 : Memref Cert.KernelIdeal.sig Kind.scVector Space.vmem Cert.KernelIdeal.S2x64x512 EltTy.f32)

variable (m : (ℓ : Loc nD τ sig) → Buf (Elt F) ℓ)

abbrev yLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0

abbrev cV (L : grid0.Coords) : Fin τ.nSC := (L 0).castLE hcore0
abbrev jV (L : grid0.Coords) : Fin τ.nSub := (L 1).castLE hsub0
/-- The subcore that works on the coordinates `L`. -/
abbrev VT (d : Dev nD) (L : grid0.Coords) : Thread nD τ := V d (cV L) (jV L)
abbrev aLoc (d : Dev nD) (L : grid0.Coords) : Loc nD τ sig := (VT d L).loc cc0_scoped0
abbrev bLoc (d : Dev nD) (L : grid0.Coords) : Loc nD τ sig := (VT d L).loc cc0_scoped2

/-! ## What the buffers hold -/

/-- The word of the index array that names the row for place `k` of block `r`. -/
def word (d : Dev nD) (r : Fin 512) (k : Fin 64) : BitVec 32 :=
  m (eLoc d) (ix2 r (⟨k.val, Nat.lt_of_lt_of_le k.isLt (by decide)⟩ : Fin 128) : S512x128.Idx)

/-- Column `c` of the row it names. -/
def gAt (d : Dev nD) (r : Fin 512) (k : Fin 64) (c : Fin 512) : Elt F .f32 :=
  m (yLoc d) (ix2 (Fin.ofNat 40960 (word m d r k).toNat) c : S40960x512.Idx)

/-- Every word read names a row of the table. -/
def PreOK : Prop := ∀ (d : Dev nD) (r : Fin 512) (k : Fin 64), (word m d r k).toNat < 40960

def aFill (d : Dev nD) (L : grid0.Coords) (r : Fin 512) : Buf (Elt F) (aLoc d L) :=
  fun (j : S2x1x128.Idx) => (m (eLoc d) (ix2 r (j 2) : S512x128.Idx) : BitVec 32)
def bFill (d : Dev nD) (L : grid0.Coords) (r : Fin 512) : Buf (Elt F) (bLoc d L) :=
  fun (j : S2x64x512.Idx) => (gAt m d r (j 1) (j 2) : Elt F .f32)
/-- The result. -/
def G (d : Dev nD) : Buf (Elt F) (oLoc d) :=
  fun (j : S32768x512.Idx) => (gAt m d ⟨(j 0).val / 64, Nat.div_lt_of_lt_mul (show (j 0).val < 64 * 512 from (j 0).isLt)⟩
    ⟨(j 0).val % 64, Nat.mod_lt _ (by decide)⟩ (j 1) : Elt F .f32)

abbrev aPts (d : Dev nD) (L : grid0.Coords) (p : Fin 2) (f : Buf (Elt F) (aLoc d L)) : sProp 𝕄 := aLoc d L ↦[(aSlot p).view.set]{fullShare} f
abbrev bPts (d : Dev nD) (L : grid0.Coords) (p : Fin 2) (f : Buf (Elt F) (bLoc d L)) : sProp 𝕄 := bLoc d L ↦[(bSlot p).view.set]{fullShare} f
abbrev ePts (d : Dev nD) (r : Fin 512) : sProp 𝕄 := eLoc d ↦[(eRow r).view.set]{fullShare} m (eLoc d)
abbrev oPts (d : Dev nD) (r : Fin 512) (f : Buf (Elt F) (oLoc d)) : sProp 𝕄 := oLoc d ↦[(oBlk r).view.set]{fullShare} f

abbrev NA : ℕ := (aSlot 0).view.dmaCredit
abbrev NB : ℕ := (oBlk 0).view.dmaCredit

/-- A fetch of row `r` of the index array under way into slot `p`. -/
abbrev FlightA (d : Dev nD) (L : grid0.Coords) (p : Fin 2) (r : Fin 512) : sProp 𝕄 :=
  Transfers.Flight countersEmb (VT d L) (.dma (semA p)) (default : HIx 1) NA iprop(aPts d L p (aFill m d L r) ∗ ePts m d r)
/-- A copy of half `p` under way out to block `r` of the result. -/
abbrev FlightB (d : Dev nD) (L : grid0.Coords) (p : Fin 2) (r : Fin 512) : sProp 𝕄 :=
  Transfers.Flight countersEmb (VT d L) (.dma (semB p)) (default : HIx 1) NB iprop(oPts d r (G m d) ∗ bPts d L p (bFill m d L r))

/-! ## What each transfer leaves, on the elements it covers -/

theorem fetch_fill (d : Dev nD) (L : grid0.Coords) (p : Fin 2) (r : Fin 512) (f : Buf (Elt F) (aLoc d L)) :
    ∀ j ∈ (aSlot p).view.set, (aSlot p).view.write (Elt F) f ((eRow r).view.read (Elt F) (m (eLoc d))) Finset.univ j = aFill m d L r j := by
  intro j hj
  obtain ⟨y, -, rfl⟩ := Finset.mem_map.mp hj
  rw [View.write_emb_of_mem _ _ (Finset.mem_univ y), View.read_apply, emb_aSlot, emb_eRow]
  rfl

theorem copy_fill (d : Dev nD) (L : grid0.Coords) (p : Fin 2) (r : Fin 512) (f : Buf (Elt F) (oLoc d)) :
    ∀ j ∈ (oBlk r).view.set, (oBlk r).view.write (Elt F) f ((bSlot p).view.read (Elt F) (bFill m d L r)) Finset.univ j = G m d j := by
  intro j hj
  obtain ⟨y, -, rfl⟩ := Finset.mem_map.mp hj
  rw [View.write_emb_of_mem _ _ (Finset.mem_univ y), View.read_apply, emb_bSlot, emb_oBlk]
  have hy : (y 0).val < 64 := (y 0).isLt
  show gAt m d r (y 0) (y 1) = gAt m d _ _ (y 1)
  congr 1 <;> apply Fin.ext
  · show r.val = (64 * r.val + (y 0).val) / 64; omega
  · show (y 0).val = (64 * r.val + (y 0).val) % 64; omega

theorem amountA (p : Fin 2) : (aSlot p).view.amount (.dma (semA p)) = NA := rfl
theorem amountB (p : Fin 2) (r : Fin 512) : (oBlk r).view.amount (.dma (semB p)) = NB := rfl
theorem creditA (p : Fin 2) : (aSlot p).view.dmaCredit = NA := rfl
theorem creditB (r : Fin 512) : (oBlk r).view.dmaCredit = NB := rfl

section Steps
variable {β : Type} [FloatOps F] (d : Dev nD) (L : grid0.Coords)

local notation "WP" => wp frame (wpE (defs₀ (F := F)) 𝒱₀ (VT d L) none) Set.univ

/-- The fetch: it takes the row, the slot and the cell at zero, and is then under way. -/
theorem fetch_issue (p : Fin 2) (r : Fin 512) {oA : Fin 3 → ℕ} {oE : Fin 2 → ℕ} {oS : Fin 1 → ℕ}
    (hA : oA = ![p.val, 0, 0]) (hE : oE = ![r.val, 0]) (hS : oS = ![p.val])
    {iA : ∀ a, oA a + S1x1x128.size a ≤ S2x1x128.size a} {iE : ∀ a, oE a + S1x128.size a ≤ S512x128.size a}
    {iS : ∀ a, oS a + S1.size a ≤ S2.size a} {h1 h2 h3} (Q : PUnit → sProp 𝕄) :
    iprop(ePts m d r ∗ (∃ f, aPts d L p f) ∗ semVal (VT d L, .dma (semA p)) 0)
      ⊢ iprop((FlightA m d L p r -∗ Q ⟨⟩) -∗ WP (Prog.lift (.enqueueDma ((eV).slice (Rect.unit (s := S512x128) oE S1x128.size iE) (fun _ => rfl))
          (.here (((aV).slice (Rect.unit (s := S2x1x128) oA S1x1x128.size iA) (fun _ => rfl)).squeeze S1x128 squeezes_S1x1x128_S1x128))
          (.dma ((cc0_scoped1.slice (Rect.unit (s := S2) oS S1.size iS)).squeeze S_ squeezes_S1_S_).sem) h1 h2 h3)) Q) := by
  subst hA hE hS
  iintro ⟨He, ⟨%f, Ha⟩, Hs⟩ Hk
  iapply (Transfers.wp_dmaLocal countersEmb 𝒱₀ (VT d L) none (default : HIx 1) NA (amountA p) (by decide) (Finset.Subset.refl (aSlot p).view.set)) $$ [He Ha Hs]
  · isplitl [He]; · iexact He
    isplitl [Ha]; · iexact Ha
    iexact Hs
  iintro Hfl
  rw [wp_ret]
  imodintro
  iapply Hk
  iapply (Transfers.Flight_mono countersEmb (VT d L) (show iprop(aPts d L p _ ∗ ePts m d r) ⊢ iprop(aPts d L p (aFill m d L r) ∗ ePts m d r) from
    sep_mono_l (Entails.of_eq (pointsTo_congr (fetch_fill m d L p r f)))))
  iexact Hfl

/-- Its wait. -/
theorem fetch_wait (p : Fin 2) (r : Fin 512) {oA : Fin 3 → ℕ} {oE : Fin 2 → ℕ} {oS : Fin 1 → ℕ}
    (hA : oA = ![p.val, 0, 0]) (hS : oS = ![p.val])
    {iA : ∀ a, oA a + S1x1x128.size a ≤ S2x1x128.size a} {iE : ∀ a, oE a + S1x128.size a ≤ S512x128.size a}
    {iS : ∀ a, oS a + S1.size a ≤ S2.size a} {h1 h2} (Q : PUnit → sProp 𝕄) {O : CellTallies nD τ sig (HIx 1)} (hO : ∀ g, O g none = 0)
    (W : Waits sig (HIx 1)) :
    iprop(levAts (K (F := F)).L (K (F := F)).lev ∗ FlightA m d L p r ∗ ∃ W', ⌜∀ p ∈ W', p ∈ W ∨ p.2 = none⌝ ∗ owes (VT d L) O W')
      ⊢ iprop((iprop((aPts d L p (aFill m d L r) ∗ ePts m d r) ∗ semVal (VT d L, .dma (semA p)) 0 ∗ ∃ W', ⌜∀ p ∈ W', p ∈ W ∨ p.2 = none⌝ ∗ owes (VT d L) O W') -∗ Q ⟨⟩)
        -∗ WP (Prog.lift (.waitDma2 ((cc0_scoped1.slice (Rect.unit (s := S2) oS S1.size iS)).squeeze S_ squeezes_S1_S_).sem
          ((eV).slice (Rect.unit (s := S512x128) oE S1x128.size iE) (fun _ => rfl))
          (((aV).slice (Rect.unit (s := S2x1x128) oA S1x1x128.size iA) (fun _ => rfl)).squeeze S1x128 squeezes_S1x1x128_S1x128) h1 h2)) Q) := by
  subst hA hS
  iintro ⟨#Hlv, Hfl, %W', %hW', HO⟩ Hk
  ihave Hmw := (show levAts (K (F := F)).L (K (F := F)).lev ⊢ Transfers.MayWaits (VT d L) (default : HIx 1) O from
    (K (F := F)).mayWaits_none (thr := VT d L) hO) $$ Hlv
  iapply (Transfers.wp_waitLocalO countersEmb 𝒱₀ (VT d L) none (default : HIx 1) (creditA p)) $$ [Hfl HO]
  · isplitl [Hfl]; · iexact Hfl
    isplitl [HO]; · iexact HO
    iapply (Transfers.MayWaits.elim (SemLoc.dma (semA p))) $$ Hmw
  iintro ⟨HD, Hsem, HO⟩
  rw [wp_ret]
  imodintro
  iapply Hk
  isplitl [HD]; · iexact HD
  isplitl [Hsem]; · iexact Hsem
  iexists _; isplitr
  swap; · iexact HO
  ipureintro; intro x hx
  rcases Finset.mem_insert.mp hx with hx | hx; · exact .inr (hx ▸ rfl)
  exact hW' x hx

/-- The copy of a finished half out to its block. -/
theorem copy_issue (p : Fin 2) (r : Fin 512) {oB : Fin 3 → ℕ} {oO : Fin 2 → ℕ} {oS : Fin 1 → ℕ}
    (hB : oB = ![p.val, 0, 0]) (hO : oO = ![64 * r.val, 0]) (hS : oS = ![p.val])
    {iB : ∀ a, oB a + S1x64x512.size a ≤ S2x64x512.size a} {iO : ∀ a, oO a + S64x512.size a ≤ S32768x512.size a}
    {iS : ∀ a, oS a + S1.size a ≤ S2.size a} {h1 h2 h3} (Q : PUnit → sProp 𝕄) :
    iprop(bPts d L p (bFill m d L r) ∗ oPts d r (m (oLoc d)) ∗ semVal (VT d L, .dma (semB p)) 0)
      ⊢ iprop((FlightB m d L p r -∗ Q ⟨⟩) -∗ WP (Prog.lift (.enqueueDma
          (((bV).slice (Rect.unit (s := S2x64x512) oB S1x64x512.size iB) (fun _ => rfl)).squeeze S64x512 squeezes_S1x64x512_S64x512)
          (.here ((oV).slice (Rect.unit (s := S32768x512) oO S64x512.size iO) (fun _ => rfl)))
          (.dma ((cc0_scoped3.slice (Rect.unit (s := S2) oS S1.size iS)).squeeze S_ squeezes_S1_S_).sem) h1 h2 h3)) Q) := by
  subst hB hO hS
  iintro ⟨Hb, Ho, Hs⟩ Hk
  iapply (Transfers.wp_dmaLocal countersEmb 𝒱₀ (VT d L) none (default : HIx 1) NB (amountB p r) (by decide) (Finset.Subset.refl (oBlk r).view.set)) $$ [Hb Ho Hs]
  · isplitl [Hb]; · iexact Hb
    isplitl [Ho]; · iexact Ho
    iexact Hs
  iintro Hfl
  rw [wp_ret]
  imodintro
  iapply Hk
  iapply (Transfers.Flight_mono countersEmb (VT d L) (show iprop(oPts d r _ ∗ bPts d L p (bFill m d L r)) ⊢ iprop(oPts d r (G m d) ∗ bPts d L p (bFill m d L r)) from
    sep_mono_l (Entails.of_eq (pointsTo_congr (copy_fill m d L p r (m (oLoc d)))))))
  iexact Hfl

/-- Its wait. -/
theorem copy_wait (p : Fin 2) (r : Fin 512) {oB : Fin 3 → ℕ} {oO : Fin 2 → ℕ} {oS : Fin 1 → ℕ}
    (hB : oB = ![p.val, 0, 0]) (hOo : oO = ![64 * r.val, 0]) (hS : oS = ![p.val])
    {iB : ∀ a, oB a + S1x64x512.size a ≤ S2x64x512.size a} {iO : ∀ a, oO a + S64x512.size a ≤ S32768x512.size a}
    {iS : ∀ a, oS a + S1.size a ≤ S2.size a} {h1 h2} (Q : PUnit → sProp 𝕄) {O : CellTallies nD τ sig (HIx 1)} (hO : ∀ g, O g none = 0)
    (W : Waits sig (HIx 1)) :
    iprop(levAts (K (F := F)).L (K (F := F)).lev ∗ FlightB m d L p r ∗ ∃ W', ⌜∀ p ∈ W', p ∈ W ∨ p.2 = none⌝ ∗ owes (VT d L) O W')
      ⊢ iprop((iprop((oPts d r (G m d) ∗ bPts d L p (bFill m d L r)) ∗ semVal (VT d L, .dma (semB p)) 0 ∗ ∃ W', ⌜∀ p ∈ W', p ∈ W ∨ p.2 = none⌝ ∗ owes (VT d L) O W') -∗ Q ⟨⟩)
        -∗ WP (Prog.lift (.waitDma2 ((cc0_scoped3.slice (Rect.unit (s := S2) oS S1.size iS)).squeeze S_ squeezes_S1_S_).sem
          (((bV).slice (Rect.unit (s := S2x64x512) oB S1x64x512.size iB) (fun _ => rfl)).squeeze S64x512 squeezes_S1x64x512_S64x512)
          ((oV).slice (Rect.unit (s := S32768x512) oO S64x512.size iO) (fun _ => rfl)) h1 h2)) Q) := by
  subst hB hOo hS
  iintro ⟨#Hlv, Hfl, %W', %hW', HO⟩ Hk
  ihave Hmw := (show levAts (K (F := F)).L (K (F := F)).lev ⊢ Transfers.MayWaits (VT d L) (default : HIx 1) O from
    (K (F := F)).mayWaits_none (thr := VT d L) hO) $$ Hlv
  iapply (Transfers.wp_waitLocalO countersEmb 𝒱₀ (VT d L) none (default : HIx 1) (creditB r)) $$ [Hfl HO]
  · isplitl [Hfl]; · iexact Hfl
    isplitl [HO]; · iexact HO
    iapply (Transfers.MayWaits.elim (SemLoc.dma (semB p))) $$ Hmw
  iintro ⟨HD, Hsem, HO⟩
  rw [wp_ret]
  imodintro
  iapply Hk
  isplitl [HD]; · iexact HD
  isplitl [Hsem]; · iexact Hsem
  iexists _; isplitr
  swap; · iexact HO
  ipureintro; intro x hx
  rcases Finset.mem_insert.mp hx with hx | hx; · exact .inr (hx ▸ rfl)
  exact hW' x hx

/-! ## The gather of a strip -/

abbrev sPts (p : Fin 2) (c : ℕ) (hc : ∀ a, (![0, c] : Fin 2 → ℕ) a + S64x128.size a ≤ S64x512.size a) (f : Buf (Elt F) (bLoc d L)) : sProp 𝕄 :=
  bLoc d L ↦[(bStrip p c hc).view.set]{fullShare} f

theorem aList_read (p : Fin 2) (r : Fin 512) (k : S64.Idx) : (aList p).view.read (Elt F) (aFill m d L r) k = word m d r (k 0) := by
  rw [View.read_apply, emb_aList]; rfl

theorem offs_lt (hpre : PreOK m) (p : Fin 2) (r : Fin 512) :
    ∀ x, ((aList p).view.read (Elt F) (aFill m d L r) x).toNat < S40960x128.size gathers_S40960x128_S64x128.axis := by
  intro x; rw [aList_read]; exact hpre d r _

theorem gather_fill (hpre : PreOK m) (p : Fin 2) (r : Fin 512) (c : ℕ) (hc : ∀ a, (![0, c] : Fin 2 → ℕ) a + S64x128.size a ≤ S64x512.size a)
    (hc' : ∀ a, (![0, c] : Fin 2 → ℕ) a + S40960x128.size a ≤ S40960x512.size a) (f : Buf (Elt F) (bLoc d L)) (hn) :
    ∀ j ∈ (bStrip p c hc).view.set, (bStrip p c hc).view.write (Elt F) f
      (SparseCore.gatherPayload gathers_S40960x128_S64x128 ((yStrip c hc').view.read (Elt F) (m (yLoc d)))
        (SparseCore.rows ((aList p).view.read (Elt F) (aFill m d L r)) hn (offs_lt m d L hpre p r))) Finset.univ j = bFill m d L r j := by
  intro j hj
  obtain ⟨y, -, rfl⟩ := Finset.mem_map.mp hj
  rw [View.write_emb_of_mem _ _ (Finset.mem_univ y), emb_bStrip]
  unfold SparseCore.gatherPayload
  rw [View.read_apply, emb_yStrip]
  show m (yLoc d) (ix2 _ _ : S40960x512.Idx) = m (yLoc d) (ix2 _ _ : S40960x512.Idx)
  congr 1
  have hk : (S64.rowMajor.symm ((y gathers_S40960x128_S64x128.axis').cast hn.symm)) 0 = (y 0 : Fin 64) := by
    apply Fin.ext
    rw [← Shape.rowMajor_val_one, Equiv.apply_symm_apply]; rfl
  have e0 : ((gathers_S40960x128_S64x128.idx (SparseCore.rows ((aList p).view.read (Elt F) (aFill m d L r)) hn (offs_lt m d L hpre p r)) y)
      (0 : Fin 2)).val = (word m d r (y 0)).toNat := by
    rw [show (gathers_S40960x128_S64x128.idx (SparseCore.rows ((aList p).view.read (Elt F) (aFill m d L r)) hn (offs_lt m d L hpre p r)) y) (0 : Fin 2) = _
      from Shape.Gathers.idx_axis gathers_S40960x128_S64x128 _ y]
    show ((aList p).view.read (Elt F) (aFill m d L r) _).toNat = _
    rw [aList_read, hk]
  have e1 : ((gathers_S40960x128_S64x128.idx (SparseCore.rows ((aList p).view.read (Elt F) (aFill m d L r)) hn (offs_lt m d L hpre p r)) y)
      (1 : Fin 2)).val = (y 1).val := Shape.Gathers.idx_of_ne gathers_S40960x128_S64x128 _ y (1 : Fin 2) (by decide)
  funext b; apply Fin.ext; fin_cases b
  · refine e0.trans ?_
    exact (Nat.mod_eq_of_lt (hpre d r (y 0))).symm
  · exact congrArg (c + ·) e1

theorem aList_sub (p : Fin 2) : (aList p).view.set ⊆ (aSlot p).view.set := by
  intro j hj
  obtain ⟨y, -, rfl⟩ := Finset.mem_map.mp hj
  rw [mem_aSlot, emb_aList]

/-- The gather of the strip at column `c` and its wait: it takes a share of the row table, the fetched words, the strip and
    the cell at zero, and gives them back, the strip filled. -/
theorem gather_step (hpre : PreOK m) (p : Fin 2) (r : Fin 512) (c : ℕ) {hc : ∀ a, (![0, c] : Fin 2 → ℕ) a + S64x128.size a ≤ S64x512.size a}
    {hc' : ∀ a, (![0, c] : Fin 2 → ℕ) a + S40960x128.size a ≤ S40960x512.size a} {oA oB : Fin 3 → ℕ}
    (hA : oA = ![p.val, 0, 0]) (hB : oB = ![p.val, 0, 0])
    {iA : ∀ a, oA a + S1x1x128.size a ≤ S2x1x128.size a} {iB : ∀ a, oB a + S1x64x512.size a ≤ S2x64x512.size a}
    (sem : DmaSem sig) {qy : PosShare TreeShare}
    {g1 g2 g3 g4 g5 g6 g7 g8} (k : PUnit → Prog (TpuEff nD τ sig (Elt F) Λ₀ (VT d L).2) β) (Q : β → sProp 𝕄) {O : CellTallies nD τ sig (HIx 1)} (hO : ∀ g, O g none = 0)
    (W : Waits sig (HIx 1)) :
    iprop(levAts (K (F := F)).L (K (F := F)).lev ∗ (yLoc d ↦{qy} m (yLoc d)) ∗ aPts d L p (aFill m d L r) ∗ (∃ f, sPts d L p c hc f)
        ∗ semVal (VT d L, .dma sem) 0 ∗ ∃ W', ⌜∀ p ∈ W', p ∈ W ∨ p.2 = none⌝ ∗ owes (VT d L) O W')
      ⊢ iprop((iprop((yLoc d ↦{qy} m (yLoc d)) ∗ aPts d L p (aFill m d L r) ∗ sPts d L p c hc (bFill m d L r)
          ∗ semVal (VT d L, .dma sem) 0 ∗ ∃ W', ⌜∀ p ∈ W', p ∈ W ∨ p.2 = none⌝ ∗ owes (VT d L) O W') -∗ WP (k ⟨⟩) Q)
        -∗ WP (SparseCore.enqueueIndirectGather g1
            ((yV).slice (Rect.unit (s := S40960x512) ![0, c] S40960x128.size hc') (fun _ => rfl))
            ((((bV).slice (Rect.unit (s := S2x64x512) oB S1x64x512.size iB) (fun _ => rfl)).squeeze S64x512 squeezes_S1x64x512_S64x512).slice (Rect.unit (s := S64x512) ![0, c] S64x128.size hc) (fun _ => rfl))
            gathers_S40960x128_S64x128
            (((((aV).slice (Rect.unit (s := S2x1x128) oA S1x1x128.size iA) (fun _ => rfl)).squeeze S1x128 squeezes_S1x1x128_S1x128).slice (Rect.unit (s := S1x128) ![0, 0] S1x64.size inb_S1x128_S1x64_0_0) (fun _ => rfl)).squeeze S64 squeezes_S1x64_S64)
            g2 sem g3 g4 g5 g6 >>= fun _ =>
          SparseCore.waitIndirectGather sem
            ((yV).slice (Rect.unit (s := S40960x512) ![0, c] S40960x128.size hc') (fun _ => rfl))
            ((((bV).slice (Rect.unit (s := S2x64x512) oB S1x64x512.size iB) (fun _ => rfl)).squeeze S64x512 squeezes_S1x64x512_S64x512).slice (Rect.unit (s := S64x512) ![0, c] S64x128.size hc) (fun _ => rfl))
            g7 g8 >>= k) Q) := by
  subst hA hB
  iintro ⟨#Hlv, Hy, Ha, ⟨%f, Hb⟩, Hs, %W', %hW', HO⟩ Hk
  ihave Hmw := (show levAts (K (F := F)).L (K (F := F)).lev ⊢ Transfers.MayWaits (VT d L) (default : HIx 1) O from
    (K (F := F)).mayWaits_none (thr := VT d L) hO) $$ Hlv
  ihave Hys := (pointsTo_split_subset (q := qy) (f := m (yLoc d)) (S := Finset.univ) (Finset.subset_univ (yStrip c hc').view.set)).1 $$ Hy
  icases Hys with ⟨Hy, Hyr⟩
  ihave Has := (pointsTo_split_subset (q := fullShare) (f := aFill m d L r) (aList_sub p)).1 $$ Ha
  icases Has with ⟨Ha, Har⟩
  have hN : ∀ h : S40960x128.Gathers 0 S64x128, ∑ j, ((bStrip p c hc).slice (S64x128.rowRect h.axis' j) (S64x128.stride_rowRect h.axis' j)).view.dmaCredit
      = (bStrip p c hc).view.dmaCredit := by
    intro h
    exact (show ∀ h : S40960x128.Gathers 0 S64x128, ∑ j, ((bStrip 0 0 inb_S64x512_S64x128_0_0).slice (S64x128.rowRect h.axis' j) (S64x128.stride_rowRect h.axis' j)).view.dmaCredit
      = (bStrip 0 0 inb_S64x512_S64x128_0_0).view.dmaCredit by decide) h
  iapply (SparseCore.wp_indirectGatherLocal countersEmb 𝒱₀ (VT d L) none (hg := gathers_S40960x128_S64x128) (default : HIx 1)
      (bStrip p c hc).view.dmaCredit (hN _) (by decide) (offs_lt m d L hpre p r)) $$ [Hy Hb Ha Hs]
  · isplitl [Hy]; · iexact Hy
    isplitl [Hb]; · iexact Hb
    isplitl [Ha]; · iexact Ha
    iexact Hs
  iintro Hfl
  iapply (Transfers.wp_waitLocalO countersEmb 𝒱₀ (VT d L) none (default : HIx 1) (rfl : (bStrip p c hc).view.dmaCredit = _)) $$ [Hfl HO]
  · isplitl [Hfl]; · iexact Hfl
    isplitl [HO]; · iexact HO
    iapply (Transfers.MayWaits.elim (SemLoc.dma sem)) $$ Hmw
  iintro ⟨⟨Hb, Hy, Ha⟩, Hsem, HO⟩
  iapply Hk
  isplitl [Hy Hyr]
  · iapply (pointsTo_split_subset (q := qy) (f := m (yLoc d)) (S := Finset.univ) (Finset.subset_univ (yStrip c hc').view.set)).2
    isplitl [Hy]
    · iexact Hy
    · iexact Hyr
  isplitl [Ha Har]
  · iapply (pointsTo_split_subset (q := fullShare) (f := aFill m d L r) (aList_sub p)).2
    isplitl [Ha]
    · iexact Ha
    · iexact Har
  isplitl [Hb]
  · iapply (Entails.of_eq (pointsTo_congr (gather_fill m d L hpre p r c hc hc' f _)))
    iexact Hb
  isplitl [Hsem]; · iexact Hsem
  iexists _; isplitr
  swap; · iexact HO
  ipureintro; intro x hx
  rcases Finset.mem_insert.mp hx with hx | hx; · exact .inr (hx ▸ rfl)
  exact hW' x hx

/-- A half is its four strips. -/
theorem bPts_strips (p : Fin 2) (f : Buf (Elt F) (bLoc d L)) :
    (bPts d L p f : sProp 𝕄) ⊣⊢ iprop(sPts d L p 0 inb_S64x512_S64x128_0_0 f ∗ sPts d L p 128 inb_S64x512_S64x128_0_128 f
      ∗ sPts d L p 256 inb_S64x512_S64x128_0_256 f ∗ sPts d L p 384 inb_S64x512_S64x128_0_384 f) := by
  have h3 : (((bSlot p).view.set \ (bStrip p 0 inb_S64x512_S64x128_0_0).view.set) \ (bStrip p 128 inb_S64x512_S64x128_0_128).view.set)
      \ (bStrip p 256 inb_S64x512_S64x128_0_256).view.set = (bStrip p 384 inb_S64x512_S64x128_0_384).view.set := by
    refine Finset.ext fun (j : S2x64x512.Idx) => ?_
    have hj : (j 2).val < 512 := (j 2).isLt
    simp only [Finset.mem_sdiff]
    rw [mem_bSlot, mem_bStrip, mem_bStrip, mem_bStrip, mem_bStrip]
    omega
  have e0 := pointsTo_split_subset (ℓ := bLoc d L) (q := fullShare) (f := f) (show (bStrip p 0 inb_S64x512_S64x128_0_0).view.set ⊆ (bSlot p).view.set from
    fun (j : S2x64x512.Idx) hj => by rw [mem_bStrip] at hj; rw [mem_bSlot]; omega) (Ix := HIx 1) (Name := ℕ) (U := UU) (Lvl := ℕ)
  have e1 := pointsTo_split_subset (ℓ := bLoc d L) (q := fullShare) (f := f) (show (bStrip p 128 inb_S64x512_S64x128_0_128).view.set ⊆
      (bSlot p).view.set \ (bStrip p 0 inb_S64x512_S64x128_0_0).view.set from
    fun (j : S2x64x512.Idx) hj => by rw [mem_bStrip] at hj; rw [Finset.mem_sdiff, mem_bSlot, mem_bStrip]; omega) (Ix := HIx 1) (Name := ℕ) (U := UU) (Lvl := ℕ)
  have e2 := pointsTo_split_subset (ℓ := bLoc d L) (q := fullShare) (f := f) (show (bStrip p 256 inb_S64x512_S64x128_0_256).view.set ⊆
      ((bSlot p).view.set \ (bStrip p 0 inb_S64x512_S64x128_0_0).view.set) \ (bStrip p 128 inb_S64x512_S64x128_0_128).view.set from
    fun (j : S2x64x512.Idx) hj => by rw [mem_bStrip] at hj; rw [Finset.mem_sdiff, Finset.mem_sdiff, mem_bSlot, mem_bStrip, mem_bStrip]; omega) (Ix := HIx 1) (Name := ℕ) (U := UU) (Lvl := ℕ)
  rw [h3] at e2
  constructor
  · exact e0.1.trans (sep_mono_r (e1.1.trans (sep_mono_r e2.1)))
  · exact (sep_mono_r ((sep_mono_r e2.2).trans e1.2)).trans e0.2

end Steps
end Cert.Proof.Collect

end
-- ==== Proof.Trip.lean ====
/-
  The trip of the collect's pipeline: what the loop holds before trip `t`, and each part of the body against it.
-/
module

public import proofs.«01_k».proof.Proof.Ops

@[expose] public section

set_option maxRecDepth 16384
set_option Elab.async false

noncomputable section

namespace Cert.Proof.Collect

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "yV" => (Memref.whole Cert.KernelIdeal.main_arg0_scv : Memref Cert.KernelIdeal.sig Kind.scVector Space.hbm Cert.KernelIdeal.S40960x512 EltTy.f32)
local notation "eV" => (Memref.whole Cert.KernelIdeal.main_arg1_scv : Memref Cert.KernelIdeal.sig Kind.scVector Space.hbm Cert.KernelIdeal.S512x128 EltTy.i32)
local notation "oV" => (Memref.whole Cert.KernelIdeal.main_v0_scv : Memref Cert.KernelIdeal.sig Kind.scVector Space.hbm Cert.KernelIdeal.S32768x512 EltTy.f32)
local notation "aV" => (Memref.whole Cert.KernelIdeal.cc0_scoped0 : Memref Cert.KernelIdeal.sig Kind.scVector Space.vmem Cert.KernelIdeal.S2x1x128 EltTy.i32)
local notation "bV" => (Memref.whole Cert.KernelIdeal.cc0_scoped2 : Memref Cert.KernelIdeal.sig Kind.scVector Space.vmem Cert.KernelIdeal.S2x64x512 EltTy.f32)

variable (m : (ℓ : Loc nD τ sig) → Buf (Elt F) ℓ)

/-! ## The slot and the row of a trip -/

abbrev par (t : ℕ) : Fin 2 := ⟨t % 2, Nat.mod_lt _ (by decide)⟩
abbrev bR (L : grid0.Coords) (s : ℕ) : Fin 512 := ⟨blockRow L s % 512, Nat.mod_lt _ (by decide)⟩

theorem blockRow_lt : ∀ (L : grid0.Coords) (s : Fin 16), blockRow L s.val < 512 := by decide +kernel
theorem bR_val (L : grid0.Coords) {s : ℕ} (hs : s < 16) : (bR L s).val = blockRow L s := Nat.mod_eq_of_lt (blockRow_lt L ⟨s, hs⟩)
theorem par_two (t : ℕ) : par (t + 2) = par t := Fin.ext (Nat.add_mod_right t 2)
theorem par_pred {t : ℕ} (h : 0 < t) : par (t - 1) = par (t + 1) := Fin.ext (show (t - 1) % 2 = (t + 1) % 2 by omega)

/-! ## Sixteen rows, one or two set apart -/

section Rest
variable {M : Type} [Idealize.SL.RA.URA M] (Φ : Fin 16 → sProp M)

/-- All but trip `t`'s. -/
def rest (t : ℕ) : sProp M := bigSep (Finset.univ.filter fun s : Fin 16 => s.val ≠ t) Φ
/-- All but trips `t`'s and `t + 1`'s. -/
def mid (t : ℕ) : sProp M := bigSep (Finset.univ.filter fun s : Fin 16 => s.val ≠ t ∧ s.val ≠ t + 1) Φ

theorem all_eq_rest (t : Fin 16) : bigSep Finset.univ Φ = iprop(Φ t ∗ rest Φ t.val) := by
  rw [SparseCore.bigSep_erase' (Finset.mem_univ t), rest]
  congr 2
  ext s; simp [Fin.ext_iff]

theorem rest_past (t : ℕ) (ht : 16 ≤ t) : rest Φ t = bigSep Finset.univ Φ := by
  rw [rest]; congr 1; ext s; simp <;> omega

theorem rest_eq_mid (t : ℕ) (h : t + 1 < 16) : rest Φ t = iprop(Φ ⟨t + 1, h⟩ ∗ mid Φ t) := by
  rw [rest, SparseCore.bigSep_erase' (i := (⟨t + 1, h⟩ : Fin 16)) (by simp), mid]
  congr 2
  ext s; simp [Fin.ext_iff] <;> omega

theorem rest_last (t : ℕ) (h : 16 ≤ t + 1) : rest Φ t = mid Φ t := by
  rw [rest, mid]; congr 1; ext s; simp <;> omega

theorem rest_succ (t : ℕ) (h : t < 16) : rest Φ (t + 1) = iprop(Φ ⟨t, h⟩ ∗ mid Φ t) := by
  rw [rest, SparseCore.bigSep_erase' (i := (⟨t, h⟩ : Fin 16)) (by simp), mid]
  congr 2
  ext s; simp [Fin.ext_iff] <;> omega

theorem rest_congr {Ψ : Fin 16 → sProp M} (t : ℕ) (h : ∀ s : Fin 16, s.val ≠ t → Φ s = Ψ s) : rest Φ t = rest Ψ t :=
  bigSep_congr fun s hs => h s (Finset.mem_filter.mp hs).2
theorem mid_congr {Ψ : Fin 16 → sProp M} (t : ℕ) (h : ∀ s : Fin 16, s.val ≠ t → s.val ≠ t + 1 → Φ s = Ψ s) : mid Φ t = mid Ψ t :=
  bigSep_congr fun s hs => h s (Finset.mem_filter.mp hs).2.1 (Finset.mem_filter.mp hs).2.2
end Rest

section Trip
variable [FloatOps F] (d : Dev nD) (L : grid0.Coords)

local notation "WP" => wp frame (wpE (defs₀ (F := F)) 𝒱₀ (VT d L) none) Set.univ

/-! ## What the loop holds -/

abbrev freeA (p : Fin 2) : sProp 𝕄 := iprop((∃ f, aPts d L p f) ∗ semVal (VT d L, .dma (semA p)) 0)
abbrev freeB (p : Fin 2) : sProp 𝕄 := iprop((∃ f, bPts d L p f) ∗ semVal (VT d L, .dma (semB p)) 0)
/-- The rows of the index array that no fetch holds before trip `t`. -/
abbrev eRest (t : ℕ) : sProp 𝕄 := rest (fun s : Fin 16 => ePts m d (bR L s.val)) t
/-- The blocks of the result that no copy holds before trip `t`: those below it written. -/
abbrev oAt (t : ℕ) (s : Fin 16) : sProp 𝕄 := oPts d (bR L s.val) (if s.val < t then G m d else m (oLoc d))
def oRest : ℕ → sProp 𝕄
  | 0 => bigSep Finset.univ (oAt m d L 0)
  | t + 1 => rest (oAt m d L t) t
def oMid : ℕ → sProp 𝕄
  | 0 => rest (oAt m d L 0) 0
  | t + 1 => mid (oAt m d L t) t
def aCur (t : ℕ) : sProp 𝕄 := if t < 16 then FlightA m d L (par t) (bR L t) else freeA d L (par t)
def bPrev (t : ℕ) : sProp 𝕄 := if 0 < t then FlightB m d L (par (t + 1)) (bR L (t - 1)) else freeB d L (par (t + 1))
abbrev OW (O : CellTallies nD τ sig (HIx 1)) (W : Waits sig (HIx 1)) : sProp 𝕄 :=
  iprop(∃ W', ⌜∀ p ∈ W', p ∈ W ∨ p.2 = none⌝ ∗ owes (VT d L) O W')

theorem oAt_new {t : ℕ} {s : Fin 16} (h : ¬ s.val < t) : oAt m d L t s = oPts d (bR L s.val) (m (oLoc d)) := by
  unfold oAt; rw [if_neg h]
theorem oAt_old {t : ℕ} {s : Fin 16} (h : s.val < t) : oAt m d L t s = oPts d (bR L s.val) (G m d) := by
  unfold oAt; rw [if_pos h]

theorem oRest_take (t : ℕ) (ht : t < 16) : oRest m d L t = iprop(oPts d (bR L t) (m (oLoc d)) ∗ oMid m d L t) := by
  cases t with
  | zero => rw [oRest, all_eq_rest (oAt m d L 0) 0, oMid, oAt_new m d L (by decide)]; rfl
  | succ t => rw [oRest, rest_eq_mid _ t ht, oMid, oAt_new m d L (by simp)]

theorem oRest_first : oRest m d L 1 = oMid m d L 0 := rfl

theorem oRest_put (t : ℕ) (h0 : 0 < t) (ht : t < 16) : oRest m d L (t + 1) = iprop(oPts d (bR L (t - 1)) (G m d) ∗ oMid m d L t) := by
  obtain ⟨t, rfl⟩ : ∃ u, t = u + 1 := ⟨t - 1, by omega⟩
  rw [oRest, rest_succ _ t (by omega), oMid, oAt_old m d L (by simp)]
  congr 1
  refine mid_congr _ t fun s h1 h2 => ?_
  by_cases hs : s.val < t
  · rw [oAt_old m d L hs, oAt_old m d L (by omega)]
  · rw [oAt_new m d L hs, oAt_new m d L (by omega)]

theorem oRest_end : iprop(oPts d (bR L 15) (G m d) ∗ oRest m d L 16) = bigSep Finset.univ fun s : Fin 16 => oPts d (bR L s.val) (G m d) := by
  rw [all_eq_rest _ (15 : Fin 16), oRest]
  refine congrArg (fun X => iprop(oPts d (bR L 15) (G m d) ∗ X)) ?_
  exact rest_congr _ 15 fun s hs => oAt_old m d L (by have := s.isLt; omega)

end Trip
end Cert.Proof.Collect

end
-- ==== Proof.Parts.lean ====
/-
  The printed parts of the collect's trip, each run from what the loop holds.
-/
module

public import proofs.«01_k».proof.Proof.Trip

@[expose] public section

set_option maxRecDepth 16384
set_option Elab.async false

noncomputable section

namespace Cert.Proof.Collect

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "yV" => (Memref.whole Cert.KernelIdeal.main_arg0_scv : Memref Cert.KernelIdeal.sig Kind.scVector Space.hbm Cert.KernelIdeal.S40960x512 EltTy.f32)
local notation "eV" => (Memref.whole Cert.KernelIdeal.main_arg1_scv : Memref Cert.KernelIdeal.sig Kind.scVector Space.hbm Cert.KernelIdeal.S512x128 EltTy.i32)
local notation "oV" => (Memref.whole Cert.KernelIdeal.main_v0_scv : Memref Cert.KernelIdeal.sig Kind.scVector Space.hbm Cert.KernelIdeal.S32768x512 EltTy.f32)
local notation "aV" => (Memref.whole Cert.KernelIdeal.cc0_scoped0 : Memref Cert.KernelIdeal.sig Kind.scVector Space.vmem Cert.KernelIdeal.S2x1x128 EltTy.i32)
local notation "bV" => (Memref.whole Cert.KernelIdeal.cc0_scoped2 : Memref Cert.KernelIdeal.sig Kind.scVector Space.vmem Cert.KernelIdeal.S2x64x512 EltTy.f32)

variable (m : (ℓ : Loc nD τ sig) → Buf (Elt F) ℓ)

section Parts
variable [FloatOps F] (d : Dev nD) (L : grid0.Coords)

local notation "WP" => wp frame (wpE (defs₀ (F := F)) 𝒱₀ (VT d L) none) Set.univ

/-! ## The words each part hands on -/

/-- The subcore's offset in a group of 256 rows. -/
abbrev u4 (L : grid0.Coords) : BitVec 32 := BitVec.ofNat 32 (8 * ((L 1).val + 16 * (L 0).val))
abbrev u1 (t n : ℕ) : BitVec 1 := if t = n then 1#1 else 0#1
abbrev uc (L : grid0.Coords) (s : ℕ) : BitVec 32 := BitVec.ofNat 32 (s % 8 + 8 * ((L 1).val + 16 * (L 0).val))
abbrev bw (L : grid0.Coords) (s : ℕ) : BitVec 32 := BitVec.ofNat 32 (blockRow L (s % 16))

theorem ret_step {β : Type} (a : β) (Q : β → sProp 𝕄) : Q a ⊢ WP (Prog.ret a) Q := by
  rw [wp_ret]; exact fupd_intro

theorem part1_run (t : Fin k0_t1_loop.trips) (Q : _ → sProp 𝕄) :
    iprop(∀ r, ⌜r.2.2.2.1 = BitVec.ofNat 32 t.val ∧ r.2.2.2.2.1 = u1 t.val 0 ∧ r.2.2.2.2.2.1 = u1 t.val 15 ∧ r.2.2.2.2.2.2.1 = w10 t.val
        ∧ r.2.2.2.2.2.2.2.1 = uc L t.val ∧ r.2.2.2.2.2.2.2.2.1 = w10 (t.val + 15) ∧ r.2.2.2.2.2.2.2.2.2.1 = uc L (t.val + 15)
        ∧ r.2.2.2.2.2.2.2.2.2.2.1 = w10 (t.val + 1) ∧ r.2.2.2.2.2.2.2.2.2.2.2.1 = uc L (t.val + 1)⌝ -∗ Q r)
      ⊢ WP (k0_part1 (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7 (u4 L) 0#32 1#32 t (w6 t.val) (w7 t.val) (w7 t.val) (w9 t.val) (w10 t.val) (w11 t.val)) Q := by
  rw [k0_part1_eq_skeleton]; unfold k0_part1_skel
  iintro Hk
  iapply (wp_assume 𝒱₀ (VT d L) none Set.univ (chk3_ok t))
  iapply (wp_assume 𝒱₀ (VT d L) none Set.univ (chk2_ok t))
  iapply (wp_assume 𝒱₀ (VT d L) none Set.univ (chk1_ok L t))
  iapply (ret_step d L)
  iapply Hk
  ipureintro
  clear * -
  revert L t
  decide +kernel

theorem eRest_step (t : ℕ) (ht : t < 16) : eRest m d L (t + 1) = iprop(ePts m d (bR L t) ∗ mid (fun s : Fin 16 => ePts m d (bR L s.val)) t) :=
  rest_succ _ t ht

theorem part2_run (t : Fin k0_t1_loop.trips) (hw1) (v127 v129 : BitVec 32) (v130 : BitVec 1)
    {O : CellTallies nD τ sig (HIx 1)} (hO : ∀ g, O g none = 0) (W : Waits sig (HIx 1)) (Q : _ → sProp 𝕄) :
    iprop(levAts (K (F := F)).L (K (F := F)).lev ∗ eRest m d L t.val ∗ FlightA m d L (par t.val) (bR L t.val) ∗ freeA d L (par (t.val + 1)) ∗ OW d L O W)
      ⊢ iprop((∀ r, (⌜r.1 = bw L t.val ∧ r.2.1 = bw L (t.val + 1) ∧ r.2.2.1 = w6 (t.val + 1) ∧ r.2.2.2.1 = bw L t.val ∧ r.2.2.2.2.1 = bw L (t.val + 1)
          ∧ r.2.2.2.2.2.1 = bw L (t.val + 15) ∧ r.2.2.2.2.2.2.1 = bw L (t.val + 15)⌝
          ∗ eRest m d L (t.val + 1) ∗ aCur m d L (t.val + 1) ∗ aPts d L (par t.val) (aFill m d L (bR L t.val)) ∗ semVal (VT d L, .dma (semA (par t.val))) 0 ∗ OW d L O W) -∗ Q r)
        -∗ WP (k0_part2 (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7 (u4 L) t (w6 t.val) (w7 t.val) (w7 t.val) (w9 t.val) (w10 t.val) (w11 t.val)
          hw1 (BitVec.ofNat 32 t.val) (u1 t.val 0) (w10 t.val) (uc L t.val) (w10 (t.val + 15)) (uc L (t.val + 15)) (w10 (t.val + 1)) (uc L (t.val + 1)) v127 v129 v130) Q) := by
  have ht : t.val < 16 := trips_eq ▸ t.isLt
  rw [k0_part2_eq_skeleton]; unfold k0_part2_skel
  dsimp only
  iintro ⟨#Hlv, He, HfA, HaN, HO⟩ Hk
  have e7 := off7_eq t
  have e9 := off9_eq t
  by_cases h1 : t.val < 15
  · rw [dif_pos (cond2_eq L t), dif_pos ((cond1_eq L t).2 h1)]
    ihave He' := (Entails.of_eq (rest_eq_mid (fun s : Fin 16 => ePts m d (bR L s.val)) t.val (by omega))) $$ He
    icases He' with ⟨HeN, Hmid⟩
    rw [wp_bind]
    iapply (fetch_issue m d L (par (t.val + 1)) (bR L (t.val + 1)) ((off4_eq t).trans (by rw [Nat.min_eq_left (by omega)]))
      ((off5_eq L t h1).trans (by rw [bR_val L (by omega)])) ((off6_eq t).trans (by rw [Nat.min_eq_left (by omega)]))) $$ [HeN HaN]
    · isplitl [HeN]; · iexact HeN
      iexact HaN
    iintro HfN
    rw [wp_bind]
    iapply (fetch_wait m d L (par t.val) (bR L t.val) e7 e9 _ hO W) $$ [HfA HO]
    · isplitr; · iexact Hlv
      isplitl [HfA]; · iexact HfA
      iexact HO
    iintro ⟨⟨Ha, He⟩, Hs, HO⟩
    iapply (ret_step d L)
    iapply Hk
    isplitr
    · ipureintro
      clear * -
      revert L t
      decide +kernel
    isplitl [He Hmid]
    · iapply (Entails.of_eq (eRest_step m d L t.val ht).symm)
      isplitl [He]; · iexact He
      iexact Hmid
    isplitl [HfN]
    · unfold aCur; rw [if_pos (by omega)]; iexact HfN
    isplitl [Ha]; · iexact Ha
    isplitl [Hs]; · iexact Hs
    iexact HO
  · rw [dif_pos (cond2_eq L t), dif_neg (fun h => h1 ((cond1_eq L t).1 h))]
    ihave Hmid := (Entails.of_eq (rest_last (fun s : Fin 16 => ePts m d (bR L s.val)) t.val (by omega))) $$ He
    rw [wp_bind]
    iapply (fetch_wait m d L (par t.val) (bR L t.val) e7 e9 _ hO W) $$ [HfA HO]
    · isplitr; · iexact Hlv
      isplitl [HfA]; · iexact HfA
      iexact HO
    iintro ⟨⟨Ha, He⟩, Hs, HO⟩
    iapply (ret_step d L)
    iapply Hk
    isplitr
    · ipureintro
      clear * -
      revert L t
      decide +kernel
    isplitl [He Hmid]
    · iapply (Entails.of_eq (eRest_step m d L t.val ht).symm)
      isplitl [He]; · iexact He
      iexact Hmid
    isplitl [HaN]
    · unfold aCur; rw [if_neg (by omega)]; iexact HaN
    isplitl [Ha]; · iexact Ha
    isplitl [Hs]; · iexact Hs
    iexact HO

/-! ## The gathers -/

theorem part3_run (hpre : PreOK m) (t : ℕ) (hB : k0_off10 (w7 t) = ![(par t).val, 0, 0]) (hA : k0_off11 (w7 t) = ![(par t).val, 0, 0]) (r : Fin 512)
    (hw3 : k0_chk3 (w7 t)) (hw2 : k0_chk2 (w7 t)) (v169 : BitVec 1) {qy : PosShare TreeShare}
    {O : CellTallies nD τ sig (HIx 1)} (hO : ∀ g, O g none = 0) (W : Waits sig (HIx 1)) (Q : _ → sProp 𝕄) :
    iprop(levAts (K (F := F)).L (K (F := F)).lev ∗ (yLoc d ↦{qy} m (yLoc d)) ∗ aPts d L (par t) (aFill m d L r) ∗ (∃ f, sPts d L (par t) 0 inb_S64x512_S64x128_0_0 f)
        ∗ semVal (VT d L, .dma cc0_scoped4.sem) 0 ∗ OW d L O W)
      ⊢ iprop((iprop((yLoc d ↦{qy} m (yLoc d)) ∗ aPts d L (par t) (aFill m d L r) ∗ sPts d L (par t) 0 inb_S64x512_S64x128_0_0 (bFill m d L r)
          ∗ semVal (VT d L, .dma cc0_scoped4.sem) 0 ∗ OW d L O W) -∗ Q ⟨⟩)
        -∗ WP (k0_part3 (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7 (w7 t) (w7 t) hw3 hw2 v169) Q) := by
  rw [k0_part3_eq_skeleton]; unfold k0_part3_skel
  dsimp only
  rw [ite_self]
  iintro H Hk
  iapply (gather_step m d L hpre (par t) r 0 hA hB cc0_scoped4.sem _ _ hO W) $$ [H]
  · iexact H
  iintro H
  iapply (ret_step d L)
  iapply Hk
  iexact H

theorem part4_run (hpre : PreOK m) (t : ℕ) (hB : k0_off10 (w7 t) = ![(par t).val, 0, 0]) (hA : k0_off11 (w7 t) = ![(par t).val, 0, 0]) (r : Fin 512)
    (hw3 : k0_chk3 (w7 t)) (hw2 : k0_chk2 (w7 t)) {qy : PosShare TreeShare}
    {O : CellTallies nD τ sig (HIx 1)} (hO : ∀ g, O g none = 0) (W : Waits sig (HIx 1)) (Q : _ → sProp 𝕄) :
    iprop(levAts (K (F := F)).L (K (F := F)).lev ∗ (yLoc d ↦{qy} m (yLoc d)) ∗ aPts d L (par t) (aFill m d L r)
        ∗ ((∃ f, sPts d L (par t) 128 inb_S64x512_S64x128_0_128 f) ∗ semVal (VT d L, .dma cc0_scoped5.sem) 0)
        ∗ ((∃ f, sPts d L (par t) 256 inb_S64x512_S64x128_0_256 f) ∗ semVal (VT d L, .dma cc0_scoped6.sem) 0) ∗ OW d L O W)
      ⊢ iprop((iprop((yLoc d ↦{qy} m (yLoc d)) ∗ aPts d L (par t) (aFill m d L r)
          ∗ (sPts d L (par t) 128 inb_S64x512_S64x128_0_128 (bFill m d L r) ∗ semVal (VT d L, .dma cc0_scoped5.sem) 0)
          ∗ (sPts d L (par t) 256 inb_S64x512_S64x128_0_256 (bFill m d L r) ∗ semVal (VT d L, .dma cc0_scoped6.sem) 0) ∗ OW d L O W) -∗ Q ⟨⟩)
        -∗ WP (k0_part4 (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7 (w7 t) (w7 t) hw3 hw2) Q) := by
  rw [k0_part4_eq_skeleton]; unfold k0_part4_skel
  dsimp only
  iintro ⟨#Hlv, Hy, Ha, ⟨Hb1, Hs1⟩, ⟨Hb2, Hs2⟩, HO⟩ Hk
  iapply (gather_step m d L hpre (par t) r 128 hA hB cc0_scoped5.sem _ _ hO W) $$ [Hy Ha Hb1 Hs1 HO]
  · isplitr; · iexact Hlv
    isplitl [Hy]; · iexact Hy
    isplitl [Ha]; · iexact Ha
    isplitl [Hb1]; · iexact Hb1
    isplitl [Hs1]; · iexact Hs1
    iexact HO
  iintro ⟨Hy, Ha, Hb1, Hs1, HO⟩
  iapply (gather_step m d L hpre (par t) r 256 hA hB cc0_scoped6.sem _ _ hO W) $$ [Hy Ha Hb2 Hs2 HO]
  · isplitr; · iexact Hlv
    isplitl [Hy]; · iexact Hy
    isplitl [Ha]; · iexact Ha
    isplitl [Hb2]; · iexact Hb2
    isplitl [Hs2]; · iexact Hs2
    iexact HO
  iintro ⟨Hy, Ha, Hb2, Hs2, HO⟩
  iapply (ret_step d L)
  iapply Hk
  isplitl [Hy]; · iexact Hy
  isplitl [Ha]; · iexact Ha
  isplitl [Hb1 Hs1]
  · isplitl [Hb1]; · iexact Hb1
    iexact Hs1
  isplitl [Hb2 Hs2]
  · isplitl [Hb2]; · iexact Hb2
    iexact Hs2
  iexact HO

end Parts
end Cert.Proof.Collect

end
-- ==== Proof.Loop.lean ====
/-
  The last part of a trip of the collect, and the trip.
-/
module

public import proofs.«01_k».proof.Proof.Parts

@[expose] public section

set_option maxRecDepth 16384
set_option Elab.async false

noncomputable section

namespace Cert.Proof.Collect

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "yV" => (Memref.whole Cert.KernelIdeal.main_arg0_scv : Memref Cert.KernelIdeal.sig Kind.scVector Space.hbm Cert.KernelIdeal.S40960x512 EltTy.f32)
local notation "eV" => (Memref.whole Cert.KernelIdeal.main_arg1_scv : Memref Cert.KernelIdeal.sig Kind.scVector Space.hbm Cert.KernelIdeal.S512x128 EltTy.i32)
local notation "oV" => (Memref.whole Cert.KernelIdeal.main_v0_scv : Memref Cert.KernelIdeal.sig Kind.scVector Space.hbm Cert.KernelIdeal.S32768x512 EltTy.f32)
local notation "aV" => (Memref.whole Cert.KernelIdeal.cc0_scoped0 : Memref Cert.KernelIdeal.sig Kind.scVector Space.vmem Cert.KernelIdeal.S2x1x128 EltTy.i32)
local notation "bV" => (Memref.whole Cert.KernelIdeal.cc0_scoped2 : Memref Cert.KernelIdeal.sig Kind.scVector Space.vmem Cert.KernelIdeal.S2x64x512 EltTy.f32)

variable (m : (ℓ : Loc nD τ sig) → Buf (Elt F) ℓ)

section Parts
variable [FloatOps F] (d : Dev nD) (L : grid0.Coords)

local notation "WP" => wp frame (wpE (defs₀ (F := F)) 𝒱₀ (VT d L) none) Set.univ

theorem part5_run (hpre : PreOK m) (t : Fin k0_t1_loop.trips) (hw3 : k0_chk3 (w7 t.val)) (hw2 : k0_chk2 (w7 t.val)) (hw1) (v100 v157) {qy : PosShare TreeShare}
    {O : CellTallies nD τ sig (HIx 1)} (hO : ∀ g, O g none = 0) (W : Waits sig (HIx 1)) (Q : _ → sProp 𝕄) :
    iprop(levAts (K (F := F)).L (K (F := F)).lev ∗ (yLoc d ↦{qy} m (yLoc d)) ∗ aPts d L (par t.val) (aFill m d L (bR L t.val))
        ∗ sPts d L (par t.val) 0 inb_S64x512_S64x128_0_0 (bFill m d L (bR L t.val))
        ∗ sPts d L (par t.val) 128 inb_S64x512_S64x128_0_128 (bFill m d L (bR L t.val))
        ∗ sPts d L (par t.val) 256 inb_S64x512_S64x128_0_256 (bFill m d L (bR L t.val))
        ∗ (∃ f, sPts d L (par t.val) 384 inb_S64x512_S64x128_0_384 f) ∗ semVal (VT d L, .dma cc0_scoped7.sem) 0
        ∗ oPts d (bR L t.val) (m (oLoc d)) ∗ semVal (VT d L, .dma (semB (par t.val))) 0 ∗ OW d L O W)
      ⊢ iprop((∀ r, (⌜r.1 = w7 (t.val + 1)⌝
          ∗ (yLoc d ↦{qy} m (yLoc d)) ∗ aPts d L (par t.val) (aFill m d L (bR L t.val)) ∗ semVal (VT d L, .dma cc0_scoped7.sem) 0
          ∗ FlightB m d L (par t.val) (bR L t.val) ∗ OW d L O W) -∗ Q r)
        -∗ WP (k0_part5 (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7 t (w6 t.val) (w7 t.val) (w7 t.val) (w9 t.val) (w10 t.val) (w11 t.val)
          hw3 hw2 hw1 v100 (u1 t.val 15) (w10 t.val) (uc L t.val) (bw L t.val) (bw L (t.val + 1)) (bw L t.val) (bw L (t.val + 1)) v157) Q) := by
  have ht : t.val < 16 := trips_eq ▸ t.isLt
  rw [k0_part5_eq_skeleton]; unfold k0_part5_skel
  dsimp only
  rw [ite_self, dif_pos (cond5_eq L t)]
  iintro ⟨#Hlv, Hy, Ha, Hb0, Hb1, Hb2, Hb3, Hs, Ho, HsB, HO⟩ Hk
  iapply (gather_step m d L hpre (par t.val) (bR L t.val) 384 (off11_eq t) (off10_eq t) cc0_scoped7.sem _ _ hO W) $$ [Hy Ha Hb3 Hs HO]
  · isplitr; · iexact Hlv
    isplitl [Hy]; · iexact Hy
    isplitl [Ha]; · iexact Ha
    isplitl [Hb3]; · iexact Hb3
    isplitl [Hs]; · iexact Hs
    iexact HO
  iintro ⟨Hy, Ha, Hb3, Hs, HO⟩
  ihave Hb := (bPts_strips d L (par t.val) (bFill m d L (bR L t.val))).2 $$ [Hb0 Hb1 Hb2 Hb3]
  · isplitl [Hb0]; · iexact Hb0
    isplitl [Hb1]; · iexact Hb1
    isplitl [Hb2]; · iexact Hb2
    iexact Hb3
  rw [wp_bind]
  iapply (copy_issue m d L (par t.val) (bR L t.val) (off12_eq t) ((off13_eq L t).trans (by rw [bR_val L ht])) (off14_eq t)) $$ [Hb Ho HsB]
  · isplitl [Hb]; · iexact Hb
    isplitl [Ho]; · iexact Ho
    iexact HsB
  iintro HfB
  iapply (ret_step d L)
  iapply Hk
  isplitr
  · ipureintro
    dsimp only
    clear * -
    revert L t
    decide +kernel
  isplitl [Hy]; · iexact Hy
  isplitl [Ha]; · iexact Ha
  isplitl [Hs]; · iexact Hs
  isplitl [HfB]; · iexact HfB
  iexact HO

/-! ## The trip -/

/-- What the loop holds before trip `t`. -/
def held (qy : PosShare TreeShare) (O : CellTallies nD τ sig (HIx 1)) (W : Waits sig (HIx 1)) (t : ℕ) : sProp 𝕄 :=
  iprop((yLoc d ↦{qy} m (yLoc d)) ∗ eRest m d L t ∗ oRest m d L t ∗ aCur m d L t ∗ freeA d L (par (t + 1)) ∗ freeB d L (par t) ∗ bPrev m d L t
    ∗ semVal (VT d L, .dma cc0_scoped4.sem) 0 ∗ semVal (VT d L, .dma cc0_scoped5.sem) 0 ∗ semVal (VT d L, .dma cc0_scoped6.sem) 0
    ∗ semVal (VT d L, .dma cc0_scoped7.sem) 0 ∗ OW d L O W)

theorem oRest_none (t : ℕ) (h : ¬0 < t) : oRest m d L (t + 1) = oMid m d L t := by
  obtain rfl : t = 0 := by omega
  exact oRest_first m d L
theorem aCur_lt (t : ℕ) (h : t < 16) : aCur m d L t = FlightA m d L (par t) (bR L t) := if_pos h
theorem bPrev_pos (t : ℕ) (h : 0 < t) : bPrev m d L t = FlightB m d L (par (t + 1)) (bR L (t - 1)) := if_pos h
theorem bPrev_zero (t : ℕ) (h : ¬0 < t) : bPrev m d L t = freeB d L (par (t + 1)) := if_neg h
theorem bPrev_succ (t : ℕ) : bPrev m d L (t + 1) = FlightB m d L (par t) (bR L t) := by
  rw [bPrev, if_pos (Nat.succ_pos t), par_two]; rfl

theorem trip_run (hpre : PreOK m) (t : Fin k0_t1_loop.trips) (v7 v27 v29 : BitVec 32) {qy : PosShare TreeShare}
    {O : CellTallies nD τ sig (HIx 1)} (hO : ∀ g, O g none = 0) (W : Waits sig (HIx 1)) (Q : _ → sProp 𝕄) :
    iprop(levAts (K (F := F)).L (K (F := F)).lev ∗ held m d L qy O W t.val)
      ⊢ iprop((held m d L qy O W (t.val + 1) -∗ Q (words (t.val + 1)))
        -∗ WP (k0_t1_body (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7 (u4 L) v7 v27 v29 t (words t.val)) Q) := by
  have ht : t.val < 16 := trips_eq ▸ t.isLt
  unfold k0_t1_body held words
  dsimp only
  iintro ⟨#Hlv, Hy, He, Ho, HfA, HaN, ⟨⟨%fb, Hb⟩, HsB⟩, HbP, Hs4, Hs5, Hs6, Hs7, HO⟩ Hk
  rw [wp_bind]
  iapply (part1_run d L t _)
  iintro %r %hr
  obtain ⟨hw3, hw2, hw1, a5, v100, v101, v102, v103, v112, v113, v122, v123, v127, v129, v130⟩ := r
  dsimp only at hr
  obtain ⟨rfl, rfl, rfl, rfl, rfl, rfl, rfl, rfl, rfl⟩ := hr
  rw [wp_bind]
  ihave HfA := (Entails.of_eq (aCur_lt m d L t.val ht)) $$ HfA
  iapply (part2_run m d L t hw1 v127 v129 v130 hO W _) $$ [He HfA HaN HO]
  · isplitr; · iexact Hlv
    isplitl [He]; · iexact He
    isplitl [HfA]; · iexact HfA
    isplitl [HaN]; · iexact HaN
    iexact HO
  iintro %r ⟨%hr, He, HfA, Ha, HsA, HO⟩
  obtain ⟨v135, v137, v147, v149, v151, v157, v165, v169⟩ := r
  dsimp only at hr
  obtain ⟨rfl, rfl, rfl, rfl, rfl, rfl, rfl⟩ := hr
  ihave Hbs := (bPts_strips d L (par t.val) fb).1 $$ Hb
  icases Hbs with ⟨Hb0, Hb1, Hb2, Hb3⟩
  rw [wp_bind]
  iapply (part3_run m d L hpre t.val (off10_eq t) (off11_eq t) (bR L t.val) hw3 hw2 v169 hO W _) $$ [Hy Ha Hb0 Hs4 HO]
  · isplitr; · iexact Hlv
    isplitl [Hy]; · iexact Hy
    isplitl [Ha]; · iexact Ha
    isplitl [Hb0]; · iexists fb; iexact Hb0
    isplitl [Hs4]; · iexact Hs4
    iexact HO
  iintro ⟨Hy, Ha, Hb0, Hs4, HO⟩
  rw [wp_bind]
  iapply (part4_run m d L hpre t.val (off10_eq t) (off11_eq t) (bR L t.val) hw3 hw2 hO W _) $$ [Hy Ha Hb1 Hs5 Hb2 Hs6 HO]
  · isplitr; · iexact Hlv
    isplitl [Hy]; · iexact Hy
    isplitl [Ha]; · iexact Ha
    isplitl [Hb1 Hs5]
    · isplitl [Hb1]; · iexists fb; iexact Hb1
      iexact Hs5
    isplitl [Hb2 Hs6]
    · isplitl [Hb2]; · iexists fb; iexact Hb2
      iexact Hs6
    iexact HO
  iintro ⟨Hy, Ha, ⟨Hb1, Hs5⟩, ⟨Hb2, Hs6⟩, HO⟩
  ihave Ho' := (Entails.of_eq (oRest_take m d L t.val ht)) $$ Ho
  icases Ho' with ⟨HoT, Hom⟩
  rw [wp_bind]
  iapply (part5_run m d L hpre t hw3 hw2 hw1 _ _ hO W _) $$ [Hy Ha Hb0 Hb1 Hb2 Hb3 Hs7 HoT HsB HO]
  · isplitr; · iexact Hlv
    isplitl [Hy]; · iexact Hy
    isplitl [Ha]; · iexact Ha
    isplitl [Hb0]; · iexact Hb0
    isplitl [Hb1]; · iexact Hb1
    isplitl [Hb2]; · iexact Hb2
    isplitl [Hb3]; · iexists fb; iexact Hb3
    isplitl [Hs7]; · iexact Hs7
    isplitl [HoT]; · iexact HoT
    isplitl [HsB]; · iexact HsB
    iexact HO
  iintro %r ⟨%hr, Hy, Ha, Hs7, HfB, HO⟩
  obtain ⟨v185, v188, v189⟩ := r
  dsimp only at hr
  subst hr
  rw [ite_self]
  have hw : ∀ x, x = words (t.val + 1) → Q (words (t.val + 1)) ⊢ Q x := fun x h => by rw [h]
  by_cases h0 : 0 < t.val
  · rw [dif_pos ((cond7_eq L t).2 h0)]
    ihave HbP := (Entails.of_eq (bPrev_pos m d L t.val h0)) $$ HbP
    rw [wp_bind]
    iapply (copy_wait m d L (par (t.val + 1)) (bR L (t.val - 1)) ((off15_eq t).trans (by rw [← par_pred h0])) ((off16_eq L t h0).trans (by rw [bR_val L (by omega)]))
      ((off17_eq t).trans (by rw [← par_pred h0])) _ hO W) $$ [HbP HO]
    · isplitr; · iexact Hlv
      isplitl [HbP]; · iexact HbP
      iexact HO
    iintro ⟨⟨HoG, Hb⟩, HsB, HO⟩
    iapply (ret_step d L)
    iapply (hw _ ?_)
    · dsimp only
      clear * -
      revert L t
      decide +kernel
    iapply Hk
    isplitl [Hy]; · iexact Hy
    isplitl [He]; · iexact He
    isplitl [HoG Hom]
    · rw [oRest_put m d L t.val h0 ht]
      isplitl [HoG]; · iexact HoG
      iexact Hom
    isplitl [HfA]; · iexact HfA
    isplitl [Ha HsA]
    · rw [par_two]
      isplitl [Ha]; · iexists _; iexact Ha
      iexact HsA
    isplitl [Hb HsB]
    · isplitl [Hb]; · iexists _; iexact Hb
      iexact HsB
    isplitl [HfB]
    · rw [bPrev_succ]; iexact HfB
    isplitl [Hs4]; · iexact Hs4
    isplitl [Hs5]; · iexact Hs5
    isplitl [Hs6]; · iexact Hs6
    isplitl [Hs7]; · iexact Hs7
    iexact HO
  · rw [dif_neg (fun h => h0 ((cond7_eq L t).1 h))]
    iapply (ret_step d L)
    iapply (hw _ ?_)
    · dsimp only
      clear * -
      revert L t
      decide +kernel
    iapply Hk
    isplitl [Hy]; · iexact Hy
    isplitl [He]; · iexact He
    isplitl [Hom]
    · iapply (Entails.of_eq (oRest_none m d L t.val h0).symm) $$ Hom
    isplitl [HfA]; · iexact HfA
    isplitl [Ha HsA]
    · rw [par_two]
      isplitl [Ha]; · iexists _; iexact Ha
      iexact HsA
    isplitl [HbP]
    · iapply (Entails.of_eq (bPrev_zero m d L t.val h0)) $$ HbP
    isplitl [HfB]
    · rw [bPrev_succ]; iexact HfB
    isplitl [Hs4]; · iexact Hs4
    isplitl [Hs5]; · iexact Hs5
    isplitl [Hs6]; · iexact Hs6
    isplitl [Hs7]; · iexact Hs7
    iexact HO

end Parts

end Cert.Proof.Collect
-- ==== Proof.Tile.lean ====
/-
  One subcore's run of the collect: the loop over its sixteen rows, with the fetch before it and the copy out after it.
-/
module

public import proofs.«01_k».proof.Proof.Loop

@[expose] public section

set_option maxRecDepth 16384
set_option Elab.async false

noncomputable section

namespace Cert.Proof.Collect

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "yV" => (Memref.whole Cert.KernelIdeal.main_arg0_scv : Memref Cert.KernelIdeal.sig Kind.scVector Space.hbm Cert.KernelIdeal.S40960x512 EltTy.f32)
local notation "eV" => (Memref.whole Cert.KernelIdeal.main_arg1_scv : Memref Cert.KernelIdeal.sig Kind.scVector Space.hbm Cert.KernelIdeal.S512x128 EltTy.i32)
local notation "oV" => (Memref.whole Cert.KernelIdeal.main_v0_scv : Memref Cert.KernelIdeal.sig Kind.scVector Space.hbm Cert.KernelIdeal.S32768x512 EltTy.f32)
local notation "aV" => (Memref.whole Cert.KernelIdeal.cc0_scoped0 : Memref Cert.KernelIdeal.sig Kind.scVector Space.vmem Cert.KernelIdeal.S2x1x128 EltTy.i32)
local notation "bV" => (Memref.whole Cert.KernelIdeal.cc0_scoped2 : Memref Cert.KernelIdeal.sig Kind.scVector Space.vmem Cert.KernelIdeal.S2x64x512 EltTy.f32)

variable (m : (ℓ : Loc nD τ sig) → Buf (Elt F) ℓ)

section Parts
variable [FloatOps F] (d : Dev nD) (L : grid0.Coords)

local notation "WP" => wp frame (wpE (defs₀ (F := F)) 𝒱₀ (VT d L) none) Set.univ

theorem off1_eq : k0_off1 = ![0, 0, 0] := by decide +kernel
theorem off2_eq : ∀ L : grid0.Coords, k0_off2 L = ![blockRow L 0, 0] := by decide +kernel
theorem off3_eq : k0_off3 = ![0] := by decide +kernel

/-! ## The loop -/

/-- The sixteen rows of the index array that the subcore reads. -/
abbrev eAll : sProp 𝕄 := bigSep Finset.univ fun s : Fin 16 => ePts m d (bR L s.val)
/-- Its sixteen blocks of the result, all at `f`. -/
abbrev oAll (f : Buf (Elt F) (oLoc d)) : sProp 𝕄 := bigSep Finset.univ fun s : Fin 16 => oPts d (bR L s.val) f
/-- The semaphores of the four gathers. -/
abbrev gSems : sProp 𝕄 :=
  iprop(semVal (VT d L, .dma cc0_scoped4.sem) 0 ∗ semVal (VT d L, .dma cc0_scoped5.sem) 0 ∗ semVal (VT d L, .dma cc0_scoped6.sem) 0
    ∗ semVal (VT d L, .dma cc0_scoped7.sem) 0)

theorem oRest_zero : oRest m d L 0 = oAll d L (m (oLoc d)) :=
  bigSep_congr fun s _ => by rw [oAt, if_neg (Nat.not_lt_zero _)]

theorem aCur_past : aCur m d L 16 = freeA d L 0 := if_neg (by decide)
theorem bPrev_past : bPrev m d L 16 = FlightB m d L 1 (bR L 15) := if_pos (by decide)

theorem part6_run (Q : _ → sProp 𝕄) :
    iprop(∀ r, ⌜r.1 = u4 L⌝ -∗ Q r)
      ⊢ WP (k0_part6 (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7) Q := by
  rw [k0_part6_eq_skeleton]; unfold k0_part6_skel
  iintro Hk
  iapply (ret_step d L)
  iapply Hk
  ipureintro
  dsimp only
  clear * -
  revert L
  decide +kernel

theorem part7_run (hpre : PreOK m) (v7 v27 v29 : BitVec 32) {qy : PosShare TreeShare}
    {O : CellTallies nD τ sig (HIx 1)} (hO : ∀ g, O g none = 0) (W : Waits sig (HIx 1)) (Q : _ → sProp 𝕄) :
    iprop(levAts (K (F := F)).L (K (F := F)).lev ∗ (yLoc d ↦{qy} m (yLoc d)) ∗ eAll m d L ∗ oAll d L (m (oLoc d)) ∗ freeA d L 0 ∗ freeA d L 1 ∗ freeB d L 0 ∗ freeB d L 1
        ∗ gSems d L ∗ OW d L O W)
      ⊢ iprop((∀ r, (⌜r.1 = w9 16 ∧ r.2.1 = w10 16 ∧ r.2.2.1 = w11 16⌝ ∗ held m d L qy O W 16) -∗ Q r)
        -∗ WP (k0_part7 (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7 (u4 L) v7 v27 v29) Q) := by
  rw [k0_part7_eq_skeleton]; unfold k0_part7_skel
  dsimp only
  have hb : ∀ (t : Fin k0_t1_loop.trips) (acc : BitVec 32 × BitVec 32 × BitVec 32 × BitVec 32 × BitVec 32 × BitVec 32),
      iprop(⌜acc = words t.val⌝ ∗ levAts (K (F := F)).L (K (F := F)).lev ∗ held m d L qy O W t.val)
        ⊢ WP (k0_t1_body (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7 (u4 L) v7 v27 v29 t acc)
          (fun acc => iprop(⌜acc = words (t.val + 1)⌝ ∗ levAts (K (F := F)).L (K (F := F)).lev ∗ held m d L qy O W (t.val + 1))) := by
    intro t acc
    iintro ⟨%hacc, #Hlv, H⟩
    subst hacc
    iapply (trip_run m d L hpre t v7 v27 v29 hO W _) $$ [H]
    · isplitr; · iexact Hlv
      iexact H
    iintro H
    isplitr; · ipureintro; rfl
    isplitr; · iexact Hlv
    iexact H
  iintro ⟨#Hlv, Hy, He, Ho, HA0, HA1, HB0, HB1, ⟨Hs4, Hs5, Hs6, Hs7⟩, HO⟩ Hk
  icases HA0 with ⟨Ha, HsA⟩
  ihave He := (Entails.of_eq (all_eq_rest (fun s : Fin 16 => ePts m d (bR L s.val)) 0)) $$ He
  icases He with ⟨He0, He⟩
  rw [wp_bind]
  iapply (fetch_issue m d L 0 (bR L 0) off1_eq ((off2_eq L).trans (by rw [bR_val L (by decide)])) off3_eq) $$ [He0 Ha HsA]
  · isplitl [He0]; · iexact He0
    isplitl [Ha]; · iexact Ha
    iexact HsA
  iintro HfA
  iapply (Scf.wp_for_bind frame (wpE (defs₀ (F := F)) 𝒱₀ (VT d L) none) Set.univ _ _ _ k0_t1_ok _ _
    (fun t acc => iprop(⌜acc = words t⌝ ∗ levAts (K (F := F)).L (K (F := F)).lev ∗ held m d L qy O W t)) hb) $$ [Hy He Ho HfA HA1 HB0 HB1 Hs4 Hs5 Hs6 Hs7 HO]
  · isplitr
    · ipureintro; decide +kernel
    isplitr; · iexact Hlv
    unfold held
    isplitl [Hy]; · iexact Hy
    isplitl [He]; · iexact He
    isplitl [Ho]; · rw [oRest_zero]; iexact Ho
    isplitl [HfA]; · rw [aCur_lt m d L 0 (by decide)]; iexact HfA
    isplitl [HA1]; · iexact HA1
    isplitl [HB0]; · iexact HB0
    isplitl [HB1]; · rw [bPrev_zero m d L 0 (by decide)]; iexact HB1
    isplitl [Hs4]; · iexact Hs4
    isplitl [Hs5]; · iexact Hs5
    isplitl [Hs6]; · iexact Hs6
    isplitl [Hs7]; · iexact Hs7
    iexact HO
  iintro %acc ⟨%hacc, -, H⟩
  have hacc' : acc = words 16 := hacc
  subst hacc'
  iapply (wp_assume 𝒱₀ (VT d L) none Set.univ (chk5_ok L))
  iapply (wp_assume 𝒱₀ (VT d L) none Set.univ chk4_ok)
  iapply (ret_step d L)
  iapply Hk
  isplitr
  · ipureintro
    exact ⟨rfl, rfl, rfl⟩
  iexact H

/-! ## The subcore's run -/

theorem collect_run (hpre : PreOK m) {qy : PosShare TreeShare}
    {O : CellTallies nD τ sig (HIx 1)} (hO : ∀ g, O g none = 0) (W : Waits sig (HIx 1)) :
    iprop(levAts (K (F := F)).L (K (F := F)).lev ∗ (yLoc d ↦{qy} m (yLoc d)) ∗ eAll m d L ∗ oAll d L (m (oLoc d)) ∗ freeA d L 0 ∗ freeA d L 1 ∗ freeB d L 0 ∗ freeB d L 1
        ∗ gSems d L ∗ OW d L O W)
      ⊢ WP (cc0_collect (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7)
        fun _ => iprop((yLoc d ↦{qy} m (yLoc d)) ∗ eAll m d L ∗ oAll d L (G m d) ∗ freeA d L 0 ∗ freeA d L 1 ∗ freeB d L 0 ∗ freeB d L 1
        ∗ gSems d L ∗ OW d L O W) := by
  rw [cc0_collect_eq_skeleton]; unfold cc0_collect_skel
  dsimp only
  iintro ⟨#Hlv, H⟩
  rw [wp_bind]
  iapply (part6_run d L _)
  iintro %r %hr
  obtain ⟨v4, v7, v27, v29⟩ := r
  dsimp only at hr
  subst hr
  rw [wp_bind]
  iapply (part7_run m d L hpre v7 v27 v29 hO W _) $$ [H]
  · isplitr; · iexact Hlv
    iexact H
  iintro %r ⟨%hr, H⟩
  obtain ⟨v3, v44, v5, hw5, hw4, v51, v55⟩ := r
  dsimp only at hr
  obtain ⟨rfl, rfl, rfl⟩ := hr
  rw [wp_bind, k0_part8_eq_skeleton]
  iapply (ret_step d L)
  unfold held
  icases H with ⟨Hy, He, Ho, HA0, HA1, HB0, HfB, Hs4, Hs5, Hs6, Hs7, HO⟩
  ihave HfB := (Entails.of_eq (bPrev_past m d L)) $$ HfB
  rw [wp_bind]
  iapply (copy_wait m d L 1 (bR L 15) off21_eq ((off19_eq L).trans (by rw [bR_val L (by decide)])) off20_eq _ hO W) $$ [HfB HO]
  · isplitr; · iexact Hlv
    isplitl [HfB]; · iexact HfB
    iexact HO
  iintro ⟨⟨HoG, Hb⟩, HsB, HO⟩
  iapply (ret_step d L)
  isplitl [Hy]; · iexact Hy
  isplitl [He]
  · iapply (Entails.of_eq (rest_past (fun s : Fin 16 => ePts m d (bR L s.val)) 16 (by decide))) $$ He
  isplitl [HoG Ho]
  · iapply (Entails.of_eq (oRest_end m d L)) $$ [HoG Ho]
    isplitl [HoG]; · iexact HoG
    iexact Ho
  isplitl [HA0]
  · iapply (Entails.of_eq (aCur_past m d L)) $$ HA0
  isplitl [HA1]; · iexact HA1
  isplitl [HB0]; · iexact HB0
  isplitl [Hb HsB]
  · isplitl [Hb]; · iexists _; iexact Hb
    iexact HsB
  isplitl [Hs4 Hs5 Hs6 Hs7]
  · isplitl [Hs4]; · iexact Hs4
    isplitl [Hs5]; · iexact Hs5
    isplitl [Hs6]; · iexact Hs6
    iexact Hs7
  iexact HO

end Parts

end Cert.Proof.Collect
-- ==== Proof.Launch.lean ====
/-
  The launch of the collect: the arrays split over the thirty-two subcores and joined again, what each subcore is handed, and the
  program's run.
-/
module

public import proofs.«01_k».proof.Proof.Tile

@[expose] public section

set_option maxRecDepth 16384
set_option Elab.async false

noncomputable section

namespace Cert.Proof.Collect

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "yV" => (Memref.whole Cert.KernelIdeal.main_arg0_scv : Memref Cert.KernelIdeal.sig Kind.scVector Space.hbm Cert.KernelIdeal.S40960x512 EltTy.f32)
local notation "eV" => (Memref.whole Cert.KernelIdeal.main_arg1_scv : Memref Cert.KernelIdeal.sig Kind.scVector Space.hbm Cert.KernelIdeal.S512x128 EltTy.i32)
local notation "oV" => (Memref.whole Cert.KernelIdeal.main_v0_scv : Memref Cert.KernelIdeal.sig Kind.scVector Space.hbm Cert.KernelIdeal.S32768x512 EltTy.f32)
local notation "aV" => (Memref.whole Cert.KernelIdeal.cc0_scoped0 : Memref Cert.KernelIdeal.sig Kind.scVector Space.vmem Cert.KernelIdeal.S2x1x128 EltTy.i32)
local notation "bV" => (Memref.whole Cert.KernelIdeal.cc0_scoped2 : Memref Cert.KernelIdeal.sig Kind.scVector Space.vmem Cert.KernelIdeal.S2x64x512 EltTy.f32)

variable (m : (ℓ : Loc nD τ sig) → Buf (Elt F) ℓ) (ρ : Dev nD → PrngReg)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem eq_of {A B : sProp 𝕄} (h : A ⊢ B) (h' : B ⊢ A) : A = B := BI.Entails.antisymm h h'

/-! ## Shares of the table: one piece after another cut off what is left -/

/-- What is left of a share after `n` pieces. -/
def left (q : PosShare TreeShare) : ℕ → PosShare TreeShare
  | 0 => q
  | n + 1 => (left q n).right
/-- Piece `n`. -/
def piece (q : PosShare TreeShare) (n : ℕ) : PosShare TreeShare := (left q n).left

theorem pointsTo_pieces {ℓ : Loc nD τ sig} (f : Buf (Elt F) ℓ) (q : PosShare TreeShare) :
    ∀ n : ℕ, (ℓ ↦{q} f : sProp 𝕄) = iprop((ℓ ↦{left q n} f) ∗ bigSep Finset.univ fun i : Fin n => ℓ ↦{piece q i.val} f)
  | 0 => by
    rw [show (Finset.univ : Finset (Fin 0)) = ∅ from rfl, bigSep_empty]
    refine eq_of ?_ ?_
    · iintro H
      isplitl [H]; · iexact H
      iempintro
    · iintro ⟨H, -⟩
      iexact H
  | n + 1 => by
    rw [pointsTo_pieces f q n, bigSep_univ_equiv (finSumFinEquiv (m := n) (n := 1)) (fun i : Fin (n + 1) => (ℓ ↦{piece q i.val} f : sProp 𝕄)), bigSep_univ_sum,
      bigSep_univ_of_subsingleton (0 : Fin 1)]
    have e := eq_of (pointsTo_share (Ix := HIx 1) (Name := ℕ) (U := UU) (Lvl := ℕ) (ℓ := ℓ) (I := Finset.univ) (f := f) (PosShare.mem_left_op_right (left q n))).1
      (pointsTo_share (PosShare.mem_left_op_right (left q n))).2
    rw [e]
    change _ = iprop((ℓ ↦{left q (n + 1)} f) ∗ ((bigSep Finset.univ fun i : Fin n => ℓ ↦{piece q i.val} f) ∗ ℓ ↦{piece q n} f))
    refine eq_of ?_ ?_
    · iintro ⟨⟨Hl, Hr⟩, H⟩
      isplitl [Hr]; · iexact Hr
      isplitl [H]; · iexact H
      iexact Hl
    · iintro ⟨Hr, H, Hl⟩
      isplitl [Hl Hr]
      · isplitl [Hl]; · iexact Hl
        iexact Hr
      iexact H

/-! ## The rows and blocks over the subcores -/

/-- The coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- Trip `x.2` of the subcore `x.1`, as a row of the index array. -/
def rowOf (x : (Fin 2 × Fin 16) × Fin 16) : Fin 512 := bR (coordsV x.1.1 x.1.2) x.2.val

theorem rowOf_val (x : (Fin 2 × Fin 16) × Fin 16) : (rowOf x).val = x.2.val / 8 * 256 + x.2.val % 8 + 8 * (x.1.2.val + 16 * x.1.1.val) :=
  bR_val _ x.2.isLt

theorem rowOf_bij : Function.Bijective rowOf := by
  refine (Fintype.bijective_iff_injective_and_card _).2 ⟨?_, by simp⟩
  rintro ⟨⟨c, i⟩, s⟩ ⟨⟨c', i'⟩, s'⟩ h
  have h := congrArg Fin.val h
  rw [rowOf_val, rowOf_val] at h
  dsimp only at h
  have := c.isLt; have := c'.isLt; have := i.isLt; have := i'.isLt; have := s.isLt; have := s'.isLt
  refine Prod.ext (Prod.ext (Fin.ext ?_) (Fin.ext ?_)) (Fin.ext ?_) <;> dsimp only <;> omega

/-- A family over the rows, regrouped by core, subcore and trip. -/
theorem rows_regroup (Φ : Fin 512 → sProp 𝕄) :
    bigSep Finset.univ Φ = bigSep Finset.univ fun c : Fin 2 => bigSep Finset.univ fun i : Fin 16 => bigSep Finset.univ fun s : Fin 16 => Φ (bR (coordsV c i) s.val) := by
  rw [bigSep_univ_equiv (Equiv.ofBijective rowOf rowOf_bij), bigSep_univ_prod, bigSep_univ_prod]
  rfl

theorem eRows : (Finset.univ : Finset S512x128.Idx) = Finset.univ.biUnion fun r : Fin 512 => (eRow r).view.set :=
  (Finset.eq_univ_of_forall fun (j : S512x128.Idx) => Finset.mem_biUnion.2 ⟨j 0, Finset.mem_univ _, (mem_eRow _ j).2 rfl⟩).symm
theorem oBlks : (Finset.univ : Finset S32768x512.Idx) = Finset.univ.biUnion fun r : Fin 512 => (oBlk r).view.set :=
  (Finset.eq_univ_of_forall fun (j : S32768x512.Idx) => Finset.mem_biUnion.2
    ⟨⟨(j 0).val / 64, Nat.div_lt_of_lt_mul (show (j 0).val < 64 * 512 from (j 0).isLt)⟩, Finset.mem_univ _, (mem_oBlk _ j).2 rfl⟩).symm

theorem ePts_all (d : Dev nD) : (eLoc d ↦{fullShare} m (eLoc d) : sProp 𝕄) = bigSep Finset.univ fun r : Fin 512 => ePts m d r := by
  refine Eq.trans (congrArg (fun I => (eLoc d ↦[I]{fullShare} m (eLoc d) : sProp 𝕄)) eRows) ?_
  exact pointsTo_biUnion Finset.univ (ℓ := eLoc d) (fun r : Fin 512 => (eRow r).view.set)
    (fun r _ r' _ h => Finset.disjoint_left.2 fun j hj hj' => h (Fin.ext (((mem_eRow r j).1 hj).symm.trans ((mem_eRow r' j).1 hj'))))

theorem oPts_all (d : Dev nD) (f : Buf (Elt F) (oLoc d)) : (oLoc d ↦{fullShare} f : sProp 𝕄) = bigSep Finset.univ fun r : Fin 512 => oPts d r f := by
  refine Eq.trans (congrArg (fun I => (oLoc d ↦[I]{fullShare} f : sProp 𝕄)) oBlks) ?_
  exact pointsTo_biUnion Finset.univ (ℓ := oLoc d) (fun r : Fin 512 => (oBlk r).view.set)
    (fun r _ r' _ h => Finset.disjoint_left.2 fun j hj hj' => h (Fin.ext (((mem_oBlk r j).1 hj).symm.trans ((mem_oBlk r' j).1 hj'))))

/-- The share of the table that subcore `i` of core `c` reads. -/
abbrev yq (c : Fin 2) (i : Fin 16) : PosShare TreeShare := piece fullShare (finProdFinEquiv (c, i)).val

theorem yPts_all (d : Dev nD) (f : Buf (Elt F) (yLoc d)) : (yLoc d ↦{fullShare} f : sProp 𝕄)
    = iprop((yLoc d ↦{left fullShare 32} f) ∗ bigSep Finset.univ fun c : Fin 2 => bigSep Finset.univ fun i : Fin 16 => yLoc d ↦{yq c i} f) := by
  rw [pointsTo_pieces f fullShare 32, bigSep_univ_equiv (finProdFinEquiv (m := 2) (n := 16)) (fun i : Fin (2 * 16) => (yLoc d ↦{piece fullShare i.val} f : sProp 𝕄)), bigSep_univ_prod]

section Tile
variable [FloatOps F]

/-- What a subcore is handed and, with `f` the result, what it hands back. -/
abbrev share (d : Dev nD) (c : Fin 2) (i : Fin 16) (f : Buf (Elt F) (oLoc d)) : sProp 𝕄 :=
  iprop((yLoc d ↦{yq c i} m (yLoc d)) ∗ eAll m d (coordsV c i) ∗ oAll d (coordsV c i) f)

theorem shares_all (d : Dev nD) (f : Buf (Elt F) (oLoc d)) :
    iprop((yLoc d ↦{fullShare} m (yLoc d)) ∗ (eLoc d ↦{fullShare} m (eLoc d)) ∗ oLoc d ↦{fullShare} f)
      = (iprop((yLoc d ↦{left fullShare 32} m (yLoc d)) ∗ bigSep Finset.univ fun c : Fin 2 => bigSep Finset.univ fun i : Fin 16 => share m d c i f) : sProp 𝕄) := by
  have e : (bigSep Finset.univ fun c : Fin 2 => bigSep Finset.univ fun i : Fin 16 => share m d c i f : sProp 𝕄)
      = iprop((bigSep Finset.univ fun c : Fin 2 => bigSep Finset.univ fun i : Fin 16 => yLoc d ↦{yq c i} m (yLoc d))
        ∗ (bigSep Finset.univ fun c : Fin 2 => bigSep Finset.univ fun i : Fin 16 => eAll m d (coordsV c i))
        ∗ bigSep Finset.univ fun c : Fin 2 => bigSep Finset.univ fun i : Fin 16 => oAll d (coordsV c i) f) := by
    simp only [share, bigSep_sep']
  rw [e, yPts_all, ePts_all, oPts_all, rows_regroup (fun r => ePts m d r), rows_regroup (fun r => oPts d r f)]
  refine eq_of ?_ ?_
  · iintro ⟨⟨Hl, Hy⟩, He, Ho⟩
    isplitl [Hl]; · iexact Hl
    isplitl [Hy]; · iexact Hy
    isplitl [He]; · iexact He
    iexact Ho
  · iintro ⟨Hl, Hy, He, Ho⟩
    isplitl [Hl Hy]
    · isplitl [Hl]; · iexact Hl
      iexact Hy
    isplitl [He]; · iexact He
    iexact Ho

/-! ## What the handshakes carry -/

theorem nSub_zero : (K (F := F)).nSub 0 = 16 := rfl
theorem nCore_zero : (K (F := F)).nCore 0 = 2 := rfl

/-- Each core is handed its subcores' shares at once. -/
def P : (K (F := F)).Pay (nD := nD) (Val := Elt F) (Name := ℕ) (U := UU) where
  st := fun q d c => match q with | 0 => bigSep Finset.univ fun i : Fin 16 => share m d (Fin.cast nCore_zero c) i (m (oLoc d))
  dn := fun q d c => match q with | 0 => bigSep Finset.univ fun i : Fin 16 => share m d (Fin.cast nCore_zero c) i (G m d)
  go := fun q d c i => match q with | 0 => share m d (Fin.cast nCore_zero c) (Fin.cast nSub_zero i) (m (oLoc d))
  td := fun q d c i => match q with | 0 => share m d (Fin.cast nCore_zero c) (Fin.cast nSub_zero i) (G m d)
  x := fun _ _ => iprop(emp)

instance P_storable : (P (F := F) m).IsStorable where
  st q d c := match q with
    | 0 => (inferInstance : BI.Storable (upEmb : UEmb _ 𝕄) (bigSep Finset.univ fun i : Fin 16 => share m d (Fin.cast nCore_zero c) i (m (oLoc d))))
  dn q d c := match q with
    | 0 => (inferInstance : BI.Storable (upEmb : UEmb _ 𝕄) (bigSep Finset.univ fun i : Fin 16 => share m d (Fin.cast nCore_zero c) i (G m d)))
  go q d c i := match q with
    | 0 => (inferInstance : BI.Storable (upEmb : UEmb _ 𝕄) (share m d (Fin.cast nCore_zero c) (Fin.cast nSub_zero i) (m (oLoc d))))
  td q d c i := match q with
    | 0 => (inferInstance : BI.Storable (upEmb : UEmb _ 𝕄) (share m d (Fin.cast nCore_zero c) (Fin.cast nSub_zero i) (G m d)))

/-! ## The subcore's own semaphores and buffers -/

/-- The eight semaphores that the task uses. -/
def sems : Fin 8 → DmaSem sig := ![semA 0, semA 1, semB 0, semB 1, cc0_scoped4.sem, cc0_scoped5.sem, cc0_scoped6.sem, cc0_scoped7.sem]
theorem sems_inj : ∀ i j, sems i = sems j → i = j := by decide
theorem sems_scoped : ∀ i, (SemLoc.dma (sems i) : SemLoc sig).isScoped .scVector = true := by decide

variable (d : Dev nD) (L : grid0.Coords)

def cell (i : Fin 8) : GSem nD τ sig := (VT d L, .dma (sems i))
theorem cell_inj : Function.Injective (cell d L) := fun i j h => sems_inj i j (SemLoc.dma.inj (Prod.mk.inj h).2)

abbrev semRest : sProp 𝕄 := bigSep (ownCells (VT d L) \ Finset.univ.image (cell d L)) fun g => semVal g 0

theorem ownSems0_split :
    (ownSems0 (VT d L) : sProp 𝕄)
      = iprop((semVal (VT d L, .dma (semA 0)) 0 ∗ semVal (VT d L, .dma (semA 1)) 0 ∗ semVal (VT d L, .dma (semB 0)) 0 ∗ semVal (VT d L, .dma (semB 1)) 0 ∗ gSems d L)
          ∗ semRest d L) := by
  unfold SparseCore.Cfg.ownSems0
  rw [SparseCore.bigSep_sdiff_split' (t := (Finset.univ : Finset (Fin 8)).image (cell d L))
      (fun x h => by obtain ⟨i, -, rfl⟩ := Finset.mem_image.mp h; exact mem_ownCells.mpr ⟨rfl, sems_scoped i⟩),
    SparseCore.bigSep_image_of_injOn (fun _ _ _ _ h => cell_inj d L h)]
  congr 1
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

abbrev bufRest : sProp 𝕄 :=
  bigSep (((ownRefs (τ := τ) (.scVector (cV L) (jV L))).erase ((Proc.scVector (cV L) (jV L)).devRef cc0_scoped0)).erase ((Proc.scVector (cV L) (jV L)).devRef cc0_scoped2))
    fun b => iprop(∃ f, ((d, b) : Loc nD τ sig) ↦{fullShare} f)

theorem ownBufs_split :
    (ownBufs (VT d L) : sProp 𝕄) = iprop((∃ f, aLoc d L ↦{fullShare} f) ∗ (∃ f, bLoc d L ↦{fullShare} f) ∗ bufRest d L) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

theorem aSlots : Finset.univ = (aSlot 0).view.set ∪ (aSlot 1).view.set :=
  (Finset.eq_univ_of_forall fun (j : S2x1x128.Idx) => Finset.mem_union.2 ((show (j 0).val = 0 ∨ (j 0).val = 1 by
    have : (j 0).val < 2 := (j 0).isLt
    omega).imp (mem_aSlot 0 j).2 (mem_aSlot 1 j).2)).symm
theorem aSlots_disj : Disjoint (aSlot 0).view.set (aSlot 1).view.set :=
  Finset.disjoint_left.2 fun (j : S2x1x128.Idx) h h' => absurd (((mem_aSlot 0 j).1 h).symm.trans ((mem_aSlot 1 j).1 h')) (by decide)
theorem bSlots : Finset.univ = (bSlot 0).view.set ∪ (bSlot 1).view.set :=
  (Finset.eq_univ_of_forall fun (j : S2x64x512.Idx) => Finset.mem_union.2 ((show (j 0).val = 0 ∨ (j 0).val = 1 by
    have : (j 0).val < 2 := (j 0).isLt
    omega).imp (mem_bSlot 0 j).2 (mem_bSlot 1 j).2)).symm
theorem bSlots_disj : Disjoint (bSlot 0).view.set (bSlot 1).view.set :=
  Finset.disjoint_left.2 fun (j : S2x64x512.Idx) h h' => absurd (((mem_bSlot 0 j).1 h).symm.trans ((mem_bSlot 1 j).1 h')) (by decide)

theorem aPts_split (f : Buf (Elt F) (aLoc d L)) : (aLoc d L ↦{fullShare} f : sProp 𝕄) ⊢ iprop(aPts d L 0 f ∗ aPts d L 1 f) := by
  rw [aSlots]; exact (pointsTo_union aSlots_disj).1
theorem bPts_split (f : Buf (Elt F) (bLoc d L)) : (bLoc d L ↦{fullShare} f : sProp 𝕄) ⊢ iprop(bPts d L 0 f ∗ bPts d L 1 f) := by
  rw [bSlots]; exact (pointsTo_union bSlots_disj).1
theorem aPts_join (f g : Buf (Elt F) (aLoc d L)) : iprop(aPts d L 0 f ∗ aPts d L 1 g) ⊢ (∃ f, aLoc d L ↦{fullShare} f : sProp 𝕄) := by
  iintro H
  iexists _
  rw [aSlots]
  iapply (pointsTo_join aSlots_disj) $$ H
theorem bPts_join (f g : Buf (Elt F) (bLoc d L)) : iprop(bPts d L 0 f ∗ bPts d L 1 g) ⊢ (∃ f, bLoc d L ↦{fullShare} f : sProp 𝕄) := by
  iintro H
  iexists _
  rw [bSlots]
  iapply (pointsTo_join bSlots_disj) $$ H

local notation "WP" => wp frame (wpE (defs₀ (F := F)) 𝒱₀ (VT d L) none) Set.univ

/-- The task of the subcore with coordinates `L`. -/
theorem tile_run (hpre : PreOK m) {qy : PosShare TreeShare} (O : CellTallies nD τ sig (HIx 1)) (W : Waits sig (HIx 1)) (hO : ∀ g, O g none = 0) :
    iprop(levAts (K (F := F)).L (K (F := F)).lev ∗ emp
        ∗ ((yLoc d ↦{qy} m (yLoc d)) ∗ eAll m d L ∗ oAll d L (m (oLoc d)))
        ∗ scopedBufs (VT d L) ∗ scopedSems0 (VT d L) ∗ owes (VT d L) O W)
      ⊢ WP (cc0_collect (F := F) L yV (Memref.isWhole_whole _) eV (Memref.isWhole_whole _) oV (Memref.isWhole_whole _) aV (Memref.isWhole_whole _) cc0_scoped1
          bV (Memref.isWhole_whole _) cc0_scoped3 cc0_scoped4 cc0_scoped5 cc0_scoped6 cc0_scoped7)
        fun _ => iprop(((yLoc d ↦{qy} m (yLoc d)) ∗ eAll m d L ∗ oAll d L (G m d))
            ∗ scopedBufs (VT d L) ∗ scopedSems0 (VT d L) ∗ ∃ W', ⌜∀ p ∈ W', p ∈ W ∨ p.2 = none⌝ ∗ owes (VT d L) O W') := by
  rw [(K (F := F)).scopedBufs_V facts d (cV L) (jV L), SparseCore.Cfg.scopedSems0_V (Val := Elt F) d (cV L) (jV L), ownSems0_split, ownBufs_split]
  iintro ⟨#Hlv, -, ⟨Hy, He, Ho⟩, ⟨⟨%fa, Ha⟩, ⟨%fb, Hb⟩, Hbufs⟩, ⟨⟨HA0, HA1, HB0, HB1, Hg⟩, Hsems⟩, HO⟩
  ihave Ha := (aPts_split d L fa) $$ Ha
  icases Ha with ⟨Ha0, Ha1⟩
  ihave Hb := (bPts_split d L fb) $$ Hb
  icases Hb with ⟨Hb0, Hb1⟩
  iapply (wp_wand_r frame _ Set.univ)
  isplitl [Hy He Ho Ha0 Ha1 Hb0 Hb1 HA0 HA1 HB0 HB1 Hg HO]
  · iapply (collect_run m d L hpre hO W)
    isplitr; · iexact Hlv
    isplitl [Hy]; · iexact Hy
    isplitl [He]; · iexact He
    isplitl [Ho]; · iexact Ho
    isplitl [Ha0 HA0]
    · isplitl [Ha0]; · iexists fa; iexact Ha0
      iexact HA0
    isplitl [Ha1 HA1]
    · isplitl [Ha1]; · iexists fa; iexact Ha1
      iexact HA1
    isplitl [Hb0 HB0]
    · isplitl [Hb0]; · iexists fb; iexact Hb0
      iexact HB0
    isplitl [Hb1 HB1]
    · isplitl [Hb1]; · iexists fb; iexact Hb1
      iexact HB1
    isplitl [Hg]; · iexact Hg
    iexists W
    isplitr; · ipureintro; exact fun p hp => .inl hp
    iexact HO
  iintro %u ⟨Hy, He, Ho, ⟨⟨%f0, Ha0⟩, HA0⟩, ⟨⟨%f1, Ha1⟩, HA1⟩, ⟨⟨%g0, Hb0⟩, HB0⟩, ⟨⟨%g1, Hb1⟩, HB1⟩, Hg, HO⟩
  isplitl [Hy He Ho]
  · isplitl [Hy]; · iexact Hy
    isplitl [He]; · iexact He
    iexact Ho
  isplitl [Ha0 Ha1 Hb0 Hb1 Hbufs]
  · isplitl [Ha0 Ha1]
    · iapply (aPts_join d L f0 f1)
      isplitl [Ha0]; · iexact Ha0
      iexact Ha1
    isplitl [Hb0 Hb1]
    · iapply (bPts_join d L g0 g1)
      isplitl [Hb0]; · iexact Hb0
      iexact Hb1
    iexact Hbufs
  isplitl [HA0 HA1 HB0 HB1 Hg Hsems]
  · isplitr [Hsems]
    · isplitl [HA0]; · iexact HA0
      isplitl [HA1]; · iexact HA1
      isplitl [HB0]; · iexact HB0
      isplitl [HB1]; · iexact HB1
      iexact Hg
    iexact Hsems
  iexact HO

theorem obl_post {thr : Thread nD τ} {A B C : sProp 𝕄} {W : Waits sig (HIx 1)} {O : CellTallies nD τ sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ SparseCore.Cfg.Blocks.blk q p.2⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right .inl
  iexact HO

theorem defs₀_vector (c : Fin τ.nSC) (s : Fin τ.nSub) :
    defs₀ (F := F) (.scVector c s) 0 ()
      = SparseCore.onTile hcore0 hsub0 (fun c s => cc0_collect (F := F) (coordsV c s) yV (Memref.isWhole_whole _) eV (Memref.isWhole_whole _) oV (Memref.isWhole_whole _)
          aV (Memref.isWhole_whole _) cc0_scoped1 bV (Memref.isWhole_whole _) cc0_scoped3 cc0_scoped4 cc0_scoped5 cc0_scoped6 cc0_scoped7) ⟨⟩ c s := rfl

theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_run m d (coordsV ⟨_, hci.1⟩ ⟨_, hci.2⟩) hpre O W hO).trans (wp_mono frame _ _ fun _ => obl_post)

theorem vecSplit : (K (F := F)).VecSplit' (P m) 0 := by
  intro d c
  show (bigSep Finset.univ fun i : Fin 16 => share m d c i (m (oLoc d)) : sProp 𝕄)
    ⊢ |={Set.univ}=> iprop((bigSep Finset.univ fun i : Fin 16 => share m d c i (m (oLoc d)))
        ∗ ((bigSep Finset.univ fun i : Fin 16 => share m d c i (G m d)) -∗ bigSep Finset.univ fun i : Fin 16 => share m d c i (G m d)))
  iintro H
  imodintro
  isplitl [H]; · iexact H
  iintro H
  iexact H

/-! ## The handshakes' ghost state, `@main`, and the program's run -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  have e' : (bigSep Finset.univ fun _ : Dev nD => iprop(emp)) = (iprop(emp) : sProp 𝕄) := bigSep_emp_const _
  unfold u₀
  rw [e, e']
  iintro H
  ihave H := (ownU_pair (initOf (K (F := F)).hsCells (K (F := F)).hsToks) (1 : Counters)) $$ H
  icases H with ⟨H, -⟩
  imodintro
  isplitl [H]; · iexact H
  isplitr
  · iempintro
  iempintro

theorem unscoped_split (d : Dev nD) (W : (b : Ref sig .tc) → Buf (Elt F) ((d.tc : Thread nD τ).loc b)) :
    (unscopedBufs d W : sProp 𝕄) = iprop((yLoc d ↦{fullShare} W main_arg0) ∗ (eLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the TensorCore holds of the three arrays, `f` the result. -/
abbrev arrays (d : Dev nD) (f : Buf (Elt F) (oLoc d)) : sProp 𝕄 :=
  iprop((yLoc d ↦{fullShare} m (yLoc d)) ∗ (eLoc d ↦{fullShare} m (eLoc d)) ∗ oLoc d ↦{fullShare} f)

/-- `@main`: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (G m d) ∗ (K (F := F)).tcEnd d) := by
  have st : (bigSep Finset.univ fun c : Fin ((K (F := F)).nCore 0) => (P m).st 0 d c)
      = (bigSep Finset.univ fun c : Fin 2 => bigSep Finset.univ fun i : Fin 16 => share m d c i (m (oLoc d)) : sProp 𝕄) := rfl
  have dn : (bigSep Finset.univ fun c : Fin ((K (F := F)).nCore 0) => (P m).dn 0 d c)
      = (bigSep Finset.univ fun c : Fin 2 => bigSep Finset.univ fun i : Fin 16 => share m d c i (G m d) : sProp 𝕄) := rfl
  unfold SparseCore.Cfg.tcRes SparseCore.Cfg.tcEnd
  rw [unscoped_split]
  simp only [main, wp_bind, wp_pure]
  iintro ⟨#Hctx, Hst, ⟨Hb, H, Hts, -⟩, -⟩
  ihave H := (Entails.of_eq (shares_all m d (m (oLoc d)))) $$ H
  icases H with ⟨Hl, H⟩
  iapply ((K (F := F)).wp_run (D (F := F)) 𝒱 (EH := EH) (P := P m) κ d 0) $$ [Hst H Hl Hb Hts]
  isplitr; · iexact Hctx
  isplitl [Hst]; · iexact Hst
  isplitl [H]
  · rw [st]; iexact H
  iintro ⟨Hst, H⟩
  ihave H := (Entails.of_eq dn) $$ H
  ihave H := (Entails.of_eq (shares_all m d (G m d)).symm) $$ [Hl H]
  · isplitl [Hl]; · iexact Hl
    iexact H
  imodintro
  isplitl [Hst]; · iexact Hst
  isplitl [H]; · iexact H
  isplitl [Hb] <;> iassumption

def fq (d : Dev nD) (s : Phys nD τ sig (Elt F)) : Prop :=
  s.mem.mem (yLoc d) = m (yLoc d) ∧ s.mem.mem (eLoc d) = m (eLoc d) ∧ s.mem.mem (oLoc d) = G m d

theorem hfin (d : Dev nD) (s : Phys nD τ sig (Elt F)) : iprop(arrays m d (G m d) ∗ SI s) ⊢ (⌜fq m d s⌝ : sProp 𝕄) := by
  iintro ⟨⟨Hy, He, Ho⟩, HSI⟩
  ihave H := (persistent_entails_right (SI_pointsTo_agree (st := s) (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s) (ℓ := eLoc d) (I := Finset.univ) (q := fullShare) (f := m (eLoc d)))) $$ [HSI He]
  · isplitl [HSI] <;> iassumption
  icases H with ⟨%h2, HSI, -⟩
  ihave H := (SI_pointsTo_agree (st := s) (ℓ := oLoc d) (I := Finset.univ) (q := fullShare) (f := G m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- A final state: both arguments as before, the result `G`, every semaphore at zero. -/
def QC : PUnit × MemSt nD τ sig (Elt F) → Prop := fun r =>
  (∀ c : Dev nD, r.2.mem (yLoc c) = m (yLoc c) ∧ r.2.mem (eLoc c) = m (eLoc c) ∧ r.2.mem (oLoc c) = G m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (fun d => arrays m d (G m d)) (u₀ (F := F)) (sep_elim_left.trans (hu₀ m)) (hmain m ρ) (fq m) (hfin m) (QC m)
    (fun _ h hz => ⟨h, hz⟩)

end Tile

end Cert.Proof.Collect
-- ==== Proof.Ref.lean ====
/-
  The reference `ys[dest[:, :64].reshape(-1)]`: the operations of its `@main`, composed, are the array that the collect leaves
  (`Cert.Proof.Collect.G`) whenever every word read names a row of the table; and the precondition says that they do.
-/
module

public import proofs.«01_k».proof.Proof.Launch
public import proofs.«01_k».proof.Defs
public import proofs.«01_k».proof.Proof.Gen.ReferenceIdeal.Run
public import proofs.«01_k».proof.Proof.Gen.Reference.Run
public import proofs.«01_k».proof.Proof.Gen.Pre_slots_in_range

@[expose] public section

set_option maxRecDepth 16384

noncomputable section

namespace Cert.Proof.Ref

open Idealize.ShloMosaic Idealize.ShloMosaic.ValueIdx Idealize.SL.Sem Cert.ReferenceIdeal Cert.ReferenceIdeal.Gen

/-- A word below 40960 is not negative as a signed word. -/
theorem slt_zero {v : BitVec 32} (h : v.toNat < 40960) : IntOp.cmpi .slt v 0#32 = 0#1 := by
  have : v.slt 0#32 = false := by
    rw [BitVec.slt_eq_decide, decide_eq_false_iff_not, BitVec.toInt_eq_toNat_cond]
    simp only [BitVec.toInt_zero]
    omega
  simp only [IntOp.cmpi, this]
  rfl

theorem toInt_toNat {v : BitVec 32} (h : v.toNat < 40960) : v.toInt.toNat = v.toNat := by
  rw [BitVec.toInt_eq_toNat_cond]
  omega

section Value
variable {F : FTy → Type} [FloatOps F]

/-- The reference's result, of its two arguments. -/
abbrev refVal (y : (⟨S40960x512, .f32⟩ : BufTy).Contents (Elt F)) (e : (⟨S512x128, .i32⟩ : BufTy).Contents (Elt F)) :
    (⟨S32768x512, .f32⟩ : BufTy).Contents (Elt F) :=
  Host.gather gather_S40960x512_S32768x1_S32768x512_1_0_n_n_0_1_1512 y
    (broadcastInDim S32768x1 ![0] bcast_S32768_S32768x1_0
      (select (cmpi .slt (shapeCast S32768 (extractStridedSlice S512x64 ![0, 0] e slices_S512x128_S512x64_0_0) shapeCasts_S512x64_S32768)
          (broadcastInDim S32768 ![] bcast_S_S32768 (constantI S_ 32 0#32)))
        (addi (shapeCast S32768 (extractStridedSlice S512x64 ![0, 0] e slices_S512x128_S512x64_0_0) shapeCasts_S512x64_S32768)
          (broadcastInDim S32768 ![] bcast_S_S32768 (constantI S_ 32 40960#32)))
        (shapeCast S32768 (extractStridedSlice S512x64 ![0, 0] e slices_S512x128_S512x64_0_0) shapeCasts_S512x64_S32768)))

/-- Row `j` of the table's rows gathered at the start indices `idx`: the start read signed, and clamped to the last row. -/
theorem gather_apply (y : (⟨S40960x512, .f32⟩ : BufTy).Contents (Elt F)) (idx : IVec S32768x1 32) (j : S32768x512.Idx) :
    Host.gather gather_S40960x512_S32768x1_S32768x512_1_0_n_n_0_1_1512 y idx j
      = y (ix2 (⟨min (idx (ix2 (j 0) 0 : S32768x1.Idx)).toInt.toNat 40959, by omega⟩ : Fin 40960) (j 1 : Fin 512) : S40960x512.Idx) := by
  unfold Host.gather
  congr 1
  funext a
  refine Fin.ext ?_
  show (gather_S40960x512_S32768x1_S32768x512_1_0_n_n_0_1_1512).start j idx a
    + (gather_S40960x512_S32768x1_S32768x512_1_0_n_n_0_1_1512).batchCoord j a
    + (gather_S40960x512_S32768x1_S32768x512_1_0_n_n_0_1_1512).offCoord j a = _
  rw [GatherDims.batchCoord_eq_zero _ _ _ List.not_mem_nil]
  obtain rfl | rfl : a = (0 : Fin 2) ∨ a = (1 : Fin 2) := (show ∀ a : Fin 2, a = 0 ∨ a = 1 by decide) a
  · rw [GatherDims.offCoord_eq_zero _ _ _ (fun h => ((GatherDims.mem_sKept _ _).mp h).1 (List.mem_singleton.mpr rfl))]
    unfold GatherDims.start
    rw [dif_pos (show (0 : Fin 2) ∈ (gather_S40960x512_S32768x1_S32768x512_1_0_n_n_0_1_1512).startIndexMap from List.mem_singleton.mpr rfl)]
    have e : (gather_S40960x512_S32768x1_S32768x512_1_0_n_n_0_1_1512).siIdx j
        ⟨List.idxOf (0 : Fin 2) (gather_S40960x512_S32768x1_S32768x512_1_0_n_n_0_1_1512).startIndexMap, List.idxOf_lt_length_iff.2 (List.mem_singleton.mpr rfl)⟩
        = (ix2 (j 0) 0 : S32768x1.Idx) := by
      funext b
      refine Fin.ext ?_
      match b with
      | ⟨0, _⟩ => rfl
      | ⟨1, _⟩ => rfl
    rw [e]
    rfl
  · unfold GatherDims.start
    rw [dif_neg (show (1 : Fin 2) ∉ (gather_S40960x512_S32768x1_S32768x512_1_0_n_n_0_1_1512).startIndexMap from
      fun h => absurd (List.mem_singleton.mp h) (by decide))]
    simp only [Nat.zero_add]
    rfl

/-- The index array's first 64 columns. -/
theorem slice_apply (e : (⟨S512x128, .i32⟩ : BufTy).Contents (Elt F)) (r : Fin 512) (k : Fin 64) :
    extractStridedSlice S512x64 ![0, 0] e slices_S512x128_S512x64_0_0 (ix2 r k)
      = e (ix2 r (⟨k.val, Nat.lt_of_lt_of_le k.isLt (by decide)⟩ : Fin 128) : S512x128.Idx) := by
  unfold extractStridedSlice
  congr 1
  funext b
  refine Fin.ext ?_
  match b with
  | ⟨0, _⟩ => exact Nat.zero_add _
  | ⟨1, _⟩ => exact Nat.zero_add _

/-- They, row after row. -/
theorem flat_apply (e : (⟨S512x128, .i32⟩ : BufTy).Contents (Elt F)) (r : Fin 512) (k : Fin 64) (j : S32768.Idx) (h : (j 0).val = r.val * 64 + k.val) :
    shapeCast S32768 (extractStridedSlice S512x64 ![0, 0] e slices_S512x128_S512x64_0_0) shapeCasts_S512x64_S32768 j
      = e (ix2 r (⟨k.val, Nat.lt_of_lt_of_le k.isLt (by decide)⟩ : Fin 128) : S512x128.Idx) := by
  unfold shapeCast
  rw [Shape.reshapeEquiv_eq_of_rowMajor shapeCasts_S512x64_S32768 (x := j) (y := (ix2 r k : S512x64.Idx))
    ((Shape.rowMajor_val_two _).trans ((Shape.rowMajor_val_one j).trans h).symm)]
  exact slice_apply e r k

/-- A list stood up as a column. -/
theorem column_apply (x : IVec S32768 32) (p : Fin 32768) :
    broadcastInDim S32768x1 ![0] bcast_S32768_S32768x1_0 x (ix2 p 0 : S32768x1.Idx) = x (ix1 p : S32768.Idx) := by
  unfold broadcastInDim
  congr 1
  funext a
  match a with
  | ⟨0, _⟩ => exact dif_neg (show ¬ (32768 : ℕ) = 1 by decide)

/-- The reference's result is the collect's. -/
theorem refVal_eq (m : (ℓ : Loc Cert.KernelIdeal.nD Cert.KernelIdeal.τ Cert.KernelIdeal.sig) → Buf (Elt F) ℓ) (hpre : Collect.PreOK m)
    (d : Dev Cert.KernelIdeal.nD) : refVal (F := F) (m (Collect.yLoc d)) (m (Collect.eLoc d)) = Collect.G m d := by
  funext (j : S32768x512.Idx)
  have hj : (j 0).val < 64 * 512 := (j 0).isLt
  refine (gather_apply _ _ j).trans ?_
  unfold Collect.G Collect.gAt
  have hw := hpre d ⟨(j 0).val / 64, Nat.div_lt_of_lt_mul hj⟩ ⟨(j 0).val % 64, Nat.mod_lt _ (by decide)⟩
  have hf := flat_apply (m (Collect.eLoc d)) ⟨(j 0).val / 64, Nat.div_lt_of_lt_mul hj⟩ ⟨(j 0).val % 64, Nat.mod_lt _ (by decide)⟩
    (ix1 (j 0) : S32768.Idx) (show (j 0).val = (j 0).val / 64 * 64 + (j 0).val % 64 by omega)
  change _ = Collect.word m d _ _ at hf
  have hi : (broadcastInDim S32768x1 ![0] bcast_S32768_S32768x1_0
      (select (cmpi .slt (shapeCast S32768 (extractStridedSlice S512x64 ![0, 0] (m (Collect.eLoc d)) slices_S512x128_S512x64_0_0) shapeCasts_S512x64_S32768)
          (broadcastInDim S32768 ![] bcast_S_S32768 (constantI S_ 32 0#32)))
        (addi (shapeCast S32768 (extractStridedSlice S512x64 ![0, 0] (m (Collect.eLoc d)) slices_S512x128_S512x64_0_0) shapeCasts_S512x64_S32768)
          (broadcastInDim S32768 ![] bcast_S_S32768 (constantI S_ 32 40960#32)))
        (shapeCast S32768 (extractStridedSlice S512x64 ![0, 0] (m (Collect.eLoc d)) slices_S512x128_S512x64_0_0) shapeCasts_S512x64_S32768))
      : IVec S32768x1 32) (ix2 (j 0) 0 : S32768x1.Idx)
      = Collect.word m d ⟨(j 0).val / 64, Nat.div_lt_of_lt_mul hj⟩ ⟨(j 0).val % 64, Nat.mod_lt _ (by decide)⟩ := by
    have hs : ∀ v : BitVec 32, v.toNat < 40960 → (if IntOp.cmpi .slt v 0#32 = 1#1 then v + 40960#32 else v) = v := fun v h => by
      rw [slt_zero h]; exact if_neg (by decide)
    refine (column_apply _ (j 0)).trans (Eq.trans ?_ (hs _ hw))
    rw [← hf]
    rfl
  refine congrArg (m (Collect.yLoc d)) (congrArg (fun a : Fin 40960 => (ix2 a (j 1 : Fin 512) : S40960x512.Idx)) (Fin.ext ?_))
  refine (congrArg (fun v : BitVec 32 => min v.toInt.toNat 40959) hi).trans ?_
  show min (BitVec.toInt _).toNat 40959 = _ % 40960
  rw [toInt_toNat hw]
  omega

/-- The precondition, all ones on every device, says that every word read names a row of the table. -/
theorem preOK_of_pre (m : (ℓ : Loc Cert.KernelIdeal.nD Cert.KernelIdeal.τ Cert.KernelIdeal.sig) → Buf (Elt F) ℓ)
    (h : ∀ d : Dev Cert.KernelIdeal.nD, Cert.Pre_slots_in_range.fn (F := F) (m (Collect.yLoc d)) (m (Collect.eLoc d)) = fun _ => 1#1) : Collect.PreOK m := by
  have band : ∀ a b : BitVec 1, IntOp.andi a b = 1#1 → a = 1#1 ∧ b = 1#1 := by decide
  have bit : ∀ p : Bool, BitVec.ofBool p = 1#1 → p = true := by decide
  have key : ∀ v : BitVec 32, IntOp.andi (IntOp.cmpi .sge v 0#32) (IntOp.cmpi .slt v 40960#32) = 1#1 → v.toNat < 40960 := by
    intro v e
    obtain ⟨e0, e1⟩ := band _ _ e
    have e0 := bit _ e0
    have e1 := bit _ e1
    simp only [BitVec.sle_eq_decide, BitVec.slt_eq_decide, decide_eq_true_eq, BitVec.toInt_eq_toNat_cond, BitVec.toNat_ofNat, Nat.reducePow, Nat.reduceMod] at e0 e1
    omega
  intro d r k
  have e := congrFun (h d) (ix2 r k)
  refine key _ ?_
  unfold Collect.word
  rw [← slice_apply (m (Collect.eLoc d)) r k]
  exact e

end Value

end Cert.Proof.Ref
-- ==== Proof.InProjPay.lean ====
/-
  THE INPUT PROJECTION, POINT BY POINT (pure): what the kernel's five stored values are at an index.

  A row of the modulated pre-norm is `normed`; a column of a result is the product of that row with one column of the
  weights, plus the bias. Each stored value of the body, read at an index, is that product over the loaded blocks.
-/
module

public import proofs.«01_k».proof.Proof.Gen.InProjIdeal.Skeleton
public import Idealize.ShloMosaic.Lib.Pointwise

@[expose] public section

noncomputable section

namespace Cert.Proof.InProj

open Cert.InProjIdeal Cert.InProjIdeal.Gen Idealize.ShloMosaic

/-- One row of the modulated pre-norm: the row over the root of its mean square plus 1e-6, times the gain, times one plus
    the scale, plus the shift. -/
def normed (x g sc sh : Fin 1024 → EReal) (k : Fin 1024) : EReal :=
  x k * Ideal.rsqrt (Ideal.div (∑ j : Fin 1024, x j * x j) (Ideal.ofBits .f32 0x44800000#32) + Ideal.ofBits .f32 0x358637BD#32)
    * g k * (1 + sc k) + sh k

/-- The body's normalized block at a row and a column. -/
theorem pay1_apply (v0 : Vec Ideal S512x1024 .f32) (v3 : Vec Ideal S1x6x1024 .f32) (v15 : Vec Ideal S1x1024 .f32)
    (r : Fin 512) (k : Fin 1024) :
    k0_pay1 v0 v3 v15 (ix2 r k) = normed (fun j => v0 (ix2 r j)) (fun j => v15 (ix2 0 j))
      (fun j => v3 (ix3 0 1 j)) (fun j => v3 (ix3 0 0 j)) k := by
  pointwise [k0_pay1, normed]

/-- The stored value of the recurrent branch's columns. -/
theorem pay2_apply (v0 : Vec Ideal S512x1024 .f32) (v3 : Vec Ideal S1x6x1024 .f32) (v15 : Vec Ideal S1x1024 .f32)
    (w : Vec Ideal S1024x1792 .bf16) (b : Vec Ideal S1x1792 .f32) (r : Fin 512) (l : Fin 1792) :
    k0_pay2 v0 v3 v15 w b (ix2 r l) = (∑ k : Fin 1024, k0_pay1 v0 v3 v15 (ix2 r k) * w (ix2 k l)) + b (ix2 0 l) := by
  pointwise [k0_pay2]

/-- The stored value of the query columns. -/
theorem pay4_apply (h : FVec Ideal S512x1024 .bf16) (w : Vec Ideal S1024x512 .bf16) (b : Vec Ideal S1x512 .f32)
    (r : Fin 512) (l : Fin 512) :
    k0_pay4 h (k0_pay3 w) b (ix2 r l) = (∑ k : Fin 1024, h (ix2 r k) * w (ix2 k l)) + b (ix2 0 l) := by
  pointwise [k0_pay4, k0_pay3]

/-- The stored value of the key and value columns. -/
theorem pay5_apply (h : FVec Ideal S512x1024 .bf16) (w : Vec Ideal S1024x768 .bf16) (b : Vec Ideal S1x768 .f32)
    (r : Fin 512) (l : Fin 768) :
    k0_pay5 h w b (ix2 r l) = (∑ k : Fin 1024, h (ix2 r k) * w (ix2 k l)) + b (ix2 0 l) := by
  pointwise [k0_pay5]

/-- The stored value of the gate columns. -/
theorem pay6_apply (h : FVec Ideal S512x1024 .bf16) (w : Vec Ideal S1024x128 .bf16) (b : Vec Ideal S1x128 .f32)
    (r : Fin 512) (l : Fin 128) :
    k0_pay6 h w b (ix2 r l) = (∑ k : Fin 1024, h (ix2 r k) * w (ix2 k l)) + b (ix2 0 l) := by
  pointwise [k0_pay6]

/-- The stored value of the merge columns. -/
theorem pay7_apply (h : FVec Ideal S512x1024 .bf16) (w : Vec Ideal S1024x2048 .bf16) (b : Vec Ideal S1x2048 .f32)
    (r : Fin 512) (l : Fin 2048) :
    k0_pay7 h w b (ix2 r l) = (∑ k : Fin 1024, h (ix2 r k) * w (ix2 k l)) + b (ix2 0 l) := by
  pointwise [k0_pay7]

end Cert.Proof.InProj

end
-- ==== Proof.InProjRef.lean ====
/-
  THE INPUT PROJECTION'S REFERENCE AT AN INDEX (pure): row `r` of a result is token `r % 8192` of batch `r / 8192`, and its
  columns are a segment of the one product's columns.
-/
module

public import proofs.«01_k».proof.Proof.InProjPay
public import proofs.«01_k».proof.Proof.Gen.InProjRefIdeal.Run

@[expose] public section

noncomputable section

namespace Cert.Proof.InProj

open Cert.InProjRefIdeal Cert.InProjRefIdeal.Gen Idealize.ShloMosaic Idealize.ShloMosaic.StableHlo

variable (x : FVec Ideal S2x8192x1024 .f32) (mod : FVec Ideal S2x6x1024 .f32) (g : FVec Ideal S1024 .f32)
  (w : FVec Ideal S1024x5144 .f32) (b : FVec Ideal S5144 .f32)

/-- The whole product at batch `i`, token `t`, column `l`. -/
def prod (i : Fin 2) (t : Fin 8192) (l : Fin 5144) : EReal :=
  (∑ k : Fin 1024, normed (fun j => x (ix3 i t j)) (fun j => g (ix1 j)) (fun j => mod (ix3 i 1 j)) (fun j => mod (ix3 i 0 j)) k
    * w (ix2 k l)) + b (ix1 l)

/-- The reference's product of all columns, as its run names it. -/
abbrev all : FVec Ideal S2x8192x5144 .f32 :=
  addf (Host.dotGeneral (F := Ideal) (φ₁ := .f32) (φ₂ := .f32) dot_S2x8192x1024_S1024x5144_S2x8192x5144_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 1, 0] mod slices_S2x6x1024_S2x1x1024_0_1_0)))) (broadcastInDim S2x8192x1024 ![0, 1, 2] bcast_S2x1x1024_S2x8192x1024_0_1_2 (extractStridedSlice S2x1x1024 ![0, 0, 0] mod slices_S2x6x1024_S2x1x1024_0_0_0))) w) (broadcastInDim S2x8192x5144 ![0, 1, 2] bcast_S1x1x5144_S2x8192x5144_0_1_2 (broadcastInDim S1x1x5144 ![2] bcast_S5144_S1x1x5144_2 b))

theorem all_apply (i : Fin 2) (t : Fin 8192) (l : Fin 5144) : all x mod g w b (ix3 i t l) = prod x mod g w b i t l := by
  pointwise [all, prod, normed]

/-- The row's batch and token. -/
theorem row_lt (r : Fin 16384) : r.val / 8192 < 2 := by omega

/-- The product at row `r` of the flattened tokens. -/
def rowProd (r : Fin 16384) (l : Fin 5144) : EReal :=
  prod x mod g w b ⟨r.val / 8192, row_lt r⟩ ⟨r.val % 8192, Nat.mod_lt _ (by decide)⟩ l

theorem rows_apply (y : FVec Ideal S2x8192x5144 .f32) (r : Fin 16384) (l : Fin 5144) :
    shapeCast S16384x5144 y shapeCasts_S2x8192x5144_S16384x5144 (ix2 r l)
      = y (ix3 ⟨r.val / 8192, row_lt r⟩ ⟨r.val % 8192, Nat.mod_lt _ (by decide)⟩ l) := by
  pointwise

/-- The reference's rows. -/
abbrev rows : FVec Ideal S16384x5144 .f32 := shapeCast S16384x5144 (all x mod g w b) shapeCasts_S2x8192x5144_S16384x5144

theorem rows_eq (r : Fin 16384) (l : Fin 5144) : rows x mod g w b (ix2 r l) = rowProd x mod g w b r l :=
  (rows_apply _ r l).trans (all_apply ..)

theorem ref_rw (r : Fin 16384) (l : Fin 1792) :
    extractStridedSlice S16384x1792 ![0, 0] (rows x mod g w b) slices_S16384x5144_S16384x1792_0_0 (ix2 r l)
      = rowProd x mod g w b r ⟨l.val, by omega⟩ := by
  rw [← rows_eq]; generalize rows x mod g w b = y; pointwise

theorem ref_q (r : Fin 16384) (l : Fin 512) :
    extractStridedSlice S16384x512 ![0, 1792] (rows x mod g w b) slices_S16384x5144_S16384x512_0_1792 (ix2 r l)
      = rowProd x mod g w b r ⟨1792 + l.val, by omega⟩ := by
  rw [← rows_eq]; generalize rows x mod g w b = y; pointwise

theorem ref_kv (r : Fin 16384) (l : Fin 768) :
    extractStridedSlice S16384x768 ![0, 2304] (rows x mod g w b) slices_S16384x5144_S16384x768_0_2304 (ix2 r l)
      = rowProd x mod g w b r ⟨2304 + l.val, by omega⟩ := by
  rw [← rows_eq]; generalize rows x mod g w b = y; pointwise

theorem ref_merge (r : Fin 16384) (l : Fin 2048) :
    extractStridedSlice S16384x2048 ![0, 3096] (rows x mod g w b) slices_S16384x5144_S16384x2048_0_3096 (ix2 r l)
      = rowProd x mod g w b r ⟨3096 + l.val, by omega⟩ := by
  rw [← rows_eq]; generalize rows x mod g w b = y; pointwise

theorem ref_gate (r : Fin 16384) (l : Fin 128) :
    pad S16384x128 ![0, 0] ![0, 104] ![0, 0] (extractStridedSlice S16384x24 ![0, 3072] (rows x mod g w b) slices_S16384x5144_S16384x24_0_3072)
        (sitofp (F := Ideal) .f32 (constantI S_ 32 0#32)) pads_S16384x24_S16384x128_000_01040 h_S_ (ix2 r l)
      = if h : l.val < 24 then rowProd x mod g w b r ⟨3072 + l.val, by omega⟩ else 0 := by
  simp only [← rows_eq]; generalize rows x mod g w b = y
  have hz : FloatOps.sitofp (F := Ideal) .f32 (0#32) = 0 := by
    show (((0#32 : BitVec 32).toInt : ℝ) : EReal) = 0
    simp
  pointwise [hz]

end Cert.Proof.InProj

end
-- ==== Proof.InProjVal.lean ====
/-
  THE INPUT PROJECTION'S KERNEL: what its five result arrays hold after the run.

  The grid's point `t` handles rows `512 t` to `512 t + 511`, all of batch `t / 16`; it writes its block of each result
  once. So each result array is the reference's rows, block by block.
-/
module

public import proofs.«01_k».proof.Proof.InProjRef
public import proofs.«01_k».proof.Proof.Gen.InProjIdeal.Value

@[expose] public section

set_option maxRecDepth 16384

noncomputable section

namespace Cert.Proof.InProj

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arrays the region finds -/

/-- The region's rows: the tokens flattened. -/
theorem V_x : V m c main_v0 = shapeCast S16384x1024 (m ((c : Thread nD τ).loc main_arg0)) shapeCasts_S2x8192x1024_S16384x1024 := by
  unfold V; simp only [hostOps0]; after_results_simp <;> rfl

theorem V_g : V m c main_v11 = shapeCast S1x1024 (m ((c : Thread nD τ).loc main_arg2)) shapeCasts_S1024_S1x1024 := by
  unfold V; simp only [hostOps0]; after_results_simp <;> rfl

theorem V_w : V m c main_v5 = concatenate S1024x5248 1
    [⟨S1024x3096, extractStridedSlice S1024x3096 ![0, 0] (truncf (F := Ideal) (φ := .f32) .bf16 (m ((c : Thread nD τ).loc main_arg3)) bitsLt_bf16_f32) slices_S1024x5144_S1024x3096_0_0⟩,
     ⟨S1024x104, broadcastInDim S1024x104 ![] bcast_S_S1024x104 (constant (F := Ideal) S_ .bf16 0x0000#16)⟩,
     ⟨S1024x2048, extractStridedSlice S1024x2048 ![0, 3096] (truncf (F := Ideal) (φ := .f32) .bf16 (m ((c : Thread nD τ).loc main_arg3)) bitsLt_bf16_f32) slices_S1024x5144_S1024x2048_0_3096⟩]
    concatenates_S1024x3096_S1024x104_S1024x2048_S1024x5248_d1 := by
  unfold V; simp only [hostOps0]; after_results_simp <;> rfl

theorem V_b : V m c main_v10 = shapeCast S1x5248 (concatenate S5248 0
    [⟨S3096, extractStridedSlice S3096 ![0] (m ((c : Thread nD τ).loc main_arg4)) slices_S5144_S3096_0⟩,
     ⟨S104, broadcastInDim S104 ![] bcast_S_S104 (constant (F := Ideal) S_ .f32 0x00000000#32)⟩,
     ⟨S2048, extractStridedSlice S2048 ![3096] (m ((c : Thread nD τ).loc main_arg4)) slices_S5144_S2048_3096⟩]
    concatenates_S3096_S104_S2048_S5248_d0) shapeCasts_S5248_S1x5248 := by
  unfold V; simp only [hostOps0]; after_results_simp <;> rfl

/-! ## What a point leaves in each result's staging buffer -/

theorem hz : (![0, 0] : Fin 2 → Nat) = fun _ => 0 := funext fun a => by fin_cases a <;> rfl

variable (i : grid0.Coords) (arg2 : Memref sig .tc .vmem S512x1024 .f32) (harg2 : arg2.IsWhole) (arg3 : Memref sig .tc .vmem S2x6x1024 .f32) (harg3 : arg3.IsWhole) (arg4 : Memref sig .tc .vmem S1x1024 .f32) (harg4 : arg4.IsWhole) (arg5 : Memref sig .tc .vmem S1024x5248 .bf16) (harg5 : arg5.IsWhole) (arg6 : Memref sig .tc .vmem S1x5248 .f32) (harg6 : arg6.IsWhole) (arg7 : Memref sig .tc .vmem S512x1792 .f32) (harg7 : arg7.IsWhole) (arg8 : Memref sig .tc .vmem S512x512 .f32) (harg8 : arg8.IsWhole) (arg9 : Memref sig .tc .vmem S512x768 .f32) (harg9 : arg9.IsWhole) (arg10 : Memref sig .tc .vmem S512x128 .f32) (harg10 : arg10.IsWhole) (arg11 : Memref sig .tc .vmem S512x2048 .f32) (harg11 : arg11.IsWhole)
    (x0 : Vec Ideal S512x1024 .f32) (x1 : Vec Ideal S2x6x1024 .f32) (x2 : Vec Ideal S1x1024 .f32) (x3 : Vec Ideal S1024x5248 .bf16) (x4 : Vec Ideal S1x5248 .f32)

theorem out_rw : out0_A_5 c i arg2 harg2 arg3 harg3 arg4 harg4 arg5 harg5 arg6 harg6 arg7 harg7 arg8 harg8 arg9 harg9 arg10 harg10 arg11 harg11 x0 x1 x2 x3 x4
    = k0_pay2 x0 (View.ld x1 (Rect.unit (s := S2x6x1024) (k0_off1 i) S1x6x1024.size (k0_off1_inb i))) x2
        (View.ld x3 (Rect.unit (s := S1024x5248) ![0, 0] S1024x1792.size inb_S1024x5248_S1024x1792_0_0))
        (View.ld x4 (Rect.unit (s := S1x5248) ![0, 0] S1x1792.size inb_S1x5248_S1x1792_0_0)) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 x0 x1 x2 x3 x4)]
  unfold kernelRun0_A
  dsimp only
  rw [View.canon_unit_zero hz]
  simp only [View.readAt_eq_ld, harg2.read_unread, harg3.read_unread, harg4.read_unread, harg5.read_unread, harg6.read_unread,
    View.ld_unit_zero (S := S512x1024) hz, View.ld_unit_zero (S := S1x1024) hz]

theorem out_q : out0_A_6 c i arg2 harg2 arg3 harg3 arg4 harg4 arg5 harg5 arg6 harg6 arg7 harg7 arg8 harg8 arg9 harg9 arg10 harg10 arg11 harg11 x0 x1 x2 x3 x4
    = k0_pay4 (k0_pay1 x0 (View.ld x1 (Rect.unit (s := S2x6x1024) (k0_off1 i) S1x6x1024.size (k0_off1_inb i))) x2)
        (k0_pay3 (View.ld x3 (Rect.unit (s := S1024x5248) ![0, 1792] S1024x512.size inb_S1024x5248_S1024x512_0_1792)))
        (View.ld x4 (Rect.unit (s := S1x5248) ![0, 1792] S1x512.size inb_S1x5248_S1x512_0_1792)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    View.ld_unit_zero (S := S512x1024) hz, View.ld_unit_zero (S := S1x1024) hz]

theorem out_kv : out0_A_7 c i arg2 harg2 arg3 harg3 arg4 harg4 arg5 harg5 arg6 harg6 arg7 harg7 arg8 harg8 arg9 harg9 arg10 harg10 arg11 harg11 x0 x1 x2 x3 x4
    = k0_pay5 (k0_pay1 x0 (View.ld x1 (Rect.unit (s := S2x6x1024) (k0_off1 i) S1x6x1024.size (k0_off1_inb i))) x2)
        (View.ld x3 (Rect.unit (s := S1024x5248) ![0, 2304] S1024x768.size inb_S1024x5248_S1024x768_0_2304))
        (View.ld x4 (Rect.unit (s := S1x5248) ![0, 2304] S1x768.size inb_S1x5248_S1x768_0_2304)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    View.ld_unit_zero (S := S512x1024) hz, View.ld_unit_zero (S := S1x1024) hz]

theorem out_gate : out0_A_8 c i arg2 harg2 arg3 harg3 arg4 harg4 arg5 harg5 arg6 harg6 arg7 harg7 arg8 harg8 arg9 harg9 arg10 harg10 arg11 harg11 x0 x1 x2 x3 x4
    = k0_pay6 (k0_pay1 x0 (View.ld x1 (Rect.unit (s := S2x6x1024) (k0_off1 i) S1x6x1024.size (k0_off1_inb i))) x2)
        (View.ld x3 (Rect.unit (s := S1024x5248) ![0, 3072] S1024x128.size inb_S1024x5248_S1024x128_0_3072))
        (View.ld x4 (Rect.unit (s := S1x5248) ![0, 3072] S1x128.size inb_S1x5248_S1x128_0_3072)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    View.ld_unit_zero (S := S512x1024) hz, View.ld_unit_zero (S := S1x1024) hz]

theorem out_merge : out0_A_9 c i arg2 harg2 arg3 harg3 arg4 harg4 arg5 harg5 arg6 harg6 arg7 harg7 arg8 harg8 arg9 harg9 arg10 harg10 arg11 harg11 x0 x1 x2 x3 x4
    = k0_pay7 (k0_pay1 x0 (View.ld x1 (Rect.unit (s := S2x6x1024) (k0_off1 i) S1x6x1024.size (k0_off1_inb i))) x2)
        (View.ld x3 (Rect.unit (s := S1024x5248) ![0, 3200] S1024x2048.size inb_S1024x5248_S1024x2048_0_3200))
        (View.ld x4 (Rect.unit (s := S1x5248) ![0, 3200] S1x2048.size inb_S1x5248_S1x2048_0_3200)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    View.ld_unit_zero (S := S512x1024) hz, View.ld_unit_zero (S := S1x1024) hz]

/-! ## The blocks at an index -/

/-- The weights of the padded columns, and their bias, at an index. -/
theorem V_w_apply (k : Fin 1024) (l : Fin 5248) :
    (V m c main_v5 : FVec Ideal S1024x5248 .bf16) (ix2 k l)
      = if h : l.val < 3096 then m ((c : Thread nD τ).loc main_arg3) (ix2 k ⟨l.val, by omega⟩)
        else if h' : l.val < 3200 then (0 : EReal) else m ((c : Thread nD τ).loc main_arg3) (ix2 k ⟨l.val - 104, by omega⟩) := by
  rw [V_w]
  pointwise
  by_cases h : l.val < 3096
  · rw [dif_pos h, dif_pos h]
  rw [dif_neg h, dif_neg h]
  by_cases h' : l.val < 3200
  · rw [dif_pos (by omega), dif_pos h']
  rw [dif_neg (by omega), dif_neg h']
  refine congrArg _ (congrArg (ix2 k) (Fin.ext ?_))
  show 3096 + (l.val - 3096 - 104) = l.val - 104; omega

theorem V_b_apply (l : Fin 5248) :
    (V m c main_v10 : FVec Ideal S1x5248 .f32) (ix2 0 l)
      = if h : l.val < 3096 then m ((c : Thread nD τ).loc main_arg4) (ix1 ⟨l.val, by omega⟩)
        else if h' : l.val < 3200 then (0 : EReal) else m ((c : Thread nD τ).loc main_arg4) (ix1 ⟨l.val - 104, by omega⟩) := by
  rw [V_b]
  pointwise
  by_cases h : l.val < 3096
  · rw [dif_pos h, dif_pos h]
  rw [dif_neg h, dif_neg h]
  by_cases h' : l.val < 3200
  · rw [dif_pos (by omega), dif_pos h']
  rw [dif_neg (by omega), dif_neg h']
  refine congrArg _ (congrArg ix1 (Fin.ext ?_))
  show 3096 + (l.val - 3096 - 104) = l.val - 104; omega

theorem V_g_apply (k : Fin 1024) :
    (V m c main_v11 : FVec Ideal S1x1024 .f32) (ix2 0 k) = m ((c : Thread nD τ).loc main_arg2) (ix1 k) := by
  rw [V_g]
  pointwise

theorem x_rows (y : FVec Ideal S2x8192x1024 .f32) (r : Fin 16384) (k : Fin 1024) :
    shapeCast S16384x1024 y shapeCasts_S2x8192x1024_S16384x1024 (ix2 r k)
      = y (ix3 ⟨r.val / 8192, row_lt r⟩ ⟨r.val % 8192, Nat.mod_lt _ (by decide)⟩ k) := by
  pointwise

theorem V_x_apply (r : Fin 16384) (k : Fin 1024) :
    (V m c main_v0 : FVec Ideal S16384x1024 .f32) (ix2 r k)
      = m ((c : Thread nD τ).loc main_arg0) (ix3 ⟨r.val / 8192, row_lt r⟩ ⟨r.val % 8192, Nat.mod_lt _ (by decide)⟩ k) := by
  rw [V_x]
  exact x_rows _ r k

theorem idx0 : ∀ t : Fin cfg0.N, win0_0.index t 0 = t.val ∧ win0_0.index t 1 = 0 :=
  (by decide +kernel : ∀ t : Fin grid0.N, win0_0.index t 0 = t.val ∧ win0_0.index t 1 = 0)

theorem off1 : ∀ t : Fin cfg0.N, k0_off1 (grid0.coords t) 0 = t.val / 16 ∧ k0_off1 (grid0.coords t) 1 = 0 ∧ k0_off1 (grid0.coords t) 2 = 0 :=
  (by decide +kernel : ∀ t : Fin grid0.N, k0_off1 (grid0.coords t) 0 = t.val / 16 ∧ k0_off1 (grid0.coords t) 1 = 0 ∧ k0_off1 (grid0.coords t) 2 = 0)

theorem t_lt (t : Fin cfg0.N) : t.val < 32 := t.isLt

/-- Point `t`'s rows of the tokens. -/
theorem blk_x (t : Fin cfg0.N) (r : Fin 512) (k : Fin 1024) :
    (iblk m c 0 t : FVec Ideal S512x1024 .f32) (ix2 r k)
      = (V m c main_v0 : FVec Ideal S16384x1024 .f32) (ix2 ⟨t.val * 512 + r.val, by have := t_lt t; omega⟩ k) := by
  unfold iblk
  rw [View.read_apply]
  show V m c main_v0 _ = V m c main_v0 _
  congr 1
  funext a
  apply Fin.ext
  match a with
  | ⟨0, _⟩ => show win0_0.index t 0 * 512 + 1 * r.val = t.val * 512 + r.val; rw [(idx0 t).1]; omega
  | ⟨1, _⟩ => show win0_0.index t 1 * 1024 + 1 * k.val = k.val; rw [(idx0 t).2]; omega

/-- The other windows' blocks are their whole arrays. -/
theorem blk_mod (t : Fin cfg0.N) : (iblk m c 1 t : FVec Ideal S2x6x1024 .f32) = V m c main_arg1 := by
  have hz' : (fun a => win0_1.index t a * main_arg1.ty.shape.size a) = fun _ => 0 := funext fun a => by fin_cases a <;> rfl
  exact Memref.read_access_unit_zero (Elt Ideal) main_arg1 hz' (fun a => by rw [congrFun hz' a]; simp) _

theorem blk_g (t : Fin cfg0.N) : (iblk m c 2 t : FVec Ideal S1x1024 .f32) = V m c main_v11 := by
  have hz' : (fun a => win0_2.index t a * main_v11.ty.shape.size a) = fun _ => 0 := funext fun a => by fin_cases a <;> rfl
  exact Memref.read_access_unit_zero (Elt Ideal) main_v11 hz' (fun a => by rw [congrFun hz' a]; simp) _

theorem blk_w (t : Fin cfg0.N) : (iblk m c 3 t : FVec Ideal S1024x5248 .bf16) = V m c main_v5 := by
  have hz' : (fun a => win0_3.index t a * main_v5.ty.shape.size a) = fun _ => 0 := funext fun a => by fin_cases a <;> rfl
  exact Memref.read_access_unit_zero (Elt Ideal) main_v5 hz' (fun a => by rw [congrFun hz' a]; simp) _

theorem blk_b (t : Fin cfg0.N) : (iblk m c 4 t : FVec Ideal S1x5248 .f32) = V m c main_v10 := by
  have hz' : (fun a => win0_4.index t a * main_v10.ty.shape.size a) = fun _ => 0 := funext fun a => by fin_cases a <;> rfl
  exact Memref.read_access_unit_zero (Elt Ideal) main_v10 hz' (fun a => by rw [congrFun hz' a]; simp) _

/-- The row of the modulation the point reads is its batch's. -/
theorem ld_mod (t : Fin cfg0.N) (y : Vec Ideal S2x6x1024 .f32) (a : Fin 6) (k : Fin 1024) :
    View.ld y (Rect.unit (s := S2x6x1024) (k0_off1 (grid0.coords t)) S1x6x1024.size (k0_off1_inb (grid0.coords t))) (ix3 0 a k)
      = y (ix3 ⟨t.val / 16, by have := t_lt t; omega⟩ a k) := by
  show y _ = y _
  congr 1
  funext b
  apply Fin.ext
  match b with
  | ⟨0, _⟩ => show k0_off1 (grid0.coords t) 0 + 1 * 0 = t.val / 16; rw [(off1 t).1]; omega
  | ⟨1, _⟩ => show k0_off1 (grid0.coords t) 1 + 1 * a.val = a.val; rw [(off1 t).2.1]; omega
  | ⟨2, _⟩ => show k0_off1 (grid0.coords t) 2 + 1 * k.val = k.val; rw [(off1 t).2.2]; omega

/-- The rows of the product, of this launch's arguments. -/
abbrev rp (r : Fin 16384) (l : Fin 5144) : EReal :=
  rowProd (m ((c : Thread nD τ).loc main_arg0)) (m ((c : Thread nD τ).loc main_arg1)) (m ((c : Thread nD τ).loc main_arg2))
    (m ((c : Thread nD τ).loc main_arg3)) (m ((c : Thread nD τ).loc main_arg4)) r l

/-- The point's normalized block is the reference's, at the point's rows. -/
theorem pay1_blk (t : Fin cfg0.N) (r : Fin 512) (k : Fin 1024) (q : Fin 16384) (hq : q.val = t.val * 512 + r.val) :
    k0_pay1 (iblk m c 0 t : FVec Ideal S512x1024 .f32)
        (View.ld (iblk m c 1 t : FVec Ideal S2x6x1024 .f32) (Rect.unit (s := S2x6x1024) (k0_off1 (grid0.coords t)) S1x6x1024.size (k0_off1_inb (grid0.coords t))))
        (iblk m c 2 t : FVec Ideal S1x1024 .f32) (ix2 r k)
      = normed (fun j => m ((c : Thread nD τ).loc main_arg0) (ix3 ⟨q.val / 8192, row_lt q⟩ ⟨q.val % 8192, Nat.mod_lt _ (by decide)⟩ j))
          (fun j => m ((c : Thread nD τ).loc main_arg2) (ix1 j)) (fun j => m ((c : Thread nD τ).loc main_arg1) (ix3 ⟨q.val / 8192, row_lt q⟩ 1 j))
          (fun j => m ((c : Thread nD τ).loc main_arg1) (ix3 ⟨q.val / 8192, row_lt q⟩ 0 j)) k := by
  have hb : q.val / 8192 = t.val / 16 := by omega
  rw [pay1_apply]
  have e : q = ⟨t.val * 512 + r.val, by have := t_lt t; omega⟩ := Fin.ext hq
  have e0 : (⟨q.val / 8192, row_lt q⟩ : Fin 2) = ⟨t.val / 16, by have := t_lt t; omega⟩ := Fin.ext hb
  congr 1
  · funext j; rw [blk_x, V_x_apply, ← e]
  · funext j; rw [blk_g, V_g_apply]
  · funext j; rw [ld_mod, blk_mod, V_main_arg1, e0]
  · funext j; rw [ld_mod, blk_mod, V_main_arg1, e0]

/-- The product of the point's block with the padded weights, at a padded column: the reference's column, or zero in the
    padding. -/
theorem prod_blk (t : Fin cfg0.N) (r : Fin 512) (l : Fin 5248) (q : Fin 16384) (hq : q.val = t.val * 512 + r.val) :
    (∑ k : Fin 1024, k0_pay1 (iblk m c 0 t : FVec Ideal S512x1024 .f32)
        (View.ld (iblk m c 1 t : FVec Ideal S2x6x1024 .f32) (Rect.unit (s := S2x6x1024) (k0_off1 (grid0.coords t)) S1x6x1024.size (k0_off1_inb (grid0.coords t))))
        (iblk m c 2 t : FVec Ideal S1x1024 .f32) (ix2 r k) * (V m c main_v5 : FVec Ideal S1024x5248 .bf16) (ix2 k l))
        + (V m c main_v10 : FVec Ideal S1x5248 .f32) (ix2 0 l)
      = if h : l.val < 3096 then rp m c q ⟨l.val, by omega⟩
        else if h' : l.val < 3200 then (0 : EReal) else rp m c q ⟨l.val - 104, by omega⟩ := by
  refine (congrArg₂ (· + ·) (Finset.sum_congr rfl fun k _ => congrArg₂ (· * ·) (pay1_blk m c t r k q hq) (V_w_apply m c k l))
    (V_b_apply m c l)).trans ?_
  by_cases h : l.val < 3096
  · simp only [h, dif_pos]; rfl
  · by_cases h' : l.val < 3200
    · simp only [h, h', dif_pos, dif_neg, not_false_eq_true, mul_zero, Finset.sum_const_zero, add_zero]
    · simp only [h, h', dif_neg, not_false_eq_true]; rfl

/-- A load of part of the weights' columns, and of the bias's. -/
theorem ld_w {n : ℕ} (y : Vec Ideal S1024x5248 .bf16) (o : ℕ) (inb : ∀ a, (![0, o] : Fin 2 → ℕ) a + (![1024, n] : Fin 2 → ℕ) a ≤ S1024x5248.size a)
    (k : Fin 1024) (l : Fin n) (h : o + l.val < 5248) :
    View.ld y (Rect.unit (s := S1024x5248) ![0, o] ![1024, n] inb) (ix2 k l) = y (ix2 k ⟨o + l.val, h⟩) := by
  show y _ = y _
  congr 1
  funext a
  apply Fin.ext
  match a with
  | ⟨0, _⟩ => show 0 + 1 * k.val = k.val; omega
  | ⟨1, _⟩ => show o + 1 * l.val = o + l.val; omega

theorem ld_b {n : ℕ} (y : Vec Ideal S1x5248 .f32) (o : ℕ) (inb : ∀ a, (![0, o] : Fin 2 → ℕ) a + (![1, n] : Fin 2 → ℕ) a ≤ S1x5248.size a)
    (l : Fin n) (h : o + l.val < 5248) :
    View.ld y (Rect.unit (s := S1x5248) ![0, o] ![1, n] inb) (ix2 0 l) = y (ix2 0 ⟨o + l.val, h⟩) := by
  show y _ = y _
  congr 1
  funext a
  apply Fin.ext
  match a with
  | ⟨0, _⟩ => show 0 + 1 * 0 = 0; rfl
  | ⟨1, _⟩ => show o + 1 * l.val = o + l.val; omega

/-! ## The result arrays -/

/-- The result array of the rw columns. -/
def res_rw : Buf (Elt Ideal) ((c : Thread nD τ).loc main_v12_0) := fun (i : S16384x1792.Idx) =>
  rp m c (i 0) ⟨(i 1).val, by have : (i 1).val < 1792 := (i 1).isLt; omega⟩

theorem idx_rw : ∀ t : Fin cfg0.N, win0_5.index t 0 = t.val ∧ win0_5.index t 1 = 0 :=
  (by decide +kernel : ∀ t : Fin grid0.N, win0_5.index t 0 = t.val ∧ win0_5.index t 1 = 0)

theorem val_rw (t : Fin cfg0.N) (r : Fin 512) (l : Fin 1792) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (ix2 r l)
      = res_rw m c (ix2 ⟨t.val * 512 + r.val, by have := t_lt t; omega⟩ l) := by
  rw [out_rw, pay2_apply]
  rw [blk_w, blk_b]
  refine (congrArg₂ (· + ·) (Finset.sum_congr rfl fun k _ => congrArg (_ * ·) (ld_w _ 0 _ k l (by omega))) (ld_b _ 0 _ l (by omega))).trans ?_
  refine (prod_blk m c t r ⟨0 + l.val, by omega⟩ ⟨t.val * 512 + r.val, by have := t_lt t; omega⟩ rfl).trans ?_
  show _ = rp m c ⟨t.val * 512 + r.val, _⟩ ⟨l.val, _⟩
  rw [dif_pos (by show 0 + l.val < 3096; omega)]
  congr 1; apply Fin.ext; show 0 + l.val = l.val; omega

/-- Point `t` writes back its block of the result. -/
theorem flushed_rw (t : Fin cfg0.N) (hf : (cfg0.win 5).flush t = true) :
    (dats m 0 c).flushed 5 t = ((cfg0.win 5).blk t).view.read (Elt Ideal) (res_rw m c) := by
  rw [Cert.InProjIdeal.Value.flushed5_A]
  funext (i : S512x1792.Idx)
  rw [View.read_apply]
  obtain ⟨r, l, rfl⟩ : ∃ (r : Fin 512) (l : Fin 1792), i = ix2 r l := ⟨i 0, i 1, (ix2_eta i).symm⟩
  refine (val_rw m c t r l).trans ?_
  show res_rw m c _ = res_rw m c _
  congr 1
  funext a
  apply Fin.ext
  match a with
  | ⟨0, _⟩ => show t.val * 512 + r.val = win0_5.index t 0 * 512 + 1 * r.val; rw [(idx_rw t).1]; omega
  | ⟨1, _⟩ => show l.val = win0_5.index t 1 * 1792 + 1 * l.val; rw [(idx_rw t).2]; omega

/-- The points' blocks tile the array, so it ends holding the result. -/
theorem final_rw : (dats m 0 c).arrAt 5 cfg0.N = res_rw m c :=
  (dats m 0 c).arrAt_eq_of_cover 5 (res_rw m c) (flushed_rw m c) fun i => by
    have h0 : (i 0 : Nat) < 16384 := (i 0).isLt
    have h1 : (i 1 : Nat) < 1792 := (i 1).isLt
    refine ⟨⟨(i 0 : Nat) / 512, by show _ < 32; omega⟩, flush0_5 _, ?_⟩
    generalize ht : (⟨(i 0 : Nat) / 512, _⟩ : Fin cfg0.N) = t
    have ht' : t.val = (i 0 : Nat) / 512 := by rw [← ht]
    show i ∈ ((View.whole main_v12_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [(idx_rw t).1]; omega
    | ⟨1, _⟩ => show win0_5.index t 1 * 1792 ≤ (i 1 : Nat) ∧ (i 1 : Nat) < win0_5.index t 1 * 1792 + 1792
                rw [(idx_rw t).2]; omega

/-- The result array of the q columns. -/
def res_q : Buf (Elt Ideal) ((c : Thread nD τ).loc main_v12_1) := fun (i : S16384x512.Idx) =>
  rp m c (i 0) ⟨1792 + (i 1).val, by have : (i 1).val < 512 := (i 1).isLt; omega⟩

theorem idx_q : ∀ t : Fin cfg0.N, win0_6.index t 0 = t.val ∧ win0_6.index t 1 = 0 :=
  (by decide +kernel : ∀ t : Fin grid0.N, win0_6.index t 0 = t.val ∧ win0_6.index t 1 = 0)

theorem val_q (t : Fin cfg0.N) (r : Fin 512) (l : Fin 512) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (ix2 r l)
      = res_q m c (ix2 ⟨t.val * 512 + r.val, by have := t_lt t; omega⟩ l) := by
  rw [out_q, pay4_apply]
  rw [blk_w, blk_b]
  refine (congrArg₂ (· + ·) (Finset.sum_congr rfl fun k _ => congrArg (_ * ·) (ld_w _ 1792 _ k l (by omega))) (ld_b _ 1792 _ l (by omega))).trans ?_
  refine (prod_blk m c t r ⟨1792 + l.val, by omega⟩ ⟨t.val * 512 + r.val, by have := t_lt t; omega⟩ rfl).trans ?_
  show _ = rp m c ⟨t.val * 512 + r.val, _⟩ ⟨1792 + l.val, _⟩
  rw [dif_pos (by show 1792 + l.val < 3096; omega)]

/-- Point `t` writes back its block of the result. -/
theorem flushed_q (t : Fin cfg0.N) (hf : (cfg0.win 6).flush t = true) :
    (dats m 0 c).flushed 6 t = ((cfg0.win 6).blk t).view.read (Elt Ideal) (res_q m c) := by
  rw [Cert.InProjIdeal.Value.flushed6_A]
  funext (i : S512x512.Idx)
  rw [View.read_apply]
  obtain ⟨r, l, rfl⟩ : ∃ (r : Fin 512) (l : Fin 512), i = ix2 r l := ⟨i 0, i 1, (ix2_eta i).symm⟩
  refine (val_q m c t r l).trans ?_
  show res_q m c _ = res_q m c _
  congr 1
  funext a
  apply Fin.ext
  match a with
  | ⟨0, _⟩ => show t.val * 512 + r.val = win0_6.index t 0 * 512 + 1 * r.val; rw [(idx_q t).1]; omega
  | ⟨1, _⟩ => show l.val = win0_6.index t 1 * 512 + 1 * l.val; rw [(idx_q t).2]; omega

/-- The points' blocks tile the array, so it ends holding the result. -/
theorem final_q : (dats m 0 c).arrAt 6 cfg0.N = res_q m c :=
  (dats m 0 c).arrAt_eq_of_cover 6 (res_q m c) (flushed_q m c) fun i => by
    have h0 : (i 0 : Nat) < 16384 := (i 0).isLt
    have h1 : (i 1 : Nat) < 512 := (i 1).isLt
    refine ⟨⟨(i 0 : Nat) / 512, by show _ < 32; omega⟩, flush0_6 _, ?_⟩
    generalize ht : (⟨(i 0 : Nat) / 512, _⟩ : Fin cfg0.N) = t
    have ht' : t.val = (i 0 : Nat) / 512 := by rw [← ht]
    show i ∈ ((View.whole main_v12_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [(idx_q t).1]; omega
    | ⟨1, _⟩ => show win0_6.index t 1 * 512 ≤ (i 1 : Nat) ∧ (i 1 : Nat) < win0_6.index t 1 * 512 + 512
                rw [(idx_q t).2]; omega

/-- The result array of the kv columns. -/
def res_kv : Buf (Elt Ideal) ((c : Thread nD τ).loc main_v12_2) := fun (i : S16384x768.Idx) =>
  rp m c (i 0) ⟨2304 + (i 1).val, by have : (i 1).val < 768 := (i 1).isLt; omega⟩

theorem idx_kv : ∀ t : Fin cfg0.N, win0_7.index t 0 = t.val ∧ win0_7.index t 1 = 0 :=
  (by decide +kernel : ∀ t : Fin grid0.N, win0_7.index t 0 = t.val ∧ win0_7.index t 1 = 0)

theorem val_kv (t : Fin cfg0.N) (r : Fin 512) (l : Fin 768) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (ix2 r l)
      = res_kv m c (ix2 ⟨t.val * 512 + r.val, by have := t_lt t; omega⟩ l) := by
  rw [out_kv, pay5_apply]
  rw [blk_w, blk_b]
  refine (congrArg₂ (· + ·) (Finset.sum_congr rfl fun k _ => congrArg (_ * ·) (ld_w _ 2304 _ k l (by omega))) (ld_b _ 2304 _ l (by omega))).trans ?_
  refine (prod_blk m c t r ⟨2304 + l.val, by omega⟩ ⟨t.val * 512 + r.val, by have := t_lt t; omega⟩ rfl).trans ?_
  show _ = rp m c ⟨t.val * 512 + r.val, _⟩ ⟨2304 + l.val, _⟩
  rw [dif_pos (by show 2304 + l.val < 3096; omega)]

/-- Point `t` writes back its block of the result. -/
theorem flushed_kv (t : Fin cfg0.N) (hf : (cfg0.win 7).flush t = true) :
    (dats m 0 c).flushed 7 t = ((cfg0.win 7).blk t).view.read (Elt Ideal) (res_kv m c) := by
  rw [Cert.InProjIdeal.Value.flushed7_A]
  funext (i : S512x768.Idx)
  rw [View.read_apply]
  obtain ⟨r, l, rfl⟩ : ∃ (r : Fin 512) (l : Fin 768), i = ix2 r l := ⟨i 0, i 1, (ix2_eta i).symm⟩
  refine (val_kv m c t r l).trans ?_
  show res_kv m c _ = res_kv m c _
  congr 1
  funext a
  apply Fin.ext
  match a with
  | ⟨0, _⟩ => show t.val * 512 + r.val = win0_7.index t 0 * 512 + 1 * r.val; rw [(idx_kv t).1]; omega
  | ⟨1, _⟩ => show l.val = win0_7.index t 1 * 768 + 1 * l.val; rw [(idx_kv t).2]; omega

/-- The points' blocks tile the array, so it ends holding the result. -/
theorem final_kv : (dats m 0 c).arrAt 7 cfg0.N = res_kv m c :=
  (dats m 0 c).arrAt_eq_of_cover 7 (res_kv m c) (flushed_kv m c) fun i => by
    have h0 : (i 0 : Nat) < 16384 := (i 0).isLt
    have h1 : (i 1 : Nat) < 768 := (i 1).isLt
    refine ⟨⟨(i 0 : Nat) / 512, by show _ < 32; omega⟩, flush0_7 _, ?_⟩
    generalize ht : (⟨(i 0 : Nat) / 512, _⟩ : Fin cfg0.N) = t
    have ht' : t.val = (i 0 : Nat) / 512 := by rw [← ht]
    show i ∈ ((View.whole main_v12_2).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512
                rw [(idx_kv t).1]; omega
    | ⟨1, _⟩ => show win0_7.index t 1 * 768 ≤ (i 1 : Nat) ∧ (i 1 : Nat) < win0_7.index t 1 * 768 + 768
                rw [(idx_kv t).2]; omega

/-- The result array of the gate columns. -/
def res_gate : Buf (Elt Ideal) ((c : Thread nD τ).loc main_v12_3) := fun (i : S16384x128.Idx) =>
  if h : (i 1).val < 24 then rp m c (i 0) ⟨3072 + (i 1).val, by omega⟩ else (0 : EReal)

theorem idx_gate : ∀ t : Fin cfg0.N, win0_8.index t 0 = t.val ∧ win0_8.index t 1 = 0 :=
  (by decide +kernel : ∀ t : Fin grid0.N, win0_8.index t 0 = t.val ∧ win0_8.index t 1 = 0)

theorem val_gate (t : Fin cfg0.N) (r : Fin 512) (l : Fin 128) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (ix2 r l)
      = res_gate m c (ix2 ⟨t.val * 512 + r.val, by have := t_lt t; omega⟩ l) := by
  rw [out_gate, pay6_apply]
  rw [blk_w, blk_b]
  refine (congrArg₂ (· + ·) (Finset.sum_congr rfl fun k _ => congrArg (_ * ·) (ld_w _ 3072 _ k l (by omega))) (ld_b _ 3072 _ l (by omega))).trans ?_
  refine (prod_blk m c t r ⟨3072 + l.val, by omega⟩ ⟨t.val * 512 + r.val, by have := t_lt t; omega⟩ rfl).trans ?_
  show _ = if h : l.val < 24 then rp m c ⟨t.val * 512 + r.val, _⟩ ⟨3072 + l.val, _⟩ else (0 : EReal)
  by_cases h : l.val < 24
  · rw [dif_pos (by show 3072 + l.val < 3096; omega), dif_pos h]
  · rw [dif_neg (by show ¬ 3072 + l.val < 3096; omega), dif_pos (by show 3072 + l.val < 3200; omega), dif_neg h]

/-- Point `t` writes back its block of the result. -/
theorem flushed_gate (t : Fin cfg0.N) (hf : (cfg0.win 8).flush t = true) :
    (dats m 0 c).flushed 8 t = ((cfg0.win 8).blk t).view.read (Elt Ideal) (res_gate m c) := by
  rw [Cert.InProjIdeal.Value.flushed8_A]
  funext (i : S512x128.Idx)
  rw [View.read_apply]
  obtain ⟨r, l, rfl⟩ : ∃ (r : Fin 512) (l : Fin 128), i = ix2 r l := ⟨i 0, i 1, (ix2_eta i).symm⟩
  refine (val_gate m c t r l).trans ?_
  show res_gate m c _ = res_gate m c _
  congr 1
  funext a
  apply Fin.ext
  match a with
  | ⟨0, _⟩ => show t.val * 512 + r.val = win0_8.index t 0 * 512 + 1 * r.val; rw [(idx_gate t).1]; omega
  | ⟨1, _⟩ => show l.val = win0_8.index t 1 * 128 + 1 * l.val; rw [(idx_gate t).2]; omega

/-- The points' blocks tile the array, so it ends holding the result. -/
theorem final_gate : (dats m 0 c).arrAt 8 cfg0.N = res_gate m c :=
  (dats m 0 c).arrAt_eq_of_cover 8 (res_gate m c) (flushed_gate m c) fun i => by
    have h0 : (i 0 : Nat) < 16384 := (i 0).isLt
    have h1 : (i 1 : Nat) < 128 := (i 1).isLt
    refine ⟨⟨(i 0 : Nat) / 512, by show _ < 32; omega⟩, flush0_8 _, ?_⟩
    generalize ht : (⟨(i 0 : Nat) / 512, _⟩ : Fin cfg0.N) = t
    have ht' : t.val = (i 0 : Nat) / 512 := by rw [← ht]
    show i ∈ ((View.whole main_v12_3).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [(idx_gate t).1]; omega
    | ⟨1, _⟩ => show win0_8.index t 1 * 128 ≤ (i 1 : Nat) ∧ (i 1 : Nat) < win0_8.index t 1 * 128 + 128
                rw [(idx_gate t).2]; omega

/-- The result array of the merge columns. -/
def res_merge : Buf (Elt Ideal) ((c : Thread nD τ).loc main_v12_4) := fun (i : S16384x2048.Idx) =>
  rp m c (i 0) ⟨3096 + (i 1).val, by have : (i 1).val < 2048 := (i 1).isLt; omega⟩

theorem idx_merge : ∀ t : Fin cfg0.N, win0_9.index t 0 = t.val ∧ win0_9.index t 1 = 0 :=
  (by decide +kernel : ∀ t : Fin grid0.N, win0_9.index t 0 = t.val ∧ win0_9.index t 1 = 0)

theorem val_merge (t : Fin cfg0.N) (r : Fin 512) (l : Fin 2048) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (ix2 r l)
      = res_merge m c (ix2 ⟨t.val * 512 + r.val, by have := t_lt t; omega⟩ l) := by
  rw [out_merge, pay7_apply]
  rw [blk_w, blk_b]
  refine (congrArg₂ (· + ·) (Finset.sum_congr rfl fun k _ => congrArg (_ * ·) (ld_w _ 3200 _ k l (by omega))) (ld_b _ 3200 _ l (by omega))).trans ?_
  refine (prod_blk m c t r ⟨3200 + l.val, by omega⟩ ⟨t.val * 512 + r.val, by have := t_lt t; omega⟩ rfl).trans ?_
  show _ = rp m c ⟨t.val * 512 + r.val, _⟩ ⟨3096 + l.val, _⟩
  rw [dif_neg (by show ¬ 3200 + l.val < 3096; omega), dif_neg (by show ¬ 3200 + l.val < 3200; omega)]
  congr 1; apply Fin.ext; show 3200 + l.val - 104 = 3096 + l.val; omega

/-- Point `t` writes back its block of the result. -/
theorem flushed_merge (t : Fin cfg0.N) (hf : (cfg0.win 9).flush t = true) :
    (dats m 0 c).flushed 9 t = ((cfg0.win 9).blk t).view.read (Elt Ideal) (res_merge m c) := by
  rw [Cert.InProjIdeal.Value.flushed9_A]
  funext (i : S512x2048.Idx)
  rw [View.read_apply]
  obtain ⟨r, l, rfl⟩ : ∃ (r : Fin 512) (l : Fin 2048), i = ix2 r l := ⟨i 0, i 1, (ix2_eta i).symm⟩
  refine (val_merge m c t r l).trans ?_
  show res_merge m c _ = res_merge m c _
  congr 1
  funext a
  apply Fin.ext
  match a with
  | ⟨0, _⟩ => show t.val * 512 + r.val = win0_9.index t 0 * 512 + 1 * r.val; rw [(idx_merge t).1]; omega
  | ⟨1, _⟩ => show l.val = win0_9.index t 1 * 2048 + 1 * l.val; rw [(idx_merge t).2]; omega

/-- The points' blocks tile the array, so it ends holding the result. -/
theorem final_merge : (dats m 0 c).arrAt 9 cfg0.N = res_merge m c :=
  (dats m 0 c).arrAt_eq_of_cover 9 (res_merge m c) (flushed_merge m c) fun i => by
    have h0 : (i 0 : Nat) < 16384 := (i 0).isLt
    have h1 : (i 1 : Nat) < 2048 := (i 1).isLt
    refine ⟨⟨(i 0 : Nat) / 512, by show _ < 32; omega⟩, flush0_9 _, ?_⟩
    generalize ht : (⟨(i 0 : Nat) / 512, _⟩ : Fin cfg0.N) = t
    have ht' : t.val = (i 0 : Nat) / 512 := by rw [← ht]
    show i ∈ ((View.whole main_v12_4).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [(idx_merge t).1]; omega
    | ⟨1, _⟩ => show win0_9.index t 1 * 2048 ≤ (i 1 : Nat) ∧ (i 1 : Nat) < win0_9.index t 1 * 2048 + 2048
                rw [(idx_merge t).2]; omega

end Cert.Proof.InProj

end
-- ==== Proof.InProj.lean ====
/-
  THE INPUT PROJECTION: the reference's five results, of the kernel's arguments, are the arrays that the kernel leaves.
-/
module

public import proofs.«01_k».proof.Defs
public import proofs.«01_k».proof.Proof.InProjVal
public import proofs.«01_k».proof.Proof.Gen.InProj.Frame
public import proofs.«01_k».proof.Proof.Gen.InProjRefIdeal.Run

@[expose] public section

set_option maxRecDepth 16384

noncomputable section

namespace Cert.Proof.InProj

open Cert.InProjIdeal Idealize.ShloMosaic Idealize.ShloMosaic.ValueIdx Idealize.ShloMosaic.TcCoe Idealize.SL.Sem

section Value

variable (m : (ℓ : Loc nD τ sig) → Buf (Elt Ideal) ℓ) (c : Dev nD)
variable {x : FVec Ideal S2x8192x1024 .f32} {mod : FVec Ideal S2x6x1024 .f32} {g : FVec Ideal S1024 .f32} {w : FVec Ideal S1024x5144 .f32} {b : FVec Ideal S5144 .f32}

/-- The arguments of the two programs agree on device `c`. -/
def Agree (x : FVec Ideal S2x8192x1024 .f32) (mod : FVec Ideal S2x6x1024 .f32) (g : FVec Ideal S1024 .f32) (w : FVec Ideal S1024x5144 .f32)
    (b : FVec Ideal S5144 .f32) : Prop :=
  x = m ((c : Thread nD τ).loc main_arg0) ∧ mod = m ((c : Thread nD τ).loc main_arg1) ∧ g = m ((c : Thread nD τ).loc main_arg2)
    ∧ w = m ((c : Thread nD τ).loc main_arg3) ∧ b = m ((c : Thread nD τ).loc main_arg4)

theorem same_rw (h : Agree m c x mod g w b) :
    extractStridedSlice Cert.InProjRefIdeal.S16384x1792 ![0, 0] (rows x mod g w b) Cert.InProjRefIdeal.Gen.slices_S16384x5144_S16384x1792_0_0 = res_rw m c := by
  obtain ⟨rfl, rfl, rfl, rfl, rfl⟩ := h
  funext i
  rw [← ix2_eta i]
  exact ref_rw _ _ _ _ _ _ _

theorem same_q (h : Agree m c x mod g w b) :
    extractStridedSlice Cert.InProjRefIdeal.S16384x512 ![0, 1792] (rows x mod g w b) Cert.InProjRefIdeal.Gen.slices_S16384x5144_S16384x512_0_1792 = res_q m c := by
  obtain ⟨rfl, rfl, rfl, rfl, rfl⟩ := h
  funext i
  rw [← ix2_eta i]
  exact ref_q _ _ _ _ _ _ _

theorem same_kv (h : Agree m c x mod g w b) :
    extractStridedSlice Cert.InProjRefIdeal.S16384x768 ![0, 2304] (rows x mod g w b) Cert.InProjRefIdeal.Gen.slices_S16384x5144_S16384x768_0_2304 = res_kv m c := by
  obtain ⟨rfl, rfl, rfl, rfl, rfl⟩ := h
  funext i
  rw [← ix2_eta i]
  exact ref_kv _ _ _ _ _ _ _

theorem same_merge (h : Agree m c x mod g w b) :
    extractStridedSlice Cert.InProjRefIdeal.S16384x2048 ![0, 3096] (rows x mod g w b) Cert.InProjRefIdeal.Gen.slices_S16384x5144_S16384x2048_0_3096 = res_merge m c := by
  obtain ⟨rfl, rfl, rfl, rfl, rfl⟩ := h
  funext i
  rw [← ix2_eta i]
  exact ref_merge _ _ _ _ _ _ _

theorem same_gate (h : Agree m c x mod g w b) :
    pad Cert.InProjRefIdeal.S16384x128 ![0, 0] ![0, 104] ![0, 0]
        (extractStridedSlice Cert.InProjRefIdeal.S16384x24 ![0, 3072] (rows x mod g w b) Cert.InProjRefIdeal.Gen.slices_S16384x5144_S16384x24_0_3072)
        (sitofp (F := Ideal) .f32 (constantI Cert.InProjRefIdeal.S_ 32 0#32)) Cert.InProjRefIdeal.Gen.pads_S16384x24_S16384x128_000_01040
        Cert.InProjRefIdeal.Gen.h_S_ = res_gate m c := by
  obtain ⟨rfl, rfl, rfl, rfl, rfl⟩ := h
  funext i
  rw [← ix2_eta i]
  exact ref_gate _ _ _ _ _ _ _

end Value

theorem preserves : Cert.preserves_InProj_InProjIdeal := trivial

theorem frame : Cert.quiescent_InProj := fun m ρ _ => Cert.InProj.Gen.frame m ρ

theorem frame_ideal : Cert.quiescent_InProjIdeal := fun m ρ _ => Cert.InProjIdeal.Gen.frame m ρ

theorem frame_ref : Cert.quiescent_InProjRefIdeal := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)

theorem algebraic : Cert.algebraic_InProjIdeal_InProjRefIdeal := fun m ρ m' ρ' _ hm =>
  ⟨fun c => res_rw m c, fun c => res_q m c, fun c => res_kv m c, fun c => res_gate m c, fun c => res_merge m c,
    (θ_run Cert.InProjIdeal.defs _ _).mono (fun _ r c =>
        ⟨(r c).1.trans (final_rw m c), (r c).2.1.trans (final_q m c), (r c).2.2.1.trans (final_kv m c), (r c).2.2.2.1.trans (final_gate m c),
          (r c).2.2.2.2.1.trans (final_merge m c), (r c).2.2.2.2.2⟩)
      (Cert.InProjIdeal.Value.run_blocks (F := Ideal) m ρ),
    (θ_run Cert.InProjRefIdeal.defs _ _).mono (fun _ r c =>
        ⟨(r c).1.trans (same_rw m c (hm c)), (r c).2.1.trans (same_q m c (hm c)), (r c).2.2.1.trans (same_kv m c (hm c)),
          (r c).2.2.2.1.trans (same_gate m c (hm c)), (r c).2.2.2.2.1.trans (same_merge m c (hm c)), (r c).2.2.2.2.2⟩)
      (Cert.InProjRefIdeal.Value.run (F := Ideal) m' ρ')⟩

end Cert.Proof.InProj

end
-- ==== Proof.MoeBody.lean ====
/-
  THE EXPERTS' MULTILAYER PERCEPTRON, one block of 512 rows: what the kernel's body does at a point of the grid, its memrefs
  any whole memrefs and its tables' words given.

  At a block whose expert differs from the block before (and at the first block) the expert's three weight blocks are rounded to
  bfloat16 into the scratches; then, when the block holds rows, the product of the rows is stored, and when it holds none, zeros.
-/
module

public import proofs.«01_k».proof.Proof.Gen.MoeIdeal.Launch
public import proofs.«01_k».proof.Proof.Gen.MoeIdeal.Skeleton
public import Idealize.ShloMosaic.Lib.Pipeline.Launch
public import Idealize.ShloMosaic.Lib.Pipeline.FrameBody

@[expose] public section

set_option maxRecDepth 16384

noncomputable section

namespace Cert.Proof.Moe

open Cert.MoeIdeal Cert.MoeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles of the body's accesses -/

abbrev rX : Rect S512x1024 := Rect.unit (s := S512x1024) ![0, 0] S512x1024.size inb_S512x1024_S512x1024_0_0
abbrev rXlo : Rect S512x1024 := Rect.unit (s := S512x1024) ![0, 0] S512x512.size inb_S512x1024_S512x512_0_0
abbrev rXhi : Rect S512x1024 := Rect.unit (s := S512x1024) ![0, 512] S512x512.size inb_S512x1024_S512x512_0_512
abbrev rW : Rect S1024x512 := Rect.unit (s := S1024x512) ![0, 0] S1024x512.size inb_S1024x512_S1024x512_0_0
abbrev rWlo : Rect S1024x512 := Rect.unit (s := S1024x512) ![0, 0] S512x512.size inb_S1024x512_S512x512_0_0
abbrev rWhi : Rect S1024x512 := Rect.unit (s := S1024x512) ![512, 0] S512x512.size inb_S1024x512_S512x512_512_0
abbrev rB : Rect S1x1x1024x512 := Rect.unit (s := S1x1x1024x512) ![0, 0, 0, 0] S1x1x1024x512.size inb_S1x1x1024x512_S1x1x1024x512_0_0_0_0
abbrev rD : Rect S1x1x512x1024 := Rect.unit (s := S1x1x512x1024) ![0, 0, 0, 0] S1x1x512x1024.size inb_S1x1x512x1024_S1x1x512x1024_0_0_0_0

/-- A rectangle of a shape's own sizes at the origin is all of it. -/
theorem emb_full {s : Shape} {o : Fin s.rank → ℕ} (ho : ∀ a, o a = 0) (h : ∀ a, o a + s.size a ≤ s.size a) (x : s.Idx) :
    (Rect.unit (s := s) o s.size h).emb x = x := by
  funext a; apply Fin.ext; rw [Rect.emb_apply]
  show o a + 1 * (x a).val = (x a).val
  rw [ho a]; omega

theorem rX_emb (x : S512x1024.Idx) : rX.emb x = x := emb_full (by decide) _ x
theorem rW_emb (x : S1024x512.Idx) : rW.emb x = x := emb_full (by decide) _ x
theorem rB_emb (x : S1x1x1024x512.Idx) : rB.emb x = x := emb_full (by decide) _ x
theorem rD_emb (x : S1x1x512x1024.Idx) : rD.emb x = x := emb_full (by decide) _ x

section Access

variable {sp : Space} {s : Shape} {e : EltTy} (c : Dev nD) (M : Memref sig .tc sp s e)

omit [FloatOps F] in
/-- A load through a rectangle reads the memref's contents at the rectangle's elements; -/
theorem read_at (r : Rect s) (g : Buf (Elt F) (M.view.loc (c : Thread nD τ))) :
    (M.access r).read (Elt F) g = fun x => M.view.read (Elt F) g (r.emb x) := rfl

omit [FloatOps F] in
/-- a store through all of it leaves the stored value. -/
theorem read_write_full {o : Fin s.rank → ℕ} (ho : ∀ a, o a = 0) (h : ∀ a, o a + s.size a ≤ s.size a)
    (f : Buf (Elt F) (M.view.loc (c : Thread nD τ))) (v : Vec F s e) :
    M.view.read (Elt F) ((M.access (Rect.unit (s := s) o s.size h)).write (Elt F) f v Finset.univ) = v := by
  funext y
  conv_lhs => rw [← emb_full ho h y]
  rw [View.read_slice_write_emb _ _ _ (Finset.mem_univ _)]

end Access

/-- Core `c` holds the memref `M` at the contents `v`. -/
def holds (c : Dev nD) {sp : Space} {s : Shape} {e : EltTy} (M : Memref sig .tc sp s e) (v : Vec F s e) : sProp 𝕄 :=
  owns (c : Thread nD τ) M fullShare v

/-! ## What a block of rows becomes -/

/-- The product of a block of rows with an expert's rounded weights. -/
def prod (x : Vec F S512x1024 .bf16) (wg wu : Vec F S1024x512 .bf16) (wd : Vec F S512x1024 .bf16) : Vec F S512x1024 .bf16 :=
  k0_pay4 (fun i => x (rXlo.emb i)) (fun i => x (rXhi.emb i)) (fun i => wg (rWlo.emb i)) (fun i => wg (rWhi.emb i))
    (fun i => wu (rWlo.emb i)) (fun i => wu (rWhi.emb i)) wd

/-! ## The three steps -/

section Steps

variable (c : Dev nD)
variable (arg3 : Memref sig .tc .vmem S512x1024 .bf16) (arg4 arg5 : Memref sig .tc .vmem S1x1x1024x512 .f32)
variable (arg6 : Memref sig .tc .vmem S1x1x512x1024 .f32) (arg7 : Memref sig .tc .vmem S512x1024 .bf16) (harg7 : arg7.IsWhole)
variable (arg8 : Memref sig .tc .vmem S1024x512 .bf16) (harg8 : arg8.IsWhole) (arg9 : Memref sig .tc .vmem S1024x512 .bf16) (harg9 : arg9.IsWhole)
variable (arg10 : Memref sig .tc .vmem S512x1024 .bf16) (harg10 : arg10.IsWhole)
variable (kk : PUnit.{1} → Prog (TpuEff nD τ sig (Elt F) Λ₀ .tc) PUnit.{1})

/-- The weights' rounding into the scratches. -/
abbrev castP : Prog (TpuEff nD τ sig (Elt F) Λ₀ .tc) PUnit.{1} :=
  .op (.load arg4 rB.toLoadRect (View.loadsAt_vmem h_S1x1x1024x512)) fun (v19 : Vec F S1x1x1024x512 .f32) =>
  .op (.load arg8 rW.toLoadRect (View.loadsAt_vmem h_S1024x512)) fun (_ : Vec F S1024x512 .bf16) =>
  .op (.store arg8 rW (k0_pay1 v19) Finset.univ (View.stores_vmem h_S1024x512 (harg8.storeExact_slice rfl _ packedbf16_S1024x512_S1024x512_0_0) (fun _ => rfl)) (.inl rfl)) fun _ =>
  .op (.load arg5 rB.toLoadRect (View.loadsAt_vmem h_S1x1x1024x512)) fun (v25 : Vec F S1x1x1024x512 .f32) =>
  .op (.load arg9 rW.toLoadRect (View.loadsAt_vmem h_S1024x512)) fun (_ : Vec F S1024x512 .bf16) =>
  .op (.store arg9 rW (k0_pay2 v25) Finset.univ (View.stores_vmem h_S1024x512 (harg9.storeExact_slice rfl _ packedbf16_S1024x512_S1024x512_0_0) (fun _ => rfl)) (.inl rfl)) fun _ =>
  .op (.load arg6 rD.toLoadRect (View.loadsAt_vmem h_S1x1x512x1024)) fun (v31 : Vec F S1x1x512x1024 .f32) =>
  .op (.load arg10 rX.toLoadRect (View.loadsAt_vmem h_S512x1024)) fun (_ : Vec F S512x1024 .bf16) =>
  .op (.store arg10 rX (k0_pay3 v31) Finset.univ (View.stores_vmem h_S512x1024 (harg10.storeExact_slice rfl _ packedbf16_S512x1024_S512x1024_0_0) (fun _ => rfl)) (.inl rfl)) fun _ =>
  kk ⟨⟩

/-- The product of the block's rows. -/
abbrev prodP : Prog (TpuEff nD τ sig (Elt F) Λ₀ .tc) PUnit.{1} :=
  .op (.load arg3 rXlo.toLoadRect (View.loadsAt_vmem h_S512x512)) fun (v19 : Vec F S512x512 .bf16) =>
  .op (.load arg3 rXhi.toLoadRect (View.loadsAt_vmem h_S512x512)) fun (v21 : Vec F S512x512 .bf16) =>
  .op (.load arg8 rWlo.toLoadRect (View.loadsAt_vmem h_S512x512)) fun (v23 : Vec F S512x512 .bf16) =>
  .op (.load arg8 rWhi.toLoadRect (View.loadsAt_vmem h_S512x512)) fun (v25 : Vec F S512x512 .bf16) =>
  .op (.load arg9 rWlo.toLoadRect (View.loadsAt_vmem h_S512x512)) fun (v28 : Vec F S512x512 .bf16) =>
  .op (.load arg9 rWhi.toLoadRect (View.loadsAt_vmem h_S512x512)) fun (v30 : Vec F S512x512 .bf16) =>
  .op (.load arg10 rX.toLoadRect (View.loadsAt_vmem h_S512x1024)) fun (v43 : Vec F S512x1024 .bf16) =>
  .op (.load arg7 rX.toLoadRect (View.loadsAt_vmem h_S512x1024)) fun (_ : Vec F S512x1024 .bf16) =>
  .op (.store arg7 rX (k0_pay4 v19 v21 v23 v25 v28 v30 v43) Finset.univ (View.stores_vmem h_S512x1024 (harg7.storeExact_slice rfl _ packedbf16_S512x1024_S512x1024_0_0) (fun _ => rfl)) (.inl rfl)) fun _ =>
  kk ⟨⟩

/-- The zeros of a block of no rows. -/
abbrev zeroP : Prog (TpuEff nD τ sig (Elt F) Λ₀ .tc) PUnit.{1} :=
  .op (.load arg7 rX.toLoadRect (View.loadsAt_vmem h_S512x1024)) fun (_ : Vec F S512x1024 .bf16) =>
  .op (.store arg7 rX (k0_pay5 (F := F)) Finset.univ (View.stores_vmem h_S512x1024 (harg7.storeExact_slice rfl _ packedbf16_S512x1024_S512x1024_0_0) (fun _ => rfl)) (.inl rfl)) fun _ =>
  kk ⟨⟩

variable {kk}

theorem cast_run {K : PUnit.{1} → sProp 𝕄} (w1 w2 : Vec F S1x1x1024x512 .f32) (w3 : Vec F S1x1x512x1024 .f32) :
    iprop((holds c arg4 w1) ∗ (holds c arg5 w2) ∗ (holds c arg6 w3) ∗ (∃ d : Vec F S1024x512 .bf16, holds c arg8 d) ∗ (∃ d : Vec F S1024x512 .bf16, holds c arg9 d) ∗ (∃ d : Vec F S512x1024 .bf16, holds c arg10 d))
      ⊢ iprop((((holds c arg4 w1) ∗ (holds c arg5 w2) ∗ (holds c arg6 w3) ∗ (holds c arg8 (k0_pay1 w1)) ∗ (holds c arg9 (k0_pay2 w2)) ∗ (holds c arg10 (k0_pay3 w3)))
            -∗ wp frame (wpE (defs₀ (F := F)) Variants.none c none) Set.univ (kk ⟨⟩) K)
          -∗ wp frame (wpE (defs₀ (F := F)) Variants.none c none) Set.univ (castP arg4 arg5 arg6 arg8 harg8 arg9 harg9 arg10 harg10 kk) K) := by
  unfold holds owns castP
  iintro ⟨⟨%f4, %h4, H4⟩, ⟨%f5, %h5, H5⟩, ⟨%f6, %h6, H6⟩, ⟨%d8, %f8, -, H8⟩, ⟨%d9, %f9, -, H9⟩, ⟨%d10, %f10, -, H10⟩⟩ Hk
  iapply (wp_load_rect Variants.none (c : Thread nD τ) none Set.univ (m := arg4) (r := rB) (View.set_slice_subset _ _)) $$ H4
  iintro H4
  iapply (wp_load_rect Variants.none (c : Thread nD τ) none Set.univ (m := arg8) (r := rW) (View.set_slice_subset _ _)) $$ H8
  iintro H8
  iapply (wp_store Variants.none (c : Thread nD τ) none Set.univ (m := arg8) (r := rW) (Mk := Finset.univ) (View.set_slice_subset _ _)) $$ H8
  iintro H8
  iapply (wp_load_rect Variants.none (c : Thread nD τ) none Set.univ (m := arg5) (r := rB) (View.set_slice_subset _ _)) $$ H5
  iintro H5
  iapply (wp_load_rect Variants.none (c : Thread nD τ) none Set.univ (m := arg9) (r := rW) (View.set_slice_subset _ _)) $$ H9
  iintro H9
  iapply (wp_store Variants.none (c : Thread nD τ) none Set.univ (m := arg9) (r := rW) (Mk := Finset.univ) (View.set_slice_subset _ _)) $$ H9
  iintro H9
  iapply (wp_load_rect Variants.none (c : Thread nD τ) none Set.univ (m := arg6) (r := rD) (View.set_slice_subset _ _)) $$ H6
  iintro H6
  iapply (wp_load_rect Variants.none (c : Thread nD τ) none Set.univ (m := arg10) (r := rX) (View.set_slice_subset _ _)) $$ H10
  iintro H10
  iapply (wp_store Variants.none (c : Thread nD τ) none Set.univ (m := arg10) (r := rX) (Mk := Finset.univ) (View.set_slice_subset _ _)) $$ H10
  iintro H10
  iapply Hk
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H8]
  · iexists _; isplitr
    swap; · iexact H8
    ipureintro
    rw [read_write_full c arg8 (by decide), read_at c arg4, h4]
    exact congrArg k0_pay1 (funext fun x => congrArg w1 (rB_emb x))
  isplitl [H9]
  · iexists _; isplitr
    swap; · iexact H9
    ipureintro
    rw [read_write_full c arg9 (by decide), read_at c arg5, h5]
    exact congrArg k0_pay2 (funext fun x => congrArg w2 (rB_emb x))
  · iexists _; isplitr
    swap; · iexact H10
    ipureintro
    rw [read_write_full c arg10 (by decide), read_at c arg6, h6]
    exact congrArg k0_pay3 (funext fun x => congrArg w3 (rD_emb x))

theorem prod_run {K : PUnit.{1} → sProp 𝕄} (x : Vec F S512x1024 .bf16) (wg wu : Vec F S1024x512 .bf16) (wd : Vec F S512x1024 .bf16) :
    iprop((holds c arg3 x) ∗ (∃ d : Vec F S512x1024 .bf16, holds c arg7 d) ∗ (holds c arg8 wg) ∗ (holds c arg9 wu) ∗ (holds c arg10 wd))
      ⊢ iprop((((holds c arg3 x) ∗ (holds c arg7 (prod x wg wu wd)) ∗ (holds c arg8 wg) ∗ (holds c arg9 wu) ∗ (holds c arg10 wd))
            -∗ wp frame (wpE (defs₀ (F := F)) Variants.none c none) Set.univ (kk ⟨⟩) K)
          -∗ wp frame (wpE (defs₀ (F := F)) Variants.none c none) Set.univ (prodP arg3 arg7 harg7 arg8 arg9 arg10 kk) K) := by
  unfold holds owns prodP
  iintro ⟨⟨%f3, %h3, H3⟩, ⟨%d7, %f7, -, H7⟩, ⟨%f8, %h8, H8⟩, ⟨%f9, %h9, H9⟩, ⟨%f10, %h10, H10⟩⟩ Hk
  iapply (wp_load_rect Variants.none (c : Thread nD τ) none Set.univ (m := arg3) (r := rXlo) (View.set_slice_subset _ _)) $$ H3
  iintro H3
  iapply (wp_load_rect Variants.none (c : Thread nD τ) none Set.univ (m := arg3) (r := rXhi) (View.set_slice_subset _ _)) $$ H3
  iintro H3
  iapply (wp_load_rect Variants.none (c : Thread nD τ) none Set.univ (m := arg8) (r := rWlo) (View.set_slice_subset _ _)) $$ H8
  iintro H8
  iapply (wp_load_rect Variants.none (c : Thread nD τ) none Set.univ (m := arg8) (r := rWhi) (View.set_slice_subset _ _)) $$ H8
  iintro H8
  iapply (wp_load_rect Variants.none (c : Thread nD τ) none Set.univ (m := arg9) (r := rWlo) (View.set_slice_subset _ _)) $$ H9
  iintro H9
  iapply (wp_load_rect Variants.none (c : Thread nD τ) none Set.univ (m := arg9) (r := rWhi) (View.set_slice_subset _ _)) $$ H9
  iintro H9
  iapply (wp_load_rect Variants.none (c : Thread nD τ) none Set.univ (m := arg10) (r := rX) (View.set_slice_subset _ _)) $$ H10
  iintro H10
  iapply (wp_load_rect Variants.none (c : Thread nD τ) none Set.univ (m := arg7) (r := rX) (View.set_slice_subset _ _)) $$ H7
  iintro H7
  iapply (wp_store Variants.none (c : Thread nD τ) none Set.univ (m := arg7) (r := rX) (Mk := Finset.univ) (View.set_slice_subset _ _)) $$ H7
  iintro H7
  iapply Hk
  isplitl [H3]; · iexists f3; isplitr; · ipureintro; exact h3
                  iexact H3
  isplitl [H7]
  · iexists _; isplitr
    swap; · iexact H7
    ipureintro
    rw [read_write_full c arg7 (by decide), read_at c arg3, read_at c arg3, read_at c arg8, read_at c arg8, read_at c arg9, read_at c arg9,
      read_at c arg10, h3, h8, h9, h10]
    exact congrArg (k0_pay4 _ _ _ _ _ _) (funext fun x => congrArg wd (rX_emb x))
  isplitl [H8]; · iexists f8; isplitr; · ipureintro; exact h8
                  iexact H8
  isplitl [H9]; · iexists f9; isplitr; · ipureintro; exact h9
                  iexact H9
  · iexists f10; isplitr; · ipureintro; exact h10
    iexact H10

theorem zero_run {K : PUnit.{1} → sProp 𝕄} :
    iprop(∃ d : Vec F S512x1024 .bf16, holds c arg7 d)
      ⊢ iprop(((holds c arg7 (k0_pay5 (F := F))) -∗ wp frame (wpE (defs₀ (F := F)) Variants.none c none) Set.univ (kk ⟨⟩) K)
          -∗ wp frame (wpE (defs₀ (F := F)) Variants.none c none) Set.univ (zeroP arg7 harg7 kk) K) := by
  unfold holds owns zeroP
  iintro ⟨%d7, %f7, -, H7⟩ Hk
  iapply (wp_load_rect Variants.none (c : Thread nD τ) none Set.univ (m := arg7) (r := rX) (View.set_slice_subset _ _)) $$ H7
  iintro H7
  iapply (wp_store Variants.none (c : Thread nD τ) none Set.univ (m := arg7) (r := rX) (Mk := Finset.univ) (View.set_slice_subset _ _)) $$ H7
  iintro H7
  iapply Hk
  iexists _; isplitr
  swap; · iexact H7
  ipureintro
  rw [read_write_full c arg7 (by decide)]

end Steps

/-! ## The body -/

/-- The word of a table at the block, and at the block before (the first block's own at the first). -/
abbrev rT (i : grid0.Coords) : Rect S80 := Rect.unit (s := S80) (k0_off1 i) S1.size (k0_off1_inb i)
abbrev rP (i : grid0.Coords) : Rect S80 := Rect.unit (s := S80) (k0_off2 i) S1.size (k0_off2_inb i)
abbrev iT : S1.Idx := Shape.Idx.first (s := S1) (numel1_S1.symm ▸ Nat.one_pos)

/-- Whether the weights are rounded anew: at the first block, and where the expert changes. -/
abbrev fresh (i : grid0.Coords) (v4 v8 : BitVec 32) : BitVec 1 :=
  Scalar.cmpi .ne (Scalar.extui (Scalar.ori (Scalar.cmpi .eq (BitVec.ofNat 32 (i 0).val) 0#32) (Scalar.cmpi .ne v4 v8)) : BitVec 32) 0#32

section Body

variable (c : Dev nD) (i : grid0.Coords)
variable (arg3 : Memref sig .tc .vmem S512x1024 .bf16) (harg3 : arg3.IsWhole) (arg4 : Memref sig .tc .vmem S1x1x1024x512 .f32) (harg4 : arg4.IsWhole)
variable (arg5 : Memref sig .tc .vmem S1x1x1024x512 .f32) (harg5 : arg5.IsWhole) (arg6 : Memref sig .tc .vmem S1x1x512x1024 .f32) (harg6 : arg6.IsWhole)
variable (arg7 : Memref sig .tc .vmem S512x1024 .bf16) (harg7 : arg7.IsWhole)
variable (arg8 : Memref sig .tc .vmem S1024x512 .bf16) (harg8 : arg8.IsWhole) (arg9 : Memref sig .tc .vmem S1024x512 .bf16) (harg9 : arg9.IsWhole)
variable (arg10 : Memref sig .tc .vmem S512x1024 .bf16) (harg10 : arg10.IsWhole)

/-- The two tables, held at contents. -/
def tables (q1 q2 : PosShare TreeShare) (f1 : Buf (Elt F) ((c : Thread nD τ).loc main_arg1)) (f2 : Buf (Elt F) ((c : Thread nD τ).loc main_arg2)) : sProp 𝕄 :=
  iprop((((c : Thread nD τ).loc main_arg1) ↦{q1} f1) ∗ (((c : Thread nD τ).loc main_arg2) ↦{q2} f2))

/-- What the body leaves of a block: the product where the block holds rows, zeros where it holds none. -/
def outv (v1 : BitVec 32) (x : Vec F S512x1024 .bf16) (w1 w2 : Vec F S1x1x1024x512 .f32) (w3 : Vec F S1x1x512x1024 .f32) : Vec F S512x1024 .bf16 :=
  if k0_cond2 v1 = 1#1 then prod x (k0_pay1 w1) (k0_pay2 w2) (k0_pay3 w3) else k0_pay5

/-- The last step: zeros where the block holds no rows. -/
def lastP (v1 : BitVec 32) : Prog (TpuEff nD τ sig (Elt F) Λ₀ .tc) PUnit.{1} :=
  if _h : k0_cond3 v1 = 1#1 then zeroP arg7 harg7 fun _ => pure ⟨⟩ else pure ⟨⟩

/-- The last two: the product where it holds rows. -/
def restP (v1 : BitVec 32) : Prog (TpuEff nD τ sig (Elt F) Λ₀ .tc) PUnit.{1} :=
  if _h : k0_cond2 v1 = 1#1 then prodP arg3 arg7 harg7 arg8 arg9 arg10 fun _ => lastP arg7 harg7 v1 else lastP arg7 harg7 v1

/-- All three, the tables' words given. -/
def stepsP (v1 v4 v8 : BitVec 32) : Prog (TpuEff nD τ sig (Elt F) Λ₀ .tc) PUnit.{1} :=
  if fresh i v4 v8 = 1#1 then castP arg4 arg5 arg6 arg8 harg8 arg9 harg9 arg10 harg10 fun _ => restP arg3 arg7 harg7 arg8 arg9 arg10 v1
  else restP arg3 arg7 harg7 arg8 arg9 arg10 v1

/-- The body is the three words' loads and the three steps. -/
theorem body_eq : cc0_moe_experts (F := F) i (Memref.whole main_arg1) (Memref.isWhole_whole _) (Memref.whole main_arg2) (Memref.isWhole_whole _) arg3 harg3
      arg4 harg4 arg5 harg5 arg6 harg6 arg7 harg7 arg8 harg8 arg9 harg9 arg10 harg10
    = (smemLoad (Memref.whole main_arg2) (rT i) numel1_S1 rfl).bind fun v1 =>
      (smemLoad (Memref.whole main_arg1) (rT i) numel1_S1 rfl).bind fun v4 =>
      (smemLoad (Memref.whole main_arg1) (rP i) numel1_S1 rfl).bind fun v8 =>
      stepsP i arg3 arg4 arg5 arg6 arg7 harg7 arg8 harg8 arg9 harg9 arg10 harg10 v1 v4 v8 := by
  rw [cc0_moe_experts_eq_skeleton]
  unfold cc0_moe_experts_skel stepsP restP lastP castP prodP zeroP smemLoad smemLoadElt
  simp only [Prog.lift, Prog.bind_op, Prog.bind_ret]
  rfl

theorem pure_run {K : PUnit.{1} → sProp 𝕄} : (K ⟨⟩ : sProp 𝕄) ⊢ wp frame (wpE (defs₀ (F := F)) Variants.none c none) Set.univ (pure ⟨⟩) K := by
  rw [wp_pure]
  iintro H; imodintro; iexact H

theorem rest_run {K : PUnit.{1} → sProp 𝕄} (v1 : BitVec 32) (hc : k0_cond3 v1 = 1#1 ↔ ¬ k0_cond2 v1 = 1#1)
    (x : Vec F S512x1024 .bf16) (wg wu : Vec F S1024x512 .bf16) (wd : Vec F S512x1024 .bf16) :
    iprop((holds c arg3 x) ∗ (∃ d : Vec F S512x1024 .bf16, holds c arg7 d) ∗ (holds c arg8 wg) ∗ (holds c arg9 wu) ∗ (holds c arg10 wd))
      ⊢ iprop((((holds c arg3 x) ∗ (holds c arg7 (if k0_cond2 v1 = 1#1 then prod x wg wu wd else k0_pay5)) ∗ (holds c arg8 wg) ∗ (holds c arg9 wu)
            ∗ (holds c arg10 wd)) -∗ K ⟨⟩)
          -∗ wp frame (wpE (defs₀ (F := F)) Variants.none c none) Set.univ (restP arg3 arg7 harg7 arg8 arg9 arg10 v1) K) := by
  unfold restP lastP
  iintro ⟨H3, H7, H8, H9, H10⟩ Hk
  by_cases h2 : k0_cond2 v1 = 1#1
  · rw [dif_pos h2, if_pos h2, dif_neg (fun h => hc.mp h h2)]
    iapply (prod_run c arg3 arg7 harg7 arg8 arg9 arg10 x wg wu wd) $$ [H3 H7 H8 H9 H10]
    · isplitl [H3]; · iexact H3
      isplitl [H7]; · iexact H7
      isplitl [H8]; · iexact H8
      isplitl [H9]; · iexact H9
      iexact H10
    iintro H
    iapply (pure_run c)
    iapply Hk
    iexact H
  · rw [dif_neg h2, if_neg h2, dif_pos (hc.mpr h2)]
    iapply (zero_run c arg7 harg7) $$ H7
    iintro H7
    iapply (pure_run c)
    iapply Hk
    isplitl [H3]; · iexact H3
    isplitl [H7]; · iexact H7
    isplitl [H8]; · iexact H8
    isplitl [H9]; · iexact H9
    iexact H10

theorem steps_run {K : PUnit.{1} → sProp 𝕄} (v1 v4 v8 : BitVec 32) (hc : k0_cond3 v1 = 1#1 ↔ ¬ k0_cond2 v1 = 1#1)
    (x : Vec F S512x1024 .bf16) (w1 w2 : Vec F S1x1x1024x512 .f32) (w3 : Vec F S1x1x512x1024 .f32)
    (s8 s9 : Vec F S1024x512 .bf16) (s10 : Vec F S512x1024 .bf16)
    (hs : ¬ fresh i v4 v8 = 1#1 → s8 = k0_pay1 w1 ∧ s9 = k0_pay2 w2 ∧ s10 = k0_pay3 w3) :
    iprop((holds c arg3 x) ∗ (holds c arg4 w1) ∗ (holds c arg5 w2) ∗ (holds c arg6 w3) ∗ (∃ d : Vec F S512x1024 .bf16, holds c arg7 d)
        ∗ (holds c arg8 s8) ∗ (holds c arg9 s9) ∗ (holds c arg10 s10))
      ⊢ iprop((((holds c arg3 x) ∗ (holds c arg4 w1) ∗ (holds c arg5 w2) ∗ (holds c arg6 w3) ∗ (holds c arg7 (outv v1 x w1 w2 w3))
            ∗ (holds c arg8 (k0_pay1 w1)) ∗ (holds c arg9 (k0_pay2 w2)) ∗ (holds c arg10 (k0_pay3 w3))) -∗ K ⟨⟩)
      -∗ wp frame (wpE (defs₀ (F := F)) Variants.none c none) Set.univ
          (stepsP i arg3 arg4 arg5 arg6 arg7 harg7 arg8 harg8 arg9 harg9 arg10 harg10 v1 v4 v8) K) := by
  unfold stepsP outv
  iintro ⟨H3, H4, H5, H6, H7, H8, H9, H10⟩ Hk
  by_cases hf : fresh i v4 v8 = 1#1
  · rw [if_pos hf]
    iapply (cast_run c arg4 arg5 arg6 arg8 harg8 arg9 harg9 arg10 harg10 w1 w2 w3) $$ [H4 H5 H6 H8 H9 H10]
    · isplitl [H4]; · iexact H4
      isplitl [H5]; · iexact H5
      isplitl [H6]; · iexact H6
      isplitl [H8]; · iexists _; iexact H8
      isplitl [H9]; · iexists _; iexact H9
      iexists _; iexact H10
    iintro ⟨H4, H5, H6, H8, H9, H10⟩
    iapply (rest_run c arg3 arg7 harg7 arg8 arg9 arg10 v1 hc x (k0_pay1 w1) (k0_pay2 w2) (k0_pay3 w3)) $$ [H3 H7 H8 H9 H10]
    · isplitl [H3]; · iexact H3
      isplitl [H7]; · iexact H7
      isplitl [H8]; · iexact H8
      isplitl [H9]; · iexact H9
      iexact H10
    iintro ⟨H3, H7, H8, H9, H10⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [if_neg hf]
    obtain ⟨rfl, rfl, rfl⟩ := hs hf
    iapply (rest_run c arg3 arg7 harg7 arg8 arg9 arg10 v1 hc x (k0_pay1 w1) (k0_pay2 w2) (k0_pay3 w3)) $$ [H3 H7 H8 H9 H10]
    · isplitl [H3]; · iexact H3
      isplitl [H7]; · iexact H7
      isplitl [H8]; · iexact H8
      isplitl [H9]; · iexact H9
      iexact H10
    iintro ⟨H3, H7, H8, H9, H10⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem body_run {K : PUnit.{1} → sProp 𝕄} (q1 q2 : PosShare TreeShare) (f1 : Buf (Elt F) ((c : Thread nD τ).loc main_arg1)) (f2 : Buf (Elt F) ((c : Thread nD τ).loc main_arg2))
    (v1 v4 v8 : BitVec 32) (h1 : ((Memref.whole main_arg2).access (rT i)).read (Elt F) f2 iT = v1)
    (h4 : ((Memref.whole main_arg1).access (rT i)).read (Elt F) f1 iT = v4) (h8 : ((Memref.whole main_arg1).access (rP i)).read (Elt F) f1 iT = v8)
    (hc : k0_cond3 v1 = 1#1 ↔ ¬ k0_cond2 v1 = 1#1)
    (x : Vec F S512x1024 .bf16) (w1 w2 : Vec F S1x1x1024x512 .f32) (w3 : Vec F S1x1x512x1024 .f32)
    (s8 s9 : Vec F S1024x512 .bf16) (s10 : Vec F S512x1024 .bf16)
    (hs : ¬ fresh i v4 v8 = 1#1 → s8 = k0_pay1 w1 ∧ s9 = k0_pay2 w2 ∧ s10 = k0_pay3 w3) :
    iprop(tables c q1 q2 f1 f2 ∗ (holds c arg3 x) ∗ (holds c arg4 w1) ∗ (holds c arg5 w2) ∗ (holds c arg6 w3) ∗ (∃ d : Vec F S512x1024 .bf16, holds c arg7 d)
        ∗ (holds c arg8 s8) ∗ (holds c arg9 s9) ∗ (holds c arg10 s10))
      ⊢ iprop(((tables c q1 q2 f1 f2 ∗ (holds c arg3 x) ∗ (holds c arg4 w1) ∗ (holds c arg5 w2) ∗ (holds c arg6 w3)
            ∗ (holds c arg7 (outv v1 x w1 w2 w3))
            ∗ (holds c arg8 (k0_pay1 w1)) ∗ (holds c arg9 (k0_pay2 w2)) ∗ (holds c arg10 (k0_pay3 w3))) -∗ K ⟨⟩)
      -∗ wp frame (wpE (defs₀ (F := F)) Variants.none c none) Set.univ
          (cc0_moe_experts i (Memref.whole main_arg1) (Memref.isWhole_whole _) (Memref.whole main_arg2) (Memref.isWhole_whole _) arg3 harg3 arg4 harg4
            arg5 harg5 arg6 harg6 arg7 harg7 arg8 harg8 arg9 harg9 arg10 harg10) K) := by
  rw [body_eq]
  unfold tables smemLoad smemLoadElt
  simp only [Prog.bind_op, Prog.bind_ret]
  iintro ⟨⟨T1, T2⟩, H3, H4, H5, H6, H7, H8, H9, H10⟩ Hk
  iapply (wp_load_rect Variants.none (c : Thread nD τ) none Set.univ (m := Memref.whole main_arg2) (r := rT i) (Finset.subset_univ _)) $$ T2
  iintro T2
  iapply (wp_load_rect Variants.none (c : Thread nD τ) none Set.univ (m := Memref.whole main_arg1) (r := rT i) (Finset.subset_univ _)) $$ T1
  iintro T1
  iapply (wp_load_rect Variants.none (c : Thread nD τ) none Set.univ (m := Memref.whole main_arg1) (r := rP i) (Finset.subset_univ _)) $$ T1
  iintro T1
  rw [h1, h4]
  simp only [Prog.bind_ret]
  rw [h8]
  iapply (steps_run c i arg3 arg4 arg5 arg6 arg7 harg7 arg8 harg8 arg9 harg9 arg10 harg10 v1 v4 v8 hc x w1 w2 w3 s8 s9 s10 hs) $$ [H3 H4 H5 H6 H7 H8 H9 H10]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro H
  iapply Hk
  isplitl [T1 T2]
  · isplitl [T1]; · iexact T1
    iexact T2
  iexact H

end Body

end Cert.Proof.Moe

end
-- ==== Proof.MoeData.lean ====
/-
  THE EXPERTS' MULTILAYER PERCEPTRON: the pipeline's data and the body's obligation, over any float values. The tables are what the
  launch's memory holds; `InRange` is what the precondition gives of them: every expert below 16, every count of rows non-negative.
-/
module

public import proofs.«01_k».proof.Proof.MoeBody
public import Idealize.ShloMosaic.Lib.Pipeline.Quiescent
public import Idealize.ShloMosaic.Lib.Pipeline.Kit

@[expose] public section

set_option maxRecDepth 16384

noncomputable section

namespace Cert.Proof.Moe

open Cert.MoeIdeal Cert.MoeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The tables -/

/-- The tables at launch: each block's expert, each block's count of rows. -/
def tab : pre0.Contents (Elt F) := fun k => m (((0 : Dev nD) : Thread nD τ).loc (pre0.ref k))

/-- A block's expert and its count. -/
def expert (x : S80.Idx) : BitVec 32 := tab m 0 x
def count (x : S80.Idx) : BitVec 32 := tab m 1 x

/-- Every expert is one of the sixteen, every count is at least zero. -/
def InRange : Prop := (∀ x, (expert m x).toNat < 16) ∧ ∀ x, (0#32).sle (count m x) = true

/-- The table's entry at a point. -/
def at1 (i : grid0.Coords) : S80.Idx := (rT i).idx iT
def at0 (i : grid0.Coords) : S80.Idx := (rP i).idx iT

theorem index1 (i : grid0.Coords) : cc0_transform_1 k0_off1_inb numel1_S1 (tab m) i = ![0, (expert m (at1 i)).toNat, 0, 0] := rfl
theorem index2 (i : grid0.Coords) : cc0_transform_2 k0_off1_inb numel1_S1 (tab m) i = ![0, (expert m (at1 i)).toNat, 0, 0] := rfl
theorem index3 (i : grid0.Coords) : cc0_transform_3 k0_off1_inb numel1_S1 (tab m) i = ![0, (expert m (at1 i)).toNat, 0, 0] := rfl

theorem ok_of (h : InRange m) : ok0 (tab m) := by
  refine ⟨fun i => ⟨fun a => ?_, .inl rfl⟩, fun i => ⟨fun a => ?_, .inl rfl⟩, fun i => ⟨fun a => ?_, .inl rfl⟩⟩
  · have := h.1 (at1 i)
    rw [index1]
    fin_cases a <;> simp <;> omega
  · have := h.1 (at1 i)
    rw [index2]
    fin_cases a <;> simp <;> omega
  · have := h.1 (at1 i)
    rw [index3]
    fin_cases a <;> simp <;> omega

variable (h : InRange m)

/-- The pipeline at the launch's tables. -/
def adm : (pcfg0 (F := F)).Adm := ⟨tab m, ok_of m h⟩
abbrev cfgA : Cfg sig Λ₀ := cfg0 (adm m h)

/-! ## The buffers when the region is entered -/

/-- The one host operation: the rows rounded to bfloat16. -/
abbrev op : HloOp τ sig (Elt F) :=
  StableHlo.unary main_arg0 main_v0 ((truncf .bf16 · bitsLt_bf16_f32) : (⟨S40960x1024, .f32⟩ : BufTy).Contents (Elt F) → (⟨S40960x1024, .bf16⟩ : BufTy).Contents (Elt F))

def V₀ (c : Dev nD) : Valuation τ sig (Elt F) := fun b => m ⟨c, b⟩
def V (c : Dev nD) (b : Ref sig .tc) : Buf (Elt F) ((c : Thread nD τ).loc b) := op.result (V₀ m c) b

theorem V_v0 (c : Dev nD) : V m c main_v0 = truncf .bf16 (m ((c : Thread nD τ).loc main_arg0)) bitsLt_bf16_f32 :=
  StableHlo.unary_result (Val := Elt F) main_arg0 main_v0 _ _ _ (V₀ m c)

theorem V_of_ne (c : Dev nD) {b : Ref sig .tc} (hb : b ≠ main_v0) : V m c b = m ((c : Thread nD τ).loc b) :=
  StableHlo.unary_result_ne (τ := τ) (x := main_arg0) (y := main_v0) _ _ _ (V₀ m c) hb

/-! ## The blocks -/

/-- A window's block at a point, of its array as the region finds it. -/
def iblk (c : Dev nD) (w : Fin (cfgA m h).W) (t : Fin (cfgA m h).N) :
    (((cfgA m h).win w).xblock ((cfgA m h).grid.coords t)).Idx → Elt F ((cfgA m h).win w).elt :=
  (((cfgA m h).win w).blk t).view.read (Elt F) (V m c (Pipeline.arrRef spec0 w))

abbrev xB (c : Dev nD) (t : Fin grid0.N) : Vec F S512x1024 .bf16 := iblk m h c 0 t
abbrev gB (c : Dev nD) (t : Fin grid0.N) : Vec F S1x1x1024x512 .f32 := iblk m h c 1 t
abbrev uB (c : Dev nD) (t : Fin grid0.N) : Vec F S1x1x1024x512 .f32 := iblk m h c 2 t
abbrev dB (c : Dev nD) (t : Fin grid0.N) : Vec F S1x1x512x1024 .f32 := iblk m h c 3 t

/-- What the body leaves of the result's block. -/
def oB (c : Dev nD) (t : Fin grid0.N) : Vec F S512x1024 .bf16 :=
  outv (count m (at1 (grid0.coords t))) (xB m h c t) (gB m h c t) (uB m h c t) (dB m h c t)

abbrev scG : Memref sig .tc .vmem S1024x512 .bf16 := Memref.whole cc0_scratch0
abbrev scU : Memref sig .tc .vmem S1024x512 .bf16 := Memref.whole cc0_scratch1
abbrev scD : Memref sig .tc .vmem S512x1024 .bf16 := Memref.whole cc0_scratch2

/-- What the scratches hold before a point: past the first, the weights of the point before, rounded. -/
def Kept (c : Dev nD) (t : ℕ) (s8 s9 : Vec F S1024x512 .bf16) (s10 : Vec F S512x1024 .bf16) : Prop :=
  ∀ t' : Fin grid0.N, t'.val + 1 = t → s8 = k0_pay1 (gB m h c t') ∧ s9 = k0_pay2 (uB m h c t') ∧ s10 = k0_pay3 (dB m h c t')

/-- The body's half of the tables, at the launch's contents. -/
abbrev tabs (c : Dev nD) : sProp 𝕄 :=
  tables c fullShare.right fullShare.right (show Buf (Elt F) ((c : Thread nD τ).loc main_arg1) from tab m 0)
    (show Buf (Elt F) ((c : Thread nD τ).loc main_arg2) from tab m 1)

def Inv (c : Dev nD) (t : ℕ) : sProp 𝕄 :=
  iprop(tabs m c ∗ ∃ s8 s9 s10, ⌜Kept m h c t s8 s9 s10⌝ ∗ (holds c scG s8) ∗ (holds c scU s9) ∗ (holds c scD s10))

/-- The data of the pipeline: the arrays as the region finds them; after a point each input's block in place and the result's
    block at `oB`. -/
def dats (_ : Fin 1) (c : Dev nD) : Dat τ (Elt F) Unit ℕ (UR sig nD τ) ℕ (cfgA m h) c where
  A w := V m c (Pipeline.arrRef spec0 w)
  after w t := match w with
    | ⟨0, _⟩ => xB m h c t
    | ⟨1, _⟩ => gB m h c t
    | ⟨2, _⟩ => uB m h c t
    | ⟨3, _⟩ => dB m h c t
    | ⟨4, _⟩ => oB m h c t
  Φ t := Inv m h c t.val
  q _ := fullShare
  owed _ := 0

theorem before_0 (c : Dev nD) (t : Fin grid0.N) (d) : (dats m h 0 c).before 0 t d = xB m h c t :=
  (dats m h 0 c).before_in_eq_fetched 0 rfl (fun _ => rfl) (fun _ _ _ => rfl) (fun _ => rfl) t d
theorem before_1 (c : Dev nD) (t : Fin grid0.N) (d) : (dats m h 0 c).before 1 t d = gB m h c t :=
  (dats m h 0 c).before_in_eq_fetched 1 rfl (fun _ => rfl) (fun _ _ _ => rfl) (fun _ => rfl) t d
theorem before_2 (c : Dev nD) (t : Fin grid0.N) (d) : (dats m h 0 c).before 2 t d = uB m h c t :=
  (dats m h 0 c).before_in_eq_fetched 2 rfl (fun _ => rfl) (fun _ _ _ => rfl) (fun _ => rfl) t d
theorem before_3 (c : Dev nD) (t : Fin grid0.N) (d) : (dats m h 0 c).before 3 t d = dB m h c t :=
  (dats m h 0 c).before_in_eq_fetched 3 rfl (fun _ => rfl) (fun _ _ _ => rfl) (fun _ => rfl) t d

/-- Points of one expert have the same weight blocks. -/
theorem gB_congr (c : Dev nD) (t t' : Fin grid0.N) (e : expert m (at1 (grid0.coords t)) = expert m (at1 (grid0.coords t'))) : gB m h c t = gB m h c t' :=
  (dats m h 0 c).fetched_congr 1 (t := t) (t' := t') (show cc0_transform_1 k0_off1_inb numel1_S1 (tab m) (grid0.coords t) = cc0_transform_1 k0_off1_inb numel1_S1 (tab m) (grid0.coords t') by
    rw [index1, index1, e]) rfl (gB m h c t)
theorem uB_congr (c : Dev nD) (t t' : Fin grid0.N) (e : expert m (at1 (grid0.coords t)) = expert m (at1 (grid0.coords t'))) : uB m h c t = uB m h c t' :=
  (dats m h 0 c).fetched_congr 2 (t := t) (t' := t') (show cc0_transform_2 k0_off1_inb numel1_S1 (tab m) (grid0.coords t) = cc0_transform_2 k0_off1_inb numel1_S1 (tab m) (grid0.coords t') by
    rw [index2, index2, e]) rfl (uB m h c t)
theorem dB_congr (c : Dev nD) (t t' : Fin grid0.N) (e : expert m (at1 (grid0.coords t)) = expert m (at1 (grid0.coords t'))) : dB m h c t = dB m h c t' :=
  (dats m h 0 c).fetched_congr 3 (t := t) (t' := t') (show cc0_transform_3 k0_off1_inb numel1_S1 (tab m) (grid0.coords t) = cc0_transform_3 k0_off1_inb numel1_S1 (tab m) (grid0.coords t') by
    rw [index3, index3, e]) rfl (dB m h c t)

/-! ## The conditions -/

/-- A count at least zero is either positive or zero. -/
theorem cond_iff (v : BitVec 32) (hv : (0#32).sle v = true) : k0_cond3 v = 1#1 ↔ ¬ k0_cond2 v = 1#1 := by
  unfold k0_cond3 k0_cond2
  simp only [Scalar.cmpi, Scalar.extui, IntOp.cmpi]
  by_cases e : v = 0#32
  · subst e; decide
  · have h2 : (0#32).slt v = true := by
      rw [BitVec.sle_eq_decide, decide_eq_true_eq] at hv
      rw [BitVec.slt_eq_decide, decide_eq_true_eq]
      rcases Int.lt_or_eq_of_le hv with hlt | heq
      · exact hlt
      · exact absurd (BitVec.eq_of_toInt_eq heq.symm) e
    have h1 : (v == 0#32) = false := by simpa using e
    simp only [h1, h2]
    decide

/-- The table's entry before a point past the first is the point before's. -/
theorem off2_at (n : Fin 79) : k0_off2 (grid0.coords (n.succ : Fin 80)) = k0_off1 (grid0.coords (n.castSucc : Fin 80)) := by
  revert n; decide +kernel

theorem at0_succ (t t' : Fin grid0.N) (e : t'.val + 1 = t.val) : at0 (grid0.coords t) = at1 (grid0.coords t') := by
  have ht : t.val < 80 := t.isLt
  have k := off2_at ⟨t'.val, by omega⟩
  have et : t = (⟨t'.val + 1, by omega⟩ : Fin 80) := Fin.ext e.symm
  have k' : k0_off2 (grid0.coords t) = k0_off1 (grid0.coords t') := by rw [et]; exact k
  funext a
  apply Fin.ext
  exact congrArg (fun f : Fin 1 → ℕ => f a + 1 * (iT a).val) k'

theorem coords_val (t : Fin grid0.N) : ((grid0.coords t) 0).val = t.val := by
  revert t; decide +kernel

theorem not_fresh (t : Fin grid0.N) (v4 v8 : BitVec 32) (hf : ¬ fresh (grid0.coords t) v4 v8 = 1#1) : t.val ≠ 0 ∧ v4 = v8 := by
  refine ⟨fun h0 => hf ?_, ?_⟩
  · unfold fresh
    rw [coords_val, h0]
    simp only [Scalar.cmpi, Scalar.extui, Scalar.ori, IntOp.cmpi]
    cases (v4 != v8) <;> decide
  · by_contra hne
    apply hf
    unfold fresh
    have e : (v4 != v8) = true := by simpa using hne
    simp only [Scalar.cmpi, Scalar.extui, Scalar.ori, IntOp.cmpi, e]
    cases (BitVec.ofNat 32 ((grid0.coords t) 0).val == 0#32) <;> decide

/-- The scratches kept from the point before are this point's, where the weights are not rounded anew. -/
theorem kept_of (c : Dev nD) (t : Fin grid0.N) (s8 s9 : Vec F S1024x512 .bf16) (s10 : Vec F S512x1024 .bf16) (hk : Kept m h c t.val s8 s9 s10)
    (hf : ¬ fresh (grid0.coords t) (expert m (at1 (grid0.coords t))) (expert m (at0 (grid0.coords t))) = 1#1) :
    s8 = k0_pay1 (gB m h c t) ∧ s9 = k0_pay2 (uB m h c t) ∧ s10 = k0_pay3 (dB m h c t) := by
  obtain ⟨h0, e⟩ := not_fresh t _ _ hf
  have ht := t.isLt
  let t' : Fin grid0.N := ⟨t.val - 1, by omega⟩
  have e' : t'.val + 1 = t.val := by show t.val - 1 + 1 = t.val; omega
  rw [at0_succ t t' e'] at e
  obtain ⟨k8, k9, k10⟩ := hk t' e'
  rw [gB_congr m h c t t' e, uB_congr m h c t t' e, dB_congr m h c t t' e]
  exact ⟨k8, k9, k10⟩

theorem kept_next (c : Dev nD) (t : Fin grid0.N) :
    Kept m h c (t.val + 1) (k0_pay1 (gB m h c t)) (k0_pay2 (uB m h c t)) (k0_pay3 (dB m h c t)) := by
  intro t' e
  obtain rfl : t' = t := Fin.ext (Nat.succ_injective e)
  exact ⟨rfl, rfl, rfl⟩

/-! ## The obligation -/

abbrev st0 (t : Fin grid0.N) : Memref sig .tc .vmem S512x1024 .bf16 := spec0_0.stage ((cfgA m h).slots t 0)
abbrev st1 (t : Fin grid0.N) : Memref sig .tc .vmem S1x1x1024x512 .f32 := spec0_1.stage ((cfgA m h).slots t 1)
abbrev st2 (t : Fin grid0.N) : Memref sig .tc .vmem S1x1x1024x512 .f32 := spec0_2.stage ((cfgA m h).slots t 2)
abbrev st3 (t : Fin grid0.N) : Memref sig .tc .vmem S1x1x512x1024 .f32 := spec0_3.stage ((cfgA m h).slots t 3)
abbrev st4 (t : Fin grid0.N) : Memref sig .tc .vmem S512x1024 .bf16 := spec0_4.stage ((cfgA m h).slots t 4)

abbrev bodyAt (t : Fin grid0.N) : Prog (TpuEff nD τ sig (Elt F) Λ₀ .tc) PUnit :=
  cc0_moe_experts (grid0.coords t) (Memref.whole main_arg1) (Memref.isWhole_whole _) (Memref.whole main_arg2) (Memref.isWhole_whole _)
    (st0 m h t) (hstage0_0 (((cfgA m h).slots t 0).cast nbuf0_0)) (st1 m h t) (hstage0_1 (((cfgA m h).slots t 1).cast nbuf0_1))
    (st2 m h t) (hstage0_2 (((cfgA m h).slots t 2).cast nbuf0_2)) (st3 m h t) (hstage0_3 (((cfgA m h).slots t 3).cast nbuf0_3))
    (st4 m h t) (hstage0_4 (((cfgA m h).slots t 4).cast nbuf0_4)) scG (Memref.isWhole_whole _) scU (Memref.isWhole_whole _) scD (Memref.isWhole_whole _)

/-- What the body is called with at a point, -/
def bodyPre (c : Dev nD) (t : Fin grid0.N) : sProp 𝕄 :=
  iprop((dats m h 0 c).Φ t.castSucc ∗ (dats m h 0 c).owesAt () t.castSucc
    ∗ (∃ d, holds c (st0 m h t) ((dats m h 0 c).before 0 t d))
    ∗ (∃ d, holds c (st1 m h t) ((dats m h 0 c).before 1 t d))
    ∗ (∃ d, holds c (st2 m h t) ((dats m h 0 c).before 2 t d))
    ∗ (∃ d, holds c (st3 m h t) ((dats m h 0 c).before 3 t d))
    ∗ (∃ d, holds c (st4 m h t) ((dats m h 0 c).before 4 t d)))

/-- what it returns of the result's buffer, -/
def oPost (c : Dev nD) (t : Fin grid0.N) : sProp 𝕄 :=
  match (cfgA m h).idle 4 ((cfgA m h).grid.coords t) with
  | true =>
    match ((cfgA m h).win 4).flush t with
    | false => iprop(∃ d, holds c (st4 m h t) ((dats m h 0 c).before 4 t d))
    | true => holds c (st4 m h t) ((dats m h 0 c).after 4 t)
  | false => holds c (st4 m h t) ((dats m h 0 c).after 4 t)

/-- and all it returns. -/
def bodyPost (c : Dev nD) (t : Fin grid0.N) : sProp 𝕄 :=
  iprop((dats m h 0 c).Φ t.succ ∗ (dats m h 0 c).owesAt () t.succ
    ∗ holds c (st0 m h t) ((dats m h 0 c).after 0 t)
    ∗ holds c (st1 m h t) ((dats m h 0 c).after 1 t)
    ∗ holds c (st2 m h t) ((dats m h 0 c).after 2 t)
    ∗ holds c (st3 m h t) ((dats m h 0 c).after 3 t)
    ∗ oPost m h c t)

theorem atD_count (i : grid0.Coords) : (tab m).atD 1 (k0_off1 i) = count m (at1 i) := by
  unfold Pipeline.Prefetch.Contents.atD
  rw [dif_pos (fun a => by fin_cases a; exact k0_off1_inb i 0)]
  rfl

/-- The result's block is stored at every point. -/
theorem idle_4 (t : Fin grid0.N) : (cfgA m h).idle 4 ((cfgA m h).grid.coords t) = false := by
  show (!(k0_cond2 ((tab m).atD 1 (k0_off1 (grid0.coords t))) == 1#1) && !(k0_cond3 ((tab m).atD 1 (k0_off1 (grid0.coords t))) == 1#1)) = false
  rw [atD_count]
  have e := cond_iff _ (h.2 (at1 (grid0.coords t)))
  by_cases h2 : k0_cond2 (count m (at1 (grid0.coords t))) = 1#1
  · simp [h2]
  · simp [e.mpr h2]

theorem sound_body (c : Dev nD) (t : Fin grid0.N) :
    bodyPre m h c t ⊢ wp frame (wpE (defs₀ (F := F)) Variants.none c none) Set.univ (bodyAt m h t) (fun _ => bodyPost m h c t) := by
  unfold bodyPre bodyPost oPost
  rw [idle_4]
  simp only [before_0, before_1, before_2, before_3]
  rw [show (dats m h 0 c).Φ t.castSucc = Inv m h c t.val from rfl, show (dats m h 0 c).Φ t.succ = Inv m h c (t.val + 1) from rfl,
    show (dats m h 0 c).owesAt () t.succ = (dats m h 0 c).owesAt () t.castSucc from rfl,
    show (dats m h 0 c).after 0 t = xB m h c t from rfl, show (dats m h 0 c).after 1 t = gB m h c t from rfl,
    show (dats m h 0 c).after 2 t = uB m h c t from rfl, show (dats m h 0 c).after 3 t = dB m h c t from rfl,
    show (dats m h 0 c).after 4 t = oB m h c t from rfl]
  unfold Inv oB
  iintro ⟨⟨HT, %s8, %s9, %s10, %hk, HG, HU, HD⟩, Ho, ⟨%d0, H0⟩, ⟨%d1, H1⟩, ⟨%d2, H2⟩, ⟨%d3, H3⟩, ⟨%d4, H4⟩⟩
  iapply (body_run c (grid0.coords t) (st0 m h t) _ (st1 m h t) _ (st2 m h t) _ (st3 m h t) _ (st4 m h t) _ scG _ scU _ scD _
    fullShare.right fullShare.right (show Buf (Elt F) ((c : Thread nD τ).loc main_arg1) from tab m 0)
    (show Buf (Elt F) ((c : Thread nD τ).loc main_arg2) from tab m 1)
    (count m (at1 (grid0.coords t))) (expert m (at1 (grid0.coords t))) (expert m (at0 (grid0.coords t))) rfl rfl rfl
    (cond_iff _ (h.2 (at1 (grid0.coords t)))) (xB m h c t) (gB m h c t) (uB m h c t) (dB m h c t) s8 s9 s10
    (fun hf => kept_of m h c t s8 s9 s10 hk hf)) $$ [HT H0 H1 H2 H3 H4 HG HU HD]
  · isplitl [HT]; · iexact HT
    isplitl [H0]; · iexact H0
    isplitl [H1]; · iexact H1
    isplitl [H2]; · iexact H2
    isplitl [H3]; · iexact H3
    isplitl [H4]; · iexists _; iexact H4
    isplitl [HG]; · iexact HG
    isplitl [HU]; · iexact HU
    iexact HD
  iintro ⟨HT, H0, H1, H2, H3, H4, HG, HU, HD⟩
  isplitl [HT HG HU HD]
  · isplitl [HT]; · iexact HT
    iexists _; iexists _; iexists _
    isplitr; · ipureintro; exact kept_next m h c t
    isplitl [HG]; · iexact HG
    isplitl [HU]; · iexact HU
    iexact HD
  isplitl [Ho]; · iexact Ho
  isplitl [H0]; · iexact H0
  isplitl [H1]; · iexact H1
  isplitl [H2]; · iexact H2
  isplitl [H3]; · iexact H3
  iexact H4

theorem defs₀_row (t : Fin grid0.N) :
    defs₀ (F := F) .tc (cfgA m h).body ((cfgA m h).bodyArgs t ((cfgA m h).slots t)) = bodyAt m h t := by
  unfold defs₀; rw [Defs.onTc_tc]

theorem body_obligation (c : Dev nD) : BodyObligation (dats (F := F) m h 0 c) (defs₀ (F := F)) Variants.none () Set.univ := fun t => by
  rw [bigSep_W0, bigSep_W0, defs₀_row]
  exact triple_restated (sound_body m h c t) rfl .rfl fun _ => .rfl

end Cert.Proof.Moe

end
-- ==== Proof.MoeRun.lean ====
/-
  THE EXPERTS' MULTILAYER PERCEPTRON: the run, over any float values, and what it leaves: the arguments unchanged, the result's
  array at what the pipeline's data say after the last block.
-/
module

public import proofs.«01_k».proof.Proof.MoeData

@[expose] public section

set_option maxRecDepth 16384

noncomputable section

namespace Cert.Proof.Moe

open Cert.MoeIdeal Cert.MoeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cells launchToks)

variable {F : FTy → Type} [FloatOps F]

local notation "𝕄" => MT nD τ sig Unit (Elt F) ℕ (UR sig nD τ) ℕ

variable (m : (ℓ : Loc nD τ sig) → Buf (Elt F) ℓ) (h : InRange m) (ρ : Dev nD → PrngReg)

/-! ## The host operation before the region -/

/-- The unscoped references, the set the host operation runs within. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem op_sub : (op : HloOp τ sig (Elt F)).bufs ⊆ ucRefs := fun b hb =>
  Finset.mem_filter.mpr ⟨StableHlo.unary_bufs_sub _ _ _ _ _ hb, fun e => Bool.false_ne_true (((op : HloOp τ sig (Elt F)).no_scoped b hb).symm.trans e)⟩

theorem main_eq (c : Dev nD) : main (F := F) c
    = hlo rfl (op : HloOp τ sig (Elt F)) fun _ => .op (.customCall (Pipeline.entry 0) ()) fun _ => .ret ⟨⟩ := by
  simp only [main, Prog.lift, Prog.bind_op, Prog.bind_ret]
  rfl

-- the host rule, stated for any thread, is used at this one only when unification may unfold plain definitions in a
-- metavariable's type
set_option backward.isDefEq.respectTransparency.types false in
theorem main_run (c : Dev nD) (Q : PUnit → sProp 𝕄) :
    iprop((iprop(boundary (c : Thread nD τ) ∗ unscopedBufs c (V m c))
            -∗ wp frame (wpE (defs (F := F)) (Variants.lift Variants.none) (c : Thread nD τ) none) Set.univ
                (.op (.customCall (Pipeline.entry (0 : Fin 1)) ()) fun _ => .ret ⟨⟩) Q)
        ∗ boundary (c : Thread nD τ) ∗ unscopedBufs c (fun b => m ((c : Thread nD τ).loc b)))
      ⊢ wp frame (wpE defs (Variants.lift Variants.none) (c : Thread nD τ) none) Set.univ (main c) Q := by
  rw [main_eq, show unscopedBufs c (V m c) = StableHlo.held (c : Thread nD τ) ucRefs ((op : HloOp τ sig (Elt F)).result (V₀ m c))
      from unscopedBufs_held c ((op : HloOp τ sig (Elt F)).result (V₀ m c)),
    show unscopedBufs c (fun b => m ((c : Thread nD τ).loc b)) = StableHlo.held (c : Thread nD τ) ucRefs (V₀ m c)
      from unscopedBufs_held c (V₀ m c)]
  iintro ⟨Hk, Hb⟩
  iapply (StableHlo.wp_hlo_within (Variants.lift Variants.none) (c : Thread nD τ) none Set.univ op_sub) $$ Hb
  iintro Hb
  iapply Hk; iexact Hb

/-! ## Entry and exit -/

omit [FloatOps F] in
theorem prefHeld_pair (c : Dev nD) (q : Fin 2 → PosShare TreeShare) (v : pre0.Contents (Elt F)) :
    (Pipeline.prefHeld pre0 c q v : sProp 𝕄)
      = iprop((((c : Thread nD τ).loc main_arg1) ↦{q 0} (show Buf (Elt F) ((c : Thread nD τ).loc main_arg1) from v 0))
          ∗ (((c : Thread nD τ).loc main_arg2) ↦{q 1} (show Buf (Elt F) ((c : Thread nD τ).loc main_arg2) from v 1))) := by
  unfold Pipeline.prefHeld
  rw [show (Finset.univ : Finset (Fin 2)) = insert 0 {1} from by decide, bigSep_insert (by decide), bigSep_singleton]
  rfl

omit [FloatOps F] in
/-- A scratch's whole buffer is its memref held at its contents. -/
theorem holds_whole (c : Dev nD) (b : Ref sig .tc) (f : Buf (Elt F) ((c : Thread nD τ).loc b)) :
    (((c : Thread nD τ).loc b) ↦{fullShare} f : sProp 𝕄) ⊢ holds c (Memref.whole b) f := by
  unfold holds owns
  iintro H
  iexists f
  isplitr; · ipureintro; rfl
  rw [View.set_whole]; iexact H

theorem inv_entry (c : Dev nD) :
    iprop(⌜True⌝ ∗ Pipeline.prefHeld pre0 c (fun _ => fullShare.right) (adm m h).1 ∗ Pipeline.scopedRest spec0 c) ⊢ (dats m h 0 c).Φ 0 := by
  rw [show (dats m h 0 c).Φ 0 = Inv m h c 0 from rfl, scopedRest0_eq, prefHeld_pair]
  unfold Inv tabs tables
  iintro ⟨-, ⟨H1, H2⟩, ⟨%f8, S8⟩, ⟨%f9, S9⟩, ⟨%f10, S10⟩⟩
  isplitl [H1 H2]
  · isplitl [H1]; · iexact H1
    iexact H2
  iexists f8; iexists f9; iexists f10
  isplitr; · ipureintro; intro t' e; exact absurd e (Nat.succ_ne_zero _)
  isplitl [S8]; · iapply (holds_whole c cc0_scratch0); iexact S8
  isplitl [S9]; · iapply (holds_whole c cc0_scratch1); iexact S9
  iapply (holds_whole c cc0_scratch2); iexact S10

theorem inv_exit (c : Dev nD) :
    (dats m h 0 c).Φ (Fin.last (cfgA m h).N) ⊢ iprop(⌜True⌝ ∗ Pipeline.scopedRest spec0 c) := by
  rw [show (dats m h 0 c).Φ (Fin.last (cfgA m h).N) = Inv m h c (cfgA m h).N from rfl, scopedRest0_eq]
  unfold Inv holds owns
  rw [View.set_whole, View.set_whole, View.set_whole]
  iintro ⟨-, %s8, %s9, %s10, -, ⟨%f8, -, S8⟩, ⟨%f9, -, S9⟩, ⟨%f10, -, S10⟩⟩
  isplitr; · ipureintro; trivial
  isplitl [S8]; · iexists f8; iexact S8
  isplitl [S9]; · iexists f9; iexact S9
  iexists f10; iexact S10

/-! ## The run -/

/-- What an array of the pipeline holds after the run. -/
def final (c : Dev nD) (w : Fin 5) : Buf (Elt F) ((spec0 w).arr.view.loc (c : Thread nD τ)) := (dats m h 0 c).arrAt w grid0.N

/-- Every array of the pipeline at what its data say, the tables and the unrounded rows as launched. -/
def Post : PUnit × MemSt nD τ sig (Elt F) → Prop := fun r =>
  ∀ c : Dev nD, (∀ w : Fin 5, r.2.mem ((spec0 w).arr.view.loc (c : Thread nD τ)) = final m h c w)
    ∧ (∀ k, r.2.mem ((c : Thread nD τ).loc (pre0.ref k)) = (adm m h).1 k)
    ∧ r.2.mem ((c : Thread nD τ).loc main_arg0) = m ((c : Thread nD τ).loc main_arg0)

theorem V_pre (c : Dev nD) (k : Fin 2) : V m c (pre0.ref k) = (adm m h).1 k := by
  rw [V_of_ne m c (b := pre0.ref k) (by revert k; decide)]
  obtain rfl : c = 0 := Subsingleton.elim _ _
  rfl

set_option backward.isDefEq.respectTransparency.types false in
theorem run : θ_run defs (onTc (τ := τ) (main (F := F))) ⟨m, fun _ => 0, ρ⟩ (fun r => Post m h r ∧ r.2.sem = fun _ => 0) :=
  Pipeline.θ_run_region_noSem_pf_quiescent pcfgs (fun _ => adm m h) (dats m h) () (cellOf_inj (fun _ => adm m h)) (0 : Fin 1)
    (launch0 (F := F)).win.to₀ (launch0 (F := F)).pre emb₁ defs₀ Variants.none m ρ main
    (hbody := fun c => (body_obligation m h c).loose) (hne := (launch0 (F := F)).block_pos) (harr := (launch0 (F := F)).arr_whole)
    (hstage := (launch0 (F := F)).stage_whole) (howed := fun _ _ => rfl)
    (u₀ := initOf (cells (Pipeline.pin pcfgs fun _ => adm m h) (cellOf_inj (fun _ => adm m h)))
      (launchToks (Pipeline.pin pcfgs fun _ => adm m h) (cellOf_inj (fun _ => adm m h))))
    (hu₀ := Entails.of_eq (ownU_emb₁ _))
    (V := V m) (hmain := main_run m)
    (hsplit := fun c => Pipeline.arrays_split (Pipeline.pin pcfgs fun _ => adm m h) (dats m h) (0 : Fin 1) (launch0 (F := F)).win.arr_inj c
      (launch0 (F := F)).arr_whole ((dats m h 0 c).share_full fun _ => rfl) (V m c) _ fun _ => rfl)
    (hpf := V_pre m h)
    (X := fun _ => iprop(⌜True⌝)) (Y := fun _ => iprop(⌜True⌝))
    (Z := fun c => iprop(((c : Thread nD τ).loc main_arg0) ↦{fullShare} m ((c : Thread nD τ).loc main_arg0)))
    (hX := fun c => by
      rw [unscopedRestP0_eq, V_of_ne m c (b := main_arg0) (by decide)]
      iintro H
      isplitr; · ipureintro; trivial
      iexact H)
    (hin := inv_entry m h) (hout := inv_exit m h)
    (QY := fun c s => s.mem ((c : Thread nD τ).loc main_arg0) = m ((c : Thread nD τ).loc main_arg0))
    (hY := fun c s' => by
      iintro ⟨-, H, HSI⟩
      icombine HSI H gives %e
      imodintro
      isplitr; · ipureintro; exact Buf.eq_of_forall_mem_univ e
      iexact HSI)
    (hQ := fun _ e hz => ⟨e, hz⟩)

theorem final_in (c : Dev nD) (w : Fin 5) (hw : (spec0 w).isOut = false) : final m h c w = V m c (Pipeline.arrRef spec0 w) :=
  (dats m h 0 c).arrAt_in w hw _

/-- The run leaves the arguments as they were, every counter at zero, and the result at what the data say. -/
theorem run_post : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ (∀ c : Dev nD, r.2.mem ((c.tc : Thread nD τ).loc main_v1) = final m h c 4) ∧ r.2.sem = fun _ => 0) := by
  refine (θ_run defs _ _).mono (fun r e => ⟨fun c => ⟨(e.1 c).2.2, ?_, ?_, ?_, ?_, ?_⟩, fun c => (e.1 c).1 4, e.2⟩) (run m h ρ)
  · obtain rfl : c = 0 := Subsingleton.elim _ _
    exact (e.1 0).2.1 0
  · obtain rfl : c = 0 := Subsingleton.elim _ _
    exact (e.1 0).2.1 1
  · exact ((e.1 c).1 1).trans ((final_in m h c 1 rfl).trans (V_of_ne m c (b := main_arg3) (by decide)))
  · exact ((e.1 c).1 2).trans ((final_in m h c 2 rfl).trans (V_of_ne m c (b := main_arg4) (by decide)))
  · exact ((e.1 c).1 3).trans ((final_in m h c 3 rfl).trans (V_of_ne m c (b := main_arg5) (by decide)))

end Cert.Proof.Moe

end
-- ==== Proof.MoePay.lean ====
/-
  THE EXPERTS' MULTILAYER PERCEPTRON, POINT BY POINT (pure): what a block of rows becomes, at a row and a column.

  `perceptron` is one entry of an expert's result for one row: the row's products with the expert's gate and up columns, the
  gate through `silu`, times the up, and that row's product with a down column. The kernel takes the two products over 1024
  terms as two halves of 512; the halves' sum is the whole.
-/
module

public import proofs.«01_k».proof.Proof.MoeBody
public import Idealize.ShloMosaic.Lib.Pointwise

@[expose] public section

set_option maxRecDepth 16384

noncomputable section

namespace Cert.Proof.Moe

open Cert.MoeIdeal Cert.MoeIdeal.Gen Idealize.ShloMosaic

/-- `silu` of the gate, times the up. -/
def act (g u : EReal) : EReal := g * Ideal.div 1 (1 + Ideal.exp (-g)) * u

/-- An expert's result for the row `x`, at column `l`. -/
def perceptron (x : Fin 1024 → EReal) (wg wu : Fin 1024 → Fin 512 → EReal) (wd : Fin 512 → Fin 1024 → EReal) (l : Fin 1024) : EReal :=
  ∑ f : Fin 512, act (∑ k : Fin 1024, x k * wg k f) (∑ k : Fin 1024, x k * wu k f) * wd f l

/-- A sum over 1024 terms is the first 512 plus the last 512. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

theorem pay4_apply (a b c d e g : Vec Ideal S512x512 .bf16) (w : Vec Ideal S512x1024 .bf16) (r : Fin 512) (l : Fin 1024) :
    k0_pay4 a b c d e g w (ix2 r l)
      = ∑ f : Fin 512, act ((∑ k : Fin 512, a (ix2 r k) * c (ix2 k f)) + ∑ k : Fin 512, b (ix2 r k) * d (ix2 k f))
          ((∑ k : Fin 512, a (ix2 r k) * e (ix2 k f)) + ∑ k : Fin 512, b (ix2 r k) * g (ix2 k f)) * w (ix2 f l) := by
  pointwise [k0_pay4, act]
  simp only [zero_sub]

theorem pay1_apply (v : Vec Ideal S1x1x1024x512 .f32) (k : Fin 1024) (f : Fin 512) : k0_pay1 v (ix2 k f) = v (ix4 0 0 k f) := by
  pointwise [k0_pay1]

theorem pay2_apply (v : Vec Ideal S1x1x1024x512 .f32) (k : Fin 1024) (f : Fin 512) : k0_pay2 v (ix2 k f) = v (ix4 0 0 k f) := by
  pointwise [k0_pay2]

theorem pay3_apply (v : Vec Ideal S1x1x512x1024 .f32) (f : Fin 512) (l : Fin 1024) : k0_pay3 v (ix2 f l) = v (ix4 0 0 f l) := by
  pointwise [k0_pay3]

theorem pay5_apply (r : Fin 512) (l : Fin 1024) : k0_pay5 (F := Ideal) (ix2 r l) = 0 := by
  pointwise [k0_pay5]

theorem xlo (r k : Fin 512) : rXlo.emb (ix2 r k) = (ix2 r ⟨k.val, by omega⟩ : S512x1024.Idx) := by
  funext a; apply Fin.ext
  match a with
  | ⟨0, _⟩ => show 0 + 1 * r.val = r.val; omega
  | ⟨1, _⟩ => show 0 + 1 * k.val = k.val; omega

theorem xhi (r k : Fin 512) : rXhi.emb (ix2 r k) = (ix2 r ⟨512 + k.val, by omega⟩ : S512x1024.Idx) := by
  funext a; apply Fin.ext
  match a with
  | ⟨0, _⟩ => show 0 + 1 * r.val = r.val; omega
  | ⟨1, _⟩ => show 512 + 1 * k.val = 512 + k.val; omega

theorem wlo (k f : Fin 512) : rWlo.emb (ix2 k f) = (ix2 ⟨k.val, by omega⟩ f : S1024x512.Idx) := by
  funext a; apply Fin.ext
  match a with
  | ⟨0, _⟩ => show 0 + 1 * k.val = k.val; omega
  | ⟨1, _⟩ => show 0 + 1 * f.val = f.val; omega

theorem whi (k f : Fin 512) : rWhi.emb (ix2 k f) = (ix2 ⟨512 + k.val, by omega⟩ f : S1024x512.Idx) := by
  funext a; apply Fin.ext
  match a with
  | ⟨0, _⟩ => show 512 + 1 * k.val = 512 + k.val; omega
  | ⟨1, _⟩ => show 0 + 1 * f.val = f.val; omega

/-- The product of a block with the rounded weights, at a row and a column. -/
theorem prod_apply (x : Vec Ideal S512x1024 .bf16) (wg wu : Vec Ideal S1024x512 .bf16) (wd : Vec Ideal S512x1024 .bf16)
    (r : Fin 512) (l : Fin 1024) :
    prod x wg wu wd (ix2 r l) = perceptron (fun k => x (ix2 r k)) (fun k f => wg (ix2 k f)) (fun k f => wu (ix2 k f)) (fun f l => wd (ix2 f l)) l := by
  unfold prod perceptron
  rw [pay4_apply]
  simp only [xlo, xhi, wlo, whi, sum_halves]

/-- A count at least zero: the body's condition holds when it is positive. -/
theorem cond2_iff (v : BitVec 32) : k0_cond2 v = 1#1 ↔ IntOp.cmpi .sgt v 0#32 = 1#1 := by
  unfold k0_cond2
  simp only [Scalar.cmpi, Scalar.extui]
  rcases (show ∀ b : BitVec 1, b = 0#1 ∨ b = 1#1 by decide) (IntOp.cmpi .sgt v 0#32) with e | e <;> rw [e] <;> decide

/-- What the body leaves of a block, at a row and a column. -/
theorem outv_apply (v : BitVec 32) (x : Vec Ideal S512x1024 .bf16) (w1 w2 : Vec Ideal S1x1x1024x512 .f32) (w3 : Vec Ideal S1x1x512x1024 .f32)
    (r : Fin 512) (l : Fin 1024) :
    outv v x w1 w2 w3 (ix2 r l) = if IntOp.cmpi .sgt v 0#32 = 1#1 then
        perceptron (fun k => x (ix2 r k)) (fun k f => w1 (ix4 0 0 k f)) (fun k f => w2 (ix4 0 0 k f)) (fun f l => w3 (ix4 0 0 f l)) l
      else 0 := by
  unfold outv
  by_cases e : k0_cond2 v = 1#1
  · rw [if_pos e, if_pos ((cond2_iff v).1 e), prod_apply]
    simp only [pay1_apply, pay2_apply, pay3_apply]
  · rw [if_neg e, if_neg (mt (cond2_iff v).2 e), pay5_apply]

end Cert.Proof.Moe

end
-- ==== Proof.MoeRef.lean ====
/-
  THE EXPERTS' REFERENCE AT AN INDEX (pure): row `r` of the result is row `r % 512` of block `r / 512`, through the block's
  expert; zero if the block's count of rows is not positive.
-/
module

public import proofs.«01_k».proof.Proof.MoePay
public import proofs.«01_k».proof.Proof.Gen.MoeRefIdeal.Run

@[expose] public section

set_option maxRecDepth 16384

noncomputable section

namespace Cert.Proof.MoeRef

open Cert.MoeRefIdeal Cert.MoeRefIdeal.Gen Idealize.ShloMosaic Cert.Proof.Moe

/-- Block `n` of the arrays gathered at the start indices: the expert read signed, and clamped to the last. -/
theorem gather_in (y : FVec Ideal S16x1024x512 .f32) (idx : IVec S80x1 32) (n : Fin 80) (k : Fin 1024) (f : Fin 512) :
    Host.gather gather_S16x1024x512_S80x1_S80x1024x512_12_0_n_n_0_1_11024512 y idx (ix3 n k f)
      = y (ix3 (⟨min (idx (ix2 n 0)).toInt.toNat 15, by omega⟩ : Fin 16) k f) := by
  unfold Host.gather
  congr 1
  funext a
  refine Fin.ext ?_
  show (gather_S16x1024x512_S80x1_S80x1024x512_12_0_n_n_0_1_11024512).start (ix3 n k f) idx a
    + (gather_S16x1024x512_S80x1_S80x1024x512_12_0_n_n_0_1_11024512).batchCoord (ix3 n k f) a
    + (gather_S16x1024x512_S80x1_S80x1024x512_12_0_n_n_0_1_11024512).offCoord (ix3 n k f) a = _
  rw [GatherDims.batchCoord_eq_zero _ _ _ List.not_mem_nil]
  obtain rfl | rfl | rfl : a = (0 : Fin 3) ∨ a = (1 : Fin 3) ∨ a = (2 : Fin 3) := (show ∀ a : Fin 3, a = 0 ∨ a = 1 ∨ a = 2 by decide) a
  · rw [GatherDims.offCoord_eq_zero _ _ _ (fun h => ((GatherDims.mem_sKept _ _).mp h).1 (List.mem_singleton.mpr rfl))]
    unfold GatherDims.start
    rw [dif_pos (show (0 : Fin 3) ∈ (gather_S16x1024x512_S80x1_S80x1024x512_12_0_n_n_0_1_11024512).startIndexMap from List.mem_singleton.mpr rfl)]
    have e : (gather_S16x1024x512_S80x1_S80x1024x512_12_0_n_n_0_1_11024512).siIdx (ix3 n k f)
        ⟨List.idxOf (0 : Fin 3) (gather_S16x1024x512_S80x1_S80x1024x512_12_0_n_n_0_1_11024512).startIndexMap, List.idxOf_lt_length_iff.2 (List.mem_singleton.mpr rfl)⟩
        = (ix2 n 0 : S80x1.Idx) := by
      funext b
      refine Fin.ext ?_
      match b with
      | ⟨0, _⟩ => rfl
      | ⟨1, _⟩ => rfl
    rw [e]
    rfl
  all_goals
    unfold GatherDims.start
    rw [dif_neg (show _ ∉ (gather_S16x1024x512_S80x1_S80x1024x512_12_0_n_n_0_1_11024512).startIndexMap from
      fun h => absurd (List.mem_singleton.mp h) (by decide))]
    simp only [Nat.zero_add]
    rfl

theorem gather_down (y : FVec Ideal S16x512x1024 .f32) (idx : IVec S80x1 32) (n : Fin 80) (f : Fin 512) (l : Fin 1024) :
    Host.gather gather_S16x512x1024_S80x1_S80x512x1024_12_0_n_n_0_1_15121024 y idx (ix3 n f l)
      = y (ix3 (⟨min (idx (ix2 n 0)).toInt.toNat 15, by omega⟩ : Fin 16) f l) := by
  unfold Host.gather
  congr 1
  funext a
  refine Fin.ext ?_
  show (gather_S16x512x1024_S80x1_S80x512x1024_12_0_n_n_0_1_15121024).start (ix3 n f l) idx a
    + (gather_S16x512x1024_S80x1_S80x512x1024_12_0_n_n_0_1_15121024).batchCoord (ix3 n f l) a
    + (gather_S16x512x1024_S80x1_S80x512x1024_12_0_n_n_0_1_15121024).offCoord (ix3 n f l) a = _
  rw [GatherDims.batchCoord_eq_zero _ _ _ List.not_mem_nil]
  obtain rfl | rfl | rfl : a = (0 : Fin 3) ∨ a = (1 : Fin 3) ∨ a = (2 : Fin 3) := (show ∀ a : Fin 3, a = 0 ∨ a = 1 ∨ a = 2 by decide) a
  · rw [GatherDims.offCoord_eq_zero _ _ _ (fun h => ((GatherDims.mem_sKept _ _).mp h).1 (List.mem_singleton.mpr rfl))]
    unfold GatherDims.start
    rw [dif_pos (show (0 : Fin 3) ∈ (gather_S16x512x1024_S80x1_S80x512x1024_12_0_n_n_0_1_15121024).startIndexMap from List.mem_singleton.mpr rfl)]
    have e : (gather_S16x512x1024_S80x1_S80x512x1024_12_0_n_n_0_1_15121024).siIdx (ix3 n f l)
        ⟨List.idxOf (0 : Fin 3) (gather_S16x512x1024_S80x1_S80x512x1024_12_0_n_n_0_1_15121024).startIndexMap, List.idxOf_lt_length_iff.2 (List.mem_singleton.mpr rfl)⟩
        = (ix2 n 0 : S80x1.Idx) := by
      funext b
      refine Fin.ext ?_
      match b with
      | ⟨0, _⟩ => rfl
      | ⟨1, _⟩ => rfl
    rw [e]
    rfl
  all_goals
    unfold GatherDims.start
    rw [dif_neg (show _ ∉ (gather_S16x512x1024_S80x1_S80x512x1024_12_0_n_n_0_1_15121024).startIndexMap from
      fun h => absurd (List.mem_singleton.mp h) (by decide))]
    simp only [Nat.zero_add]
    rfl

variable (x : FVec Ideal S40960x1024 .f32) (be bv : IVec S80 32) (wg wu : FVec Ideal S2x16x1024x512 .f32) (wd : FVec Ideal S2x16x512x1024 .f32)

/-- The start indices: an expert counted from the end is counted from the start. -/
abbrev starts : IVec S80x1 32 :=
  broadcastInDim S80x1 ![0] bcast_S80_S80x1_0 (select (cmpi .slt be (broadcastInDim S80 ![] bcast_S_S80 (constantI S_ 32 0#32)))
    (addi be (broadcastInDim S80 ![] bcast_S_S80 (constantI S_ 32 16#32))) be)

theorem slt_zero {v : BitVec 32} (h : v.toNat < 16) : IntOp.cmpi .slt v 0#32 = 0#1 := by
  have : v.slt 0#32 = false := by
    rw [BitVec.slt_eq_decide, decide_eq_false_iff_not, BitVec.toInt_eq_toNat_cond]
    simp only [BitVec.toInt_zero]
    omega
  simp only [IntOp.cmpi, this]
  rfl

theorem starts_apply (n : Fin 80) (h : (be (ix1 n)).toNat < 16) : min (starts be (ix2 n 0)).toInt.toNat 15 = (be (ix1 n)).toNat := by
  have e : starts be (ix2 n 0) = be (ix1 n) := by
    have hs : (if IntOp.cmpi .slt (be (ix1 n)) 0#32 = 1#1 then be (ix1 n) + 16#32 else be (ix1 n)) = be (ix1 n) := by
      rw [slt_zero h]; exact if_neg (by decide)
    refine Eq.trans ?_ hs
    pointwise [starts]
    rfl
  rw [e, BitVec.toInt_eq_toNat_cond]
  omega

/-- An expert's weights: the first half of the array, by expert. -/
abbrev inW (w : FVec Ideal S2x16x1024x512 .f32) : FVec Ideal S16x1024x512 .f32 :=
  shapeCast _ (extractStridedSlice S1x16x1024x512 ![0, 0, 0, 0] w slices_S2x16x1024x512_S1x16x1024x512_0_0_0_0) shapeCasts_S1x16x1024x512_S16x1024x512
abbrev downW (w : FVec Ideal S2x16x512x1024 .f32) : FVec Ideal S16x512x1024 .f32 :=
  shapeCast _ (extractStridedSlice S1x16x512x1024 ![0, 0, 0, 0] w slices_S2x16x512x1024_S1x16x512x1024_0_0_0_0) shapeCasts_S1x16x512x1024_S16x512x1024

theorem inW_apply (w : FVec Ideal S2x16x1024x512 .f32) (e : Fin 16) (k : Fin 1024) (f : Fin 512) : inW w (ix3 e k f) = w (ix4 0 e k f) := by
  pointwise [inW]
theorem downW_apply (w : FVec Ideal S2x16x512x1024 .f32) (e : Fin 16) (f : Fin 512) (l : Fin 1024) : downW w (ix3 e f l) = w (ix4 0 e f l) := by
  pointwise [downW]

/-- The blocks' rows. -/
abbrev rowsX : FVec Ideal S80x512x1024 .f32 := shapeCast _ x shapeCasts_S40960x1024_S80x512x1024

theorem rowsX_apply (n : Fin 80) (r : Fin 512) (k : Fin 1024) : rowsX x (ix3 n r k) = x (ix2 ⟨n.val * 512 + r.val, by omega⟩ k) := by
  pointwise [rowsX]

/-- A block's weights, gathered. -/
abbrev gathI (w : FVec Ideal S2x16x1024x512 .f32) : FVec Ideal S80x1024x512 .f32 :=
  Host.gather gather_S16x1024x512_S80x1_S80x1024x512_12_0_n_n_0_1_11024512 (inW w) (starts be)
abbrev gathD (w : FVec Ideal S2x16x512x1024 .f32) : FVec Ideal S80x512x1024 .f32 :=
  Host.gather gather_S16x512x1024_S80x1_S80x512x1024_12_0_n_n_0_1_15121024 (downW w) (starts be)

theorem gathI_apply (w : FVec Ideal S2x16x1024x512 .f32) (n : Fin 80) (k : Fin 1024) (f : Fin 512) (h : (be (ix1 n)).toNat < 16) :
    gathI be w (ix3 n k f) = w (ix4 0 ⟨(be (ix1 n)).toNat, h⟩ k f) := by
  refine (gather_in _ _ n k f).trans ((inW_apply ..).trans ?_)
  exact congrArg (fun e : Fin 16 => w (ix4 0 e k f)) (Fin.ext (starts_apply be n h))

theorem gathD_apply (w : FVec Ideal S2x16x512x1024 .f32) (n : Fin 80) (f : Fin 512) (l : Fin 1024) (h : (be (ix1 n)).toNat < 16) :
    gathD be w (ix3 n f l) = w (ix4 0 ⟨(be (ix1 n)).toNat, h⟩ f l) := by
  refine (gather_down _ _ n f l).trans ((downW_apply ..).trans ?_)
  exact congrArg (fun e : Fin 16 => w (ix4 0 e f l)) (Fin.ext (starts_apply be n h))

/-- The rows' products with a block's columns. -/
abbrev dotI (a : FVec Ideal S80x512x1024 .f32) (b : FVec Ideal S80x1024x512 .f32) : FVec Ideal S80x512x512 .f32 :=
  Host.dotGeneral (F := Ideal) (φ₁ := .f32) (φ₂ := .f32) dot_S80x512x1024_S80x1024x512_S80x512x512_2_1_1_2_0_0 none a b

theorem dotI_apply (a : FVec Ideal S80x512x1024 .f32) (b : FVec Ideal S80x1024x512 .f32) (n : Fin 80) (r f : Fin 512) :
    dotI a b (ix3 n r f) = ∑ k : Fin 1024, a (ix3 n r k) * b (ix3 n k f) := by
  pointwise [dotI]

/-- The reference's rows of every block, of its products `g` and `u` and the down weights `d`. -/
abbrev tail (g u : FVec Ideal S80x512x512 .f32) (d : FVec Ideal S80x512x1024 .f32) : FVec Ideal S40960x1024 .bf16 :=
  truncf .bf16 (shapeCast S40960x1024 (select (broadcastInDim S80x512x1024 ![0, 1, 2] bcast_S80x1x1_S80x512x1024_0_1_2 (broadcastInDim S80x1x1 ![0] bcast_S80_S80x1x1_0 (cmpi .sgt bv (broadcastInDim S80 ![] bcast_S_S80 (constantI S_ 32 0#32))))) (Host.dotGeneral (F := Ideal) (φ₁ := .f32) (φ₂ := .f32) dot_S80x512x512_S80x512x1024_S80x512x1024_2_1_1_2_0_0 none (mulf (mulf g (Host.divf (broadcastInDim S80x512x512 ![] bcast_S_S80x512x512 (constant (F := Ideal) S_ .f32 0x3F800000#32)) (addf (broadcastInDim S80x512x512 ![] bcast_S_S80x512x512 (constant S_ .f32 0x3F800000#32)) (Host.exp (Host.negf g))))) u) d) (broadcastInDim S80x512x1024 ![] bcast_S_S80x512x1024 (id (constant S_ .f32 0x00000000#32)))) shapeCasts_S80x512x1024_S40960x1024) bitsLt_bf16_f32

theorem tail_apply (g u : FVec Ideal S80x512x512 .f32) (d : FVec Ideal S80x512x1024 .f32) (q : Fin 40960) (l : Fin 1024) :
    tail bv g u d (ix2 q l) = if IntOp.cmpi .sgt (bv (ix1 ⟨q.val / 512, by omega⟩)) 0#32 = 1#1 then
        ∑ f : Fin 512, act (g (ix3 ⟨q.val / 512, by omega⟩ ⟨q.val % 512, Nat.mod_lt _ (by decide)⟩ f))
          (u (ix3 ⟨q.val / 512, by omega⟩ ⟨q.val % 512, Nat.mod_lt _ (by decide)⟩ f)) * d (ix3 ⟨q.val / 512, by omega⟩ f l)
      else 0 := by
  have hz : id (constant (F := Ideal) S_ .f32 0x00000000#32) ix0 = (0 : EReal) := by
    show constant (F := Ideal) S_ .f32 0x00000000#32 ix0 = (0 : EReal)
    pointwise
  pointwise [tail, act]
  exact congrArg (Scalar.select _ _) hz

/-- The reference's result. -/
abbrev all : FVec Ideal S40960x1024 .bf16 := tail bv (dotI (rowsX x) (gathI be wg)) (dotI (rowsX x) (gathI be wu)) (gathD be wd)

theorem all_apply (hb : ∀ n, (be n).toNat < 16) (q : Fin 40960) (l : Fin 1024) :
    all x be bv wg wu wd (ix2 q l) = if IntOp.cmpi .sgt (bv (ix1 ⟨q.val / 512, by omega⟩)) 0#32 = 1#1 then
        perceptron (fun k => x (ix2 q k)) (fun k f => wg (ix4 0 ⟨(be (ix1 ⟨q.val / 512, by omega⟩)).toNat, hb _⟩ k f))
          (fun k f => wu (ix4 0 ⟨(be (ix1 ⟨q.val / 512, by omega⟩)).toNat, hb _⟩ k f))
          (fun f l => wd (ix4 0 ⟨(be (ix1 ⟨q.val / 512, by omega⟩)).toNat, hb _⟩ f l)) l
      else 0 := by
  have hq : (⟨q.val / 512 * 512 + q.val % 512, by omega⟩ : Fin 40960) = q := Fin.ext (Nat.div_add_mod' ..)
  refine (tail_apply ..).trans ?_
  unfold perceptron
  refine if_congr Iff.rfl (Finset.sum_congr rfl fun f _ => ?_) rfl
  rw [dotI_apply, dotI_apply, gathD_apply be wd _ f l (hb _)]
  refine congrArg₂ (fun a b => act a b * _) ?_ ?_ <;> refine Finset.sum_congr rfl fun k _ => ?_
  all_goals
    rw [rowsX_apply, gathI_apply be _ _ k f (hb _)]
    exact congrArg (fun a : Fin 40960 => x (ix2 a k) * _) hq

end Cert.Proof.MoeRef

end
-- ==== Proof.MoeVal.lean ====
/-
  THE EXPERTS' MULTILAYER PERCEPTRON: what the result array holds after the run, over the extended reals. Point `t` of the grid
  handles rows `512 t` to `512 t + 511` with the weights of the expert that the table names, and writes its block once.
-/
module

public import proofs.«01_k».proof.Proof.MoeRun
public import proofs.«01_k».proof.Proof.MoeRef

@[expose] public section

set_option maxRecDepth 16384

noncomputable section

namespace Cert.Proof.Moe

open Cert.MoeIdeal Cert.MoeIdeal.Gen Idealize.ShloMosaic Idealize.ShloMosaic.TcCoe Idealize.SL.Sem
open Idealize.ShloMosaic.Pipeline (Dat)

variable (m : (ℓ : Loc nD τ sig) → Buf (Elt Ideal) ℓ) (h : InRange m) (c : Dev nD)

/-- The rows' and the result's block index at a point. -/
theorem rows_index : ∀ t : Fin grid0.N, cc0_transform_0 (grid0.coords t) 0 = t.val ∧ cc0_transform_0 (grid0.coords t) 1 = 0 := by decide +kernel
theorem out_index : ∀ t : Fin grid0.N, cc0_transform_4 (grid0.coords t) 0 = t.val ∧ cc0_transform_4 (grid0.coords t) 1 = 0 := by decide +kernel
theorem off1_val : ∀ t : Fin grid0.N, k0_off1 (grid0.coords t) 0 = t.val := by decide +kernel

/-- The table's entry at point `t` is entry `t`. -/
theorem at1_eq (t : Fin grid0.N) : at1 (grid0.coords t) = (ix1 (t : Fin 80) : S80.Idx) := by
  funext a
  apply Fin.ext
  match a with
  | ⟨0, _⟩ => show k0_off1 (grid0.coords t) 0 + 1 * 0 = t.val; rw [off1_val]; omega

theorem t_lt (t : Fin grid0.N) : t.val < 80 := t.isLt

/-- Point `t`'s rows. -/
theorem xB_apply (t : Fin grid0.N) (r : Fin 512) (k : Fin 1024) :
    xB m h c t (ix2 r k) = m ((c : Thread nD τ).loc main_arg0) (ix2 (⟨t.val * 512 + r.val, by have := t_lt t; omega⟩ : Fin 40960) k) := by
  have e : xB m h c t (ix2 r k) = V m c main_v0 (ix2 (⟨t.val * 512 + r.val, by have := t_lt t; omega⟩ : Fin 40960) k) := by
    refine (View.read_apply ..).trans (congrArg (V m c main_v0) ?_)
    funext a
    apply Fin.ext
    match a with
    | ⟨0, _⟩ => show cc0_transform_0 (grid0.coords t) 0 * 512 + 1 * r.val = t.val * 512 + r.val; rw [(rows_index t).1]; omega
    | ⟨1, _⟩ => show cc0_transform_0 (grid0.coords t) 1 * 1024 + 1 * k.val = k.val; rw [(rows_index t).2]; omega
  rw [e, V_v0]
  rfl

/-- Point `t`'s weights: its expert's. -/
theorem gB_apply (t : Fin grid0.N) (k : Fin 1024) (f : Fin 512) :
    gB m h c t (ix4 0 0 k f) = m ((c : Thread nD τ).loc main_arg3) (ix4 (0 : Fin 2) (⟨(expert m (ix1 (t : Fin 80))).toNat, h.1 _⟩ : Fin 16) k f) := by
  rw [← V_of_ne m c (b := main_arg3) (by decide)]
  refine (View.read_apply ..).trans (congrArg (V m c main_arg3) ?_)
  funext a
  apply Fin.ext
  match a with
  | ⟨0, _⟩ => rfl
  | ⟨1, _⟩ => show (expert m (at1 (grid0.coords t))).toNat * 1 + 1 * 0 = (expert m (ix1 (t : Fin 80))).toNat; rw [at1_eq]; omega
  | ⟨2, _⟩ => show 0 * 1024 + 1 * k.val = k.val; omega
  | ⟨3, _⟩ => show 0 * 512 + 1 * f.val = f.val; omega

theorem uB_apply (t : Fin grid0.N) (k : Fin 1024) (f : Fin 512) :
    uB m h c t (ix4 0 0 k f) = m ((c : Thread nD τ).loc main_arg4) (ix4 (0 : Fin 2) (⟨(expert m (ix1 (t : Fin 80))).toNat, h.1 _⟩ : Fin 16) k f) := by
  rw [← V_of_ne m c (b := main_arg4) (by decide)]
  refine (View.read_apply ..).trans (congrArg (V m c main_arg4) ?_)
  funext a
  apply Fin.ext
  match a with
  | ⟨0, _⟩ => rfl
  | ⟨1, _⟩ => show (expert m (at1 (grid0.coords t))).toNat * 1 + 1 * 0 = (expert m (ix1 (t : Fin 80))).toNat; rw [at1_eq]; omega
  | ⟨2, _⟩ => show 0 * 1024 + 1 * k.val = k.val; omega
  | ⟨3, _⟩ => show 0 * 512 + 1 * f.val = f.val; omega

theorem dB_apply (t : Fin grid0.N) (f : Fin 512) (l : Fin 1024) :
    dB m h c t (ix4 0 0 f l) = m ((c : Thread nD τ).loc main_arg5) (ix4 (0 : Fin 2) (⟨(expert m (ix1 (t : Fin 80))).toNat, h.1 _⟩ : Fin 16) f l) := by
  rw [← V_of_ne m c (b := main_arg5) (by decide)]
  refine (View.read_apply ..).trans (congrArg (V m c main_arg5) ?_)
  funext a
  apply Fin.ext
  match a with
  | ⟨0, _⟩ => rfl
  | ⟨1, _⟩ => show (expert m (at1 (grid0.coords t))).toNat * 1 + 1 * 0 = (expert m (ix1 (t : Fin 80))).toNat; rw [at1_eq]; omega
  | ⟨2, _⟩ => show 0 * 512 + 1 * f.val = f.val; omega
  | ⟨3, _⟩ => show 0 * 1024 + 1 * l.val = l.val; omega

/-- The result array: the reference's, of this launch's arguments. -/
def res : Buf (Elt Ideal) ((c : Thread nD τ).loc main_v1) :=
  MoeRef.all (m ((c : Thread nD τ).loc main_arg0)) (tab m 0) (tab m 1) (m ((c : Thread nD τ).loc main_arg3))
    (m ((c : Thread nD τ).loc main_arg4)) (m ((c : Thread nD τ).loc main_arg5))

/-- What the body leaves of point `t`'s block, at a row and a column, is the result's. -/
theorem oB_apply (t : Fin grid0.N) (r : Fin 512) (l : Fin 1024) :
    oB m h c t (ix2 r l) = res m c (ix2 (⟨t.val * 512 + r.val, by have := t_lt t; omega⟩ : Fin 40960) l) := by
  have ht := t_lt t
  have hn : (⟨(t.val * 512 + r.val) / 512, by omega⟩ : Fin 80) = t := Fin.ext (by show (t.val * 512 + r.val) / 512 = t.val; omega)
  unfold oB
  rw [outv_apply, at1_eq]
  refine Eq.symm ((MoeRef.all_apply _ _ _ _ _ _ h.1 (⟨t.val * 512 + r.val, by omega⟩ : Fin 40960) l).trans ?_)
  simp only [hn, xB_apply, gB_apply, uB_apply, dB_apply]
  rfl

/-- The result is written back at every point. -/
theorem flush_out (t : Fin (cfgA m h).N) : ((cfgA m h).win 4).flush t = true := by
  have e : ∀ t : Fin grid0.N, Pipeline.Window.flushOf grid0 true cc0_transform_4 t = true := by decide +kernel
  exact e t

/-- Point `t` writes back its block of the result. -/
theorem flushed_out (t : Fin (cfgA m h).N) (hf : ((cfgA m h).win 4).flush t = true) :
    (dats m h 0 c).flushed 4 t = (((cfgA m h).win 4).blk t).view.read (Elt Ideal) (res m c) := by
  show oB m h c t = _
  funext (i : S512x1024.Idx)
  obtain ⟨r, l, rfl⟩ : ∃ (r : Fin 512) (l : Fin 1024), i = ix2 r l := ⟨i 0, i 1, (ix2_eta i).symm⟩
  refine (oB_apply m h c t r l).trans (Eq.trans ?_ (View.read_apply ..).symm)
  refine congrArg (res m c) ?_
  funext a
  apply Fin.ext
  match a with
  | ⟨0, _⟩ => show t.val * 512 + r.val = cc0_transform_4 (grid0.coords t) 0 * 512 + 1 * r.val; rw [(out_index t).1]; omega
  | ⟨1, _⟩ => show l.val = cc0_transform_4 (grid0.coords t) 1 * 1024 + 1 * l.val; rw [(out_index t).2]; omega

/-- Every element of the result lies in the block of a point. -/
theorem covered (i : S40960x1024.Idx) : ∃ t : Fin (cfgA m h).N, ((cfgA m h).win 4).flush t = true ∧ i ∈ (((cfgA m h).win 4).blk t).view.set := by
  have h0 : (i 0 : Nat) < 40960 := (i 0).isLt
  have h1 : (i 1 : Nat) < 1024 := (i 1).isLt
  let t : Fin grid0.N := (⟨(i 0 : Nat) / 512, by omega⟩ : Fin 80)
  refine ⟨t, flush_out m h t, ?_⟩
  have inb : ∀ a, (fun a => cc0_transform_4 (grid0.coords t) a * S512x1024.size a) a + S512x1024.size a ≤ S40960x1024.size a := fun a => by
    have := hinb0_4 (grid0.coords t) a
    rwa [Nat.add_mul, one_mul] at this
  show i ∈ ((View.whole main_v1).slice (Rect.unit (s := S40960x1024) (fun a => cc0_transform_4 (grid0.coords t) a * S512x1024.size a) S512x1024.size inb)).set
  rw [View.set_slice_whole, Rect.mem_set_unit]
  intro a
  have e0 : cc0_transform_4 (grid0.coords t) 0 = (i 0 : Nat) / 512 := (out_index t).1
  match a with
  | ⟨0, _⟩ => show cc0_transform_4 (grid0.coords t) 0 * 512 ≤ (i 0 : Nat) ∧ (i 0 : Nat) < cc0_transform_4 (grid0.coords t) 0 * 512 + 512
              rw [e0]; omega
  | ⟨1, _⟩ => show cc0_transform_4 (grid0.coords t) 1 * 1024 ≤ (i 1 : Nat) ∧ (i 1 : Nat) < cc0_transform_4 (grid0.coords t) 1 * 1024 + 1024
              rw [(out_index t).2]; omega

/-- So the array ends holding the result. -/
theorem final_out : final m h c 4 = res m c :=
  (dats m h 0 c).arrAt_eq_of_cover 4 (res m c) (flushed_out m h c) fun i => covered m h i

end Cert.Proof.Moe

end
-- ==== Proof.Moe.lean ====
/-
  THE EXPERTS' MULTILAYER PERCEPTRON: the claims. The precondition gives the tables' ranges; the frames of the two kernels are one
  run over any float values; the reference's result, of the kernel's arguments, is the array that the kernel leaves.
-/
module

public import Idealize.ShloMosaic.Lib.Tactic
public import proofs.«01_k».proof.Defs
public import proofs.«01_k».proof.Proof.MoeVal
public import proofs.«01_k».proof.Proof.Gen.Moe
public import proofs.«01_k».proof.Proof.Gen.Pre_blocks_in_range

@[expose] public section

set_option maxRecDepth 16384

noncomputable section

namespace Cert.Proof.Moe

open Cert.MoeIdeal Cert.MoeIdeal.Gen Idealize.ShloMosaic Idealize.ShloMosaic.TcCoe Idealize.SL.Sem

section Pre
variable {F : FTy → Type} [FloatOps F]

/-- The precondition, all ones on every device, gives the tables' ranges. -/
theorem inRange_of_pre (m : (ℓ : Loc nD τ sig) → Buf (Elt F) ℓ)
    (h : ∀ c : Dev nD, Cert.Pre_blocks_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : InRange m := by
  have band : ∀ a b : BitVec 1, IntOp.andi a b = 1#1 → a = 1#1 ∧ b = 1#1 := by decide
  have bit : ∀ p : Bool, BitVec.ofBool p = 1#1 → p = true := by decide
  have key : ∀ v w : BitVec 32, IntOp.andi (IntOp.andi (IntOp.cmpi .sge v 0#32) (IntOp.cmpi .slt v 16#32)) (IntOp.cmpi .sge w 0#32)
      = 1#1 → v.toNat < 16 ∧ (0#32).sle w = true := by
    intro v w e
    obtain ⟨e, e2⟩ := band _ _ e
    obtain ⟨e0, e1⟩ := band _ _ e
    have e0 := bit _ e0
    have e1 := bit _ e1
    have e2 := bit _ e2
    refine ⟨?_, e2⟩
    simp only [BitVec.sle_eq_decide, BitVec.slt_eq_decide, decide_eq_true_eq, BitVec.toInt_eq_toNat_cond, BitVec.toNat_ofNat, Nat.reducePow, Nat.reduceMod] at e0 e1
    omega
  have all : ∀ x : S80.Idx, (expert m x).toNat < 16 ∧ (0#32).sle (count m x) = true := fun x => key _ _ (congrFun (h 0) x)
  exact ⟨fun x => (all x).1, fun x => (all x).2⟩

end Pre

theorem preserves : Cert.preserves_Moe_MoeIdeal := trivial

theorem frame_ideal : Cert.quiescent_MoeIdeal := fun m ρ h =>
  (θ_run defs _ _).mono (fun _ r => ⟨r.1, r.2.2⟩) (run_post (F := Ideal) m (inRange_of_pre m h) ρ)

/-- The frame at float words, in the text of the module printed for the ideal reading. -/
def frameAtBits : Prop :=
  ∀ (m : (ℓ : Loc nD τ sig) → Buf (Elt Bits) ℓ) (g : Dev nD → PrngReg),
    (∀ c : Dev nD, Cert.Pre_blocks_in_range.fn (F := Bits) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The two modules have one text, so their frames are one proposition. -/
theorem frame_same : frameAtBits = Cert.quiescent_Moe := by
  sl_kernel_rfl

theorem frame : Cert.quiescent_Moe := frame_same.mp fun m ρ h =>
  (θ_run defs _ _).mono (fun _ r => ⟨r.1, r.2.2⟩) (run_post (F := Bits) m (inRange_of_pre (F := Bits) m h) ρ)

theorem frame_ref : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The reference's result, of arguments that agree with the kernel's, is the array the kernel leaves. -/
theorem ref_eq (m : (ℓ : Loc nD τ sig) → Buf (Elt Ideal) ℓ) (c : Dev nD) {x : FVec Ideal S40960x1024 .f32} {be bv : IVec S80 32}
    {wg wu : FVec Ideal S2x16x1024x512 .f32} {wd : FVec Ideal S2x16x512x1024 .f32}
    (hm : x = m ((c.tc : Thread nD τ).loc main_arg0) ∧ be = m ((c.tc : Thread nD τ).loc main_arg1) ∧ bv = m ((c.tc : Thread nD τ).loc main_arg2)
      ∧ wg = m ((c.tc : Thread nD τ).loc main_arg3) ∧ wu = m ((c.tc : Thread nD τ).loc main_arg4) ∧ wd = m ((c.tc : Thread nD τ).loc main_arg5)) :
    MoeRef.all x be bv wg wu wd = res m c := by
  obtain ⟨rfl, rfl, rfl, rfl, rfl, rfl⟩ := hm
  obtain rfl : c = 0 := Subsingleton.elim _ _
  rfl

theorem algebraic : Cert.algebraic_MoeIdeal_MoeRefIdeal := fun m ρ m' ρ' h hm =>
  ⟨fun c => res m c,
    (θ_run defs _ _).mono (fun _ r c => ⟨(r.2.1 c).trans (final_out m (inRange_of_pre m h) c), r.1 c⟩)
      (run_post (F := Ideal) m (inRange_of_pre m h) ρ),
    (θ_run Cert.MoeRefIdeal.defs _ _).mono (fun _ r c => ⟨(r c).1.trans (ref_eq m c (hm c)), (r c).2⟩)
      (Cert.MoeRefIdeal.Value.run (F := Ideal) m' ρ')⟩

end Cert.Proof.Moe

end
-- ==== Proof.MergeMean.lean ====
/-
  THE MEAN OVER A HEAD (pure).

  A row has 512 columns, eight heads of 64. The kernel takes each head's mean as a product of half the row with a
  block-diagonal matrix that holds 1/64 at the pairs of columns of one head, the half written as a sum of two parts. For a
  row of finite values the second part is zero, and the product is the head's sum over 64.
-/
module

public import Idealize.ShloMosaic.Lib.Pointwise

@[expose] public section

noncomputable section

namespace Cert.Proof.Merge

open Idealize.ShloMosaic

/-- Column `n` of the head of column `q`. -/
def col (q : Fin 512) (n : Fin 64) : Fin 512 := ⟨q.val / 64 * 64 + n.val, by omega⟩

/-- The mean of a row over the head of column `q`. -/
def mean (f : Fin 512 → EReal) (q : Fin 512) : EReal :=
  Ideal.div (∑ n : Fin 64, f (col q n)) (Ideal.ofBits .f32 0x42800000#32)

/-- Column `j` of the half of column `q`. -/
def side (q : Fin 512) (j : Fin 256) : Fin 512 := ⟨q.val / 256 * 256 + j.val, by omega⟩

/-- The column within its half. -/
def lane (q : Fin 512) : Fin 256 := ⟨q.val % 256, Nat.mod_lt _ (by decide)⟩

/-- The product of the half of column `q`, in two parts, with a matrix. -/
def twoPart (f : Fin 512 → EReal) (B : Fin 256 → Fin 256 → EReal) (q : Fin 512) : EReal :=
  (∑ j : Fin 256, f (side q j) * B j (lane q)) + ∑ j : Fin 256, (f (side q j) - f (side q j)) * B j (lane q)

/-- The same, by the half. -/
theorem twoPart_cases (f : Fin 512 → EReal) (B : Fin 256 → Fin 256 → EReal) (q : Fin 512) :
    twoPart f B q
      = if h : q.val < 256 then
          (∑ j : Fin 256, f ⟨j.val, by omega⟩ * B j ⟨q.val, h⟩)
            + ∑ j : Fin 256, (f ⟨j.val, by omega⟩ - f ⟨j.val, by omega⟩) * B j ⟨q.val, h⟩
        else
          (∑ j : Fin 256, f ⟨256 + j.val, by omega⟩ * B j ⟨q.val - 256, by omega⟩)
            + ∑ j : Fin 256, (f ⟨256 + j.val, by omega⟩ - f ⟨256 + j.val, by omega⟩) * B j ⟨q.val - 256, by omega⟩ := by
  have hq := q.isLt
  unfold twoPart
  by_cases h : q.val < 256
  · have e1 : ∀ j : Fin 256, side q j = ⟨j.val, by omega⟩ := fun j => Fin.ext (by show q.val / 256 * 256 + j.val = j.val; omega)
    have e2 : lane q = ⟨q.val, h⟩ := Fin.ext (by show q.val % 256 = q.val; omega)
    rw [dif_pos h]; simp only [e1, e2]
  · have e1 : ∀ j : Fin 256, side q j = ⟨256 + j.val, by omega⟩ := fun j =>
      Fin.ext (by show q.val / 256 * 256 + j.val = 256 + j.val; omega)
    have e2 : lane q = ⟨q.val - 256, by omega⟩ := Fin.ext (by show q.val % 256 = q.val - 256; omega)
    rw [dif_neg h]; simp only [e1, e2]

/-- The matrix of the heads: 1/64 at two columns of one head, zero elsewhere. -/
def IsHeads (B : Fin 256 → Fin 256 → EReal) : Prop :=
  ∀ j p : Fin 256, B j p = if j.val / 64 = p.val / 64 then Ideal.ofBits .f32 0x3C800000#32 else 0

/-- A finite value. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.sum {n : ℕ} {f : Fin n → EReal} (h : ∀ i, IsReal (f i)) : IsReal (∑ i, f i) :=
  Finset.sum_induction f IsReal (fun _ _ => IsReal.add) ⟨0, rfl⟩ fun i _ => h i

theorem sixtyfour : Ideal.ofBits .f32 0x42800000#32 = ((64 : ℝ) : EReal) := by
  simp [Ideal.ofBits, Ideal.ieee, -EReal.coe_mul]; norm_num

theorem sixtyfourth : Ideal.ofBits .f32 0x3C800000#32 = ((1 / 64 : ℝ) : EReal) := by
  simp [Ideal.ofBits, Ideal.ieee, -EReal.coe_mul]; norm_num

/-- The quotient by 64 is the product with 1/64. -/
theorem div_64 (x : EReal) : Ideal.div x (Ideal.ofBits .f32 0x42800000#32) = x * Ideal.ofBits .f32 0x3C800000#32 := by
  rw [sixtyfour, sixtyfourth]
  unfold Ideal.div
  rw [if_neg (by norm_num), ← EReal.coe_inv]
  norm_num

theorem IsReal.mean {f : Fin 512 → EReal} (h : ∀ j, IsReal (f j)) (q : Fin 512) : IsReal (mean f q) := by
  unfold Merge.mean
  rw [div_64]
  exact (IsReal.sum fun n => h _).mul ⟨_, sixtyfourth⟩

/-- A finite nonnegative factor comes out of a sum. -/
theorem sum_mul_right {n : ℕ} (f : Fin n → EReal) (c : ℝ) (hc : 0 ≤ c) : ∑ i, f i * (c : EReal) = (∑ i, f i) * (c : EReal) := by
  have key : ∀ s : Finset (Fin n), ∑ i ∈ s, f i * (c : EReal) = (∑ i ∈ s, f i) * (c : EReal) := fun s => by
    induction s using Finset.induction_on with
    | empty => simp
    | insert a s ha ih =>
      rw [Finset.sum_insert ha, Finset.sum_insert ha, ih,
        EReal.right_distrib_of_nonneg_of_ne_top (EReal.coe_nonneg.mpr hc) (EReal.coe_ne_top c)]
  exact key _

/-- The sum over half a row, by head. -/
theorem sum_heads (g : Fin 256 → EReal) :
    ∑ j : Fin 256, g j = ∑ a : Fin 4, ∑ n : Fin 64, g ⟨n.val + 64 * a.val, by omega⟩ := by
  rw [← Equiv.sum_comp (finProdFinEquiv : Fin 4 × Fin 64 ≃ Fin 256) g, Fintype.sum_prod_type]
  rfl

theorem twoPart_eq {f : Fin 512 → EReal} {B : Fin 256 → Fin 256 → EReal} (hf : ∀ j, IsReal (f j)) (hB : IsHeads B) (q : Fin 512) :
    twoPart f B q = mean f q := by
  have h2 : ∑ j : Fin 256, (f (side q j) - f (side q j)) * B j (lane q) = 0 := Finset.sum_eq_zero fun j _ => by
    obtain ⟨r, hr⟩ := hf (side q j)
    rw [hr, EReal.sub_self (EReal.coe_ne_top r) (EReal.coe_ne_bot r), zero_mul]
  unfold twoPart mean
  rw [h2, add_zero, div_64, sixtyfourth, ← sum_mul_right _ _ (by norm_num), sum_heads]
  have hq := q.isLt
  refine (Finset.sum_eq_single (⟨q.val % 256 / 64, by omega⟩ : Fin 4) (fun a _ ha => ?_) (by simp)).trans ?_
  · refine Finset.sum_eq_zero fun n _ => ?_
    have hne : a.val ≠ q.val % 256 / 64 := fun h => ha (Fin.ext h)
    rw [hB, if_neg (by show (n.val + 64 * a.val) / 64 ≠ q.val % 256 / 64; have := n.isLt; omega), mul_zero]
  · refine Finset.sum_congr rfl fun n _ => ?_
    rw [hB, if_pos (by show (n.val + 64 * (q.val % 256 / 64)) / 64 = q.val % 256 / 64; have := n.isLt; omega), sixtyfourth]
    congr 2
    apply Fin.ext
    show q.val / 256 * 256 + (n.val + 64 * (q.val % 256 / 64)) = q.val / 64 * 64 + n.val
    omega

end Cert.Proof.Merge

end
-- ==== Proof.MergePay.lean ====
/-
  THE MERGE, POINT BY POINT (pure): what the body's two stored values are at an index.

  A row of the recurrent branch is normalized by head and gated (`gated`); the two branches' rows go up and are mixed
  (`mixed`); the mix's product is added to the residual (`merged`); the second value is the modulated pre-norm of that row.
-/
module

public import proofs.«01_k».proof.Proof.MergeMean
public import proofs.«01_k».proof.Proof.InProjPay
public import proofs.«01_k».proof.Proof.Gen.MergeIdeal.Skeleton

@[expose] public section

noncomputable section

namespace Cert.Proof.Merge

open Cert.MergeIdeal Cert.MergeIdeal.Gen Idealize.ShloMosaic

/-- A row less its head's mean. -/
def dev (y : Fin 512 → EReal) (q : Fin 512) : EReal := y q - mean y q

/-- A row, given its deviation and its variance: normalized, with gain and shift, plus the bonus, times the gate. -/
def gatedOf (d v gg gb bonus g : Fin 512 → EReal) (q : Fin 512) : EReal :=
  (d q * Ideal.rsqrt (v q + Ideal.ofBits .f32 0x3A27C5AC#32) * gg q + gb q + bonus q) * g q

/-- A row of the recurrent branch, normalized by head and gated. -/
def gated (y gg gb bonus g : Fin 512 → EReal) (q : Fin 512) : EReal :=
  gatedOf (dev y) (mean fun j => dev y j * dev y j) gg gb bonus g q

/-- The logistic function. -/
def logistic (p : EReal) : EReal := Ideal.div 1 (1 + Ideal.exp (-p))

theorem zero_less (p : EReal) : 0 - p = -p := by rw [sub_eq_add_neg, zero_add]

/-- A row of the mix of the two branches. -/
def mixed (ya yb : Fin 512 → EReal) (pm : Fin 2048 → EReal) (wa wb : Fin 512 → Fin 1024 → EReal) (k : Fin 1024) : EReal :=
  logistic (pm ⟨k.val, by omega⟩) * (∑ j : Fin 512, ya j * wa j k) + logistic (pm ⟨1024 + k.val, by omega⟩) * (∑ j : Fin 512, yb j * wb j k)

/-- A row of the residual stream after the branch. -/
def merged (x md mix : Fin 1024 → EReal) (wo : Fin 1024 → Fin 1024 → EReal) (l : Fin 1024) : EReal :=
  x l + md l * ∑ k : Fin 1024, mix k * wo k l

theorem pay5_apply (bd : Vec Ideal S256x256 .bf16) (ys : Vec Ideal S256x512 .f32) (r : Fin 256) (q : Fin 512) :
    k0_pay5 bd ys (ix2 r q) = ys (ix2 r q) - twoPart (fun j => ys (ix2 r j)) (fun j p => bd (ix2 j p)) q := by
  rw [twoPart_cases]; pointwise [k0_pay5, k0_pay4]

theorem pay6_apply (bd : Vec Ideal S256x256 .bf16) (ys : Vec Ideal S256x512 .f32) (r : Fin 256) (q : Fin 512) :
    k0_pay6 bd ys (ix2 r q)
      = twoPart (fun j => k0_pay5 bd ys (ix2 r j) * k0_pay5 bd ys (ix2 r j)) (fun j p => bd (ix2 j p)) q := by
  rw [twoPart_cases]; pointwise [k0_pay6, k0_pay4]

theorem pay8_apply (d v : FVec Ideal S256x512 .f32) (gg gb : Vec Ideal S1x512 .f32) (bonus g : Vec Ideal S256x512 .f32)
    (pm : Vec Ideal S256x2048 .f32) (wa : Vec Ideal S512x1024 .bf16) (r : Fin 256) (k : Fin 1024) :
    k0_pay8 d v k0_pay7 gg gb bonus g pm wa (ix2 r k)
      = logistic (pm (ix2 r ⟨k.val, by omega⟩)) * ∑ j : Fin 512, gatedOf (fun j => d (ix2 r j)) (fun j => v (ix2 r j)) (fun j => gg (ix2 0 j))
          (fun j => gb (ix2 0 j)) (fun j => bonus (ix2 r j)) (fun j => g (ix2 r j)) j * wa (ix2 j k) := by
  pointwise [k0_pay8, k0_pay7, logistic, gatedOf, zero_less]

theorem pay9_apply (pm : Vec Ideal S256x2048 .f32) (r : Fin 256) (k : Fin 1024) :
    k0_pay9 pm (ix2 r k) = logistic (pm (ix2 r ⟨1024 + k.val, by omega⟩)) := by
  pointwise [k0_pay9, logistic, zero_less]

theorem pay11_apply (md : Vec Ideal S1x6x1024 .f32) (a b : FVec Ideal S256x1024 .f32) (yb : Vec Ideal S256x512 .f32)
    (wb : Vec Ideal S512x1024 .bf16) (x : Vec Ideal S256x1024 .f32) (wo : Vec Ideal S1024x1024 .bf16) (r : Fin 256) (l : Fin 1024) :
    k0_pay11 (k0_pay3 md) a b (k0_pay10 yb) wb x wo (ix2 r l)
      = merged (fun k => x (ix2 r k)) (fun k => md (ix3 0 2 k))
          (fun k => a (ix2 r k) + b (ix2 r k) * ∑ j : Fin 512, yb (ix2 r j) * wb (ix2 j k)) (fun k l => wo (ix2 k l)) l := by
  pointwise [k0_pay11, k0_pay3, k0_pay10, merged]

theorem pay13_apply (md : Vec Ideal S1x6x1024 .f32) (a b : FVec Ideal S256x1024 .f32) (yb : FVec Ideal S256x512 .bf16)
    (wb : Vec Ideal S512x1024 .bf16) (x : Vec Ideal S256x1024 .f32) (wo : Vec Ideal S1024x1024 .bf16) (ng : Vec Ideal S1x1024 .f32)
    (r : Fin 256) (l : Fin 1024) :
    k0_pay13 (k0_pay3 md) a b yb wb x wo ng (ix2 r l)
      = InProj.normed (fun k => k0_pay11 (k0_pay3 md) a b yb wb x wo (ix2 r k)) (fun k => ng (ix2 0 k))
          (fun k => md (ix3 0 4 k)) (fun k => md (ix3 0 3 k)) l := by
  unfold k0_pay13 k0_pay12
  generalize k0_pay11 (k0_pay3 md) a b yb wb x wo = z
  pointwise [k0_pay3, InProj.normed]

end Cert.Proof.Merge

end
-- ==== Proof.MergeRef.lean ====
/-
  THE MERGE'S REFERENCE AT AN INDEX (pure): its stages, each read at an index.
-/
module

public import proofs.«01_k».proof.Proof.MergePay
public import proofs.«01_k».proof.Proof.InProjRef
public import proofs.«01_k».proof.Proof.Gen.MergeRefIdeal.Run

@[expose] public section

set_option maxRecDepth 16384

noncomputable section

namespace Cert.Proof.Merge

open Cert.MergeRefIdeal Cert.MergeRefIdeal.Gen Cert.MergeRefIdeal.Value Idealize.ShloMosaic Idealize.ShloMosaic.StableHlo Idealize.ShloMosaic.TcCoe Idealize.SL.Sem

/-- A stage by head: the mean over the head's columns, per row and head. -/
def headMean (y : FVec Ideal S16384x8x64 .f32) : FVec Ideal S16384x8x1 .f32 :=
  Host.divf (broadcastInDim S16384x8x1 ![0, 1] bcast_S16384x8_S16384x8x1_0_1 (Host.reduceAdd y (constant S_ .f32 0x00000000#32) reducesTo_S16384x8x64_S16384x8_d2 h_S_)) (broadcastInDim S16384x8x1 ![] bcast_S_S16384x8x1 (constant S_ .f32 0x42800000#32))

def headDev (y : FVec Ideal S16384x8x64 .f32) : FVec Ideal S16384x8x64 .f32 :=
  subf y (broadcastInDim S16384x8x64 ![0, 1, 2] bcast_S16384x8x1_S16384x8x64_0_1_2 (headMean y))

/-- The rows of the recurrent branch, normalized by head and gated. -/
def refGated (y : FVec Ideal S16384x8x64 .f32) (gg gb : FVec Ideal S512 .f32) (bonus g : FVec Ideal S16384x512 .f32) : FVec Ideal S16384x512 .f32 :=
  mulf (addf (shapeCast S16384x512 (addf (mulf (mulf (headDev y) (broadcastInDim S16384x8x64 ![0, 1, 2] bcast_S16384x8x1_S16384x8x64_0_1_2 (Host.rsqrt (addf (headMean (mulf (headDev y) (headDev y))) (broadcastInDim S16384x8x1 ![] bcast_S_S16384x8x1 (constant S_ .f32 0x3A27C5AC#32)))))) (broadcastInDim S16384x8x64 ![0, 1, 2] bcast_S1x8x64_S16384x8x64_0_1_2 (broadcastInDim S1x8x64 ![1, 2] bcast_S8x64_S1x8x64_1_2 (shapeCast S8x64 gg shapeCasts_S512_S8x64)))) (broadcastInDim S16384x8x64 ![0, 1, 2] bcast_S1x8x64_S16384x8x64_0_1_2 (broadcastInDim S1x8x64 ![1, 2] bcast_S8x64_S1x8x64_1_2 (shapeCast S8x64 gb shapeCasts_S512_S8x64)))) shapeCasts_S16384x8x64_S16384x512) bonus) g

def refSig (pm : FVec Ideal S16384x2048 .f32) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf pm)))

/-- The rows of the mix. -/
def refMixed (ya yb : FVec Ideal S16384x512 .f32) (pm : FVec Ideal S16384x2048 .f32) (wa wb : FVec Ideal S512x1024 .f32) : FVec Ideal S16384x1024 .f32 :=
  addf (mulf (extractStridedSlice S16384x1024 ![0, 0] (refSig pm) slices_S16384x2048_S16384x1024_0_0) (Host.dotGeneral dot_S16384x512_S512x1024_S16384x1024_1_0_0_1_n_n none ya wa)) (mulf (extractStridedSlice S16384x1024 ![0, 1024] (refSig pm) slices_S16384x2048_S16384x1024_0_1024) (Host.dotGeneral dot_S16384x512_S512x1024_S16384x1024_1_0_0_1_n_n none yb wb))

/-- The residual stream after the branch. -/
def refX (x : FVec Ideal S16384x1024 .f32) (mod : FVec Ideal S2x6x1024 .f32) (mix : FVec Ideal S16384x1024 .f32) (wo : FVec Ideal S1024x1024 .f32) : FVec Ideal S2x8192x1024 .f32 :=
  addf (shapeCast S2x8192x1024 x shapeCasts_S16384x1024_S2x8192x1024) (mulf (broadcastInDim S2x8192x1024 ![0, 1, 2] bcast_S2x1x1024_S2x8192x1024_0_1_2 (extractStridedSlice S2x1x1024 ![0, 2, 0] mod slices_S2x6x1024_S2x1x1024_0_2_0)) (shapeCast S2x8192x1024 (Host.dotGeneral dot_S16384x1024_S1024x1024_S16384x1024_1_0_0_1_n_n none mix wo) shapeCasts_S16384x1024_S2x8192x1024))

/-- Its modulated pre-norm. -/
def refH (x : FVec Ideal S2x8192x1024 .f32) (mod : FVec Ideal S2x6x1024 .f32) (ng : FVec Ideal S1024 .f32) : FVec Ideal S2x8192x1024 .f32 :=
  addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 ng))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 4, 0] mod slices_S2x6x1024_S2x1x1024_0_4_0)))) (broadcastInDim S2x8192x1024 ![0, 1, 2] bcast_S2x1x1024_S2x8192x1024_0_1_2 (extractStridedSlice S2x1x1024 ![0, 3, 0] mod slices_S2x6x1024_S2x1x1024_0_3_0))

/-! ## The stages at an index -/

/-- The head of a column, and its place in the head. -/
def head (q : Fin 512) : Fin 8 := ⟨q.val / 64, by omega⟩
def place (q : Fin 512) : Fin 64 := ⟨q.val % 64, Nat.mod_lt _ (by decide)⟩

theorem headMean_apply (y : FVec Ideal S16384x8x64 .f32) (r : Fin 16384) (a : Fin 8) :
    headMean y (ix3 r a 0) = Ideal.div (∑ n : Fin 64, y (ix3 r a n)) (Ideal.ofBits .f32 0x42800000#32) := by
  pointwise [headMean]

theorem headDev_apply (y : FVec Ideal S16384x8x64 .f32) (r : Fin 16384) (a : Fin 8) (n : Fin 64) :
    headDev y (ix3 r a n) = y (ix3 r a n) - headMean y (ix3 r a 0) := by
  unfold headDev
  generalize headMean y = z
  pointwise

theorem refGated_apply (y : FVec Ideal S16384x8x64 .f32) (gg gb : FVec Ideal S512 .f32) (bonus g : FVec Ideal S16384x512 .f32)
    (r : Fin 16384) (q : Fin 512) :
    refGated y gg gb bonus g (ix2 r q)
      = gatedOf (fun j => headDev y (ix3 r (head j) (place j))) (fun j => headMean (mulf (headDev y) (headDev y)) (ix3 r (head j) 0))
          (fun j => gg (ix1 j)) (fun j => gb (ix1 j)) (fun j => bonus (ix2 r j)) (fun j => g (ix2 r j)) q := by
  unfold refGated
  generalize headMean (mulf (headDev y) (headDev y)) = v
  generalize headDev y = d
  pointwise [gatedOf, head, place]

/-- The rows by head. -/
theorem byHead (ys : FVec Ideal S16384x512 .f32) (r : Fin 16384) (a : Fin 8) (n : Fin 64) :
    shapeCast S16384x8x64 ys shapeCasts_S16384x512_S16384x8x64 (ix3 r a n) = ys (ix2 r ⟨a.val * 64 + n.val, by omega⟩) := by
  pointwise

theorem refMixed_apply (ya yb : FVec Ideal S16384x512 .f32) (pm : FVec Ideal S16384x2048 .f32) (wa wb : FVec Ideal S512x1024 .f32)
    (r : Fin 16384) (k : Fin 1024) :
    refMixed ya yb pm wa wb (ix2 r k)
      = mixed (fun j => ya (ix2 r j)) (fun j => yb (ix2 r j)) (fun j => pm (ix2 r j)) (fun j k => wa (ix2 j k)) (fun j k => wb (ix2 j k)) k := by
  pointwise [refMixed, refSig, mixed, logistic]

theorem refX_apply (x : FVec Ideal S16384x1024 .f32) (mod : FVec Ideal S2x6x1024 .f32) (mix : FVec Ideal S16384x1024 .f32)
    (wo : FVec Ideal S1024x1024 .f32) (b : Fin 2) (t : Fin 8192) (l : Fin 1024) :
    refX x mod mix wo (ix3 b t l)
      = merged (fun k => x (ix2 ⟨b.val * 8192 + t.val, by omega⟩ k)) (fun k => mod (ix3 b 2 k))
          (fun k => mix (ix2 ⟨b.val * 8192 + t.val, by omega⟩ k)) (fun k l => wo (ix2 k l)) l := by
  pointwise [refX, merged]

theorem refH_apply (x : FVec Ideal S2x8192x1024 .f32) (mod : FVec Ideal S2x6x1024 .f32) (ng : FVec Ideal S1024 .f32)
    (b : Fin 2) (t : Fin 8192) (l : Fin 1024) :
    refH x mod ng (ix3 b t l)
      = InProj.normed (fun k => x (ix3 b t k)) (fun k => ng (ix1 k)) (fun k => mod (ix3 b 4 k)) (fun k => mod (ix3 b 3 k)) l := by
  pointwise [refH, InProj.normed]

theorem rows_x (y : FVec Ideal S2x8192x1024 .f32) (r : Fin 16384) (l : Fin 1024) :
    shapeCast S16384x1024 y shapeCasts_S2x8192x1024_S16384x1024 (ix2 r l)
      = y (ix3 ⟨r.val / 8192, InProj.row_lt r⟩ ⟨r.val % 8192, Nat.mod_lt _ (by decide)⟩ l) := by
  pointwise

/-! ## The rows, of the arguments -/

/-- The arguments that the two results depend on. -/
structure Args where
  (ys g bonus : FVec Ideal S16384x512 .f32)
  (gg gb : FVec Ideal S512 .f32)
  yb : FVec Ideal S16384x512 .f32
  pm : FVec Ideal S16384x2048 .f32
  x : FVec Ideal S16384x1024 .f32
  mod : FVec Ideal S2x6x1024 .f32
  ng : FVec Ideal S1024 .f32
  (wa wb : FVec Ideal S512x1024 .f32)
  wo : FVec Ideal S1024x1024 .f32

/-- Row `r`'s batch. -/
def batch (r : Fin 16384) : Fin 2 := ⟨r.val / 8192, InProj.row_lt r⟩

/-- Row `r` of the recurrent branch. -/
def Args.rowA (A : Args) (r : Fin 16384) : Fin 512 → EReal :=
  gated (fun j => A.ys (ix2 r j)) (fun j => A.gg (ix1 j)) (fun j => A.gb (ix1 j)) (fun j => A.bonus (ix2 r j)) (fun j => A.g (ix2 r j))

/-- Row `r` of the mix. -/
def Args.rowMix (A : Args) (r : Fin 16384) : Fin 1024 → EReal :=
  mixed (A.rowA r) (fun j => A.yb (ix2 r j)) (fun j => A.pm (ix2 r j)) (fun j k => A.wa (ix2 j k)) (fun j k => A.wb (ix2 j k))

/-- Row `r` of the residual stream. -/
def Args.rowX (A : Args) (r : Fin 16384) : Fin 1024 → EReal :=
  merged (fun k => A.x (ix2 r k)) (fun k => A.mod (ix3 (batch r) 2 k)) (A.rowMix r) (fun k l => A.wo (ix2 k l))

/-- Row `r` of its modulated pre-norm. -/
def Args.rowH (A : Args) (r : Fin 16384) : Fin 1024 → EReal :=
  InProj.normed (A.rowX r) (fun k => A.ng (ix1 k)) (fun k => A.mod (ix3 (batch r) 4 k)) (fun k => A.mod (ix3 (batch r) 3 k))

theorem headDev_rows (ys : FVec Ideal S16384x512 .f32) (r : Fin 16384) (a : Fin 8) (n : Fin 64) :
    headDev (shapeCast S16384x8x64 ys shapeCasts_S16384x512_S16384x8x64) (ix3 r a n)
      = dev (fun j => ys (ix2 r j)) ⟨a.val * 64 + n.val, by omega⟩ := by
  rw [headDev_apply, headMean_apply]
  simp only [byHead]
  unfold dev mean
  have e : ∀ k : Fin 64, col (⟨a.val * 64 + n.val, by omega⟩ : Fin 512) k = ⟨a.val * 64 + k.val, by omega⟩ := fun k =>
    Fin.ext (by show (a.val * 64 + n.val) / 64 * 64 + k.val = a.val * 64 + k.val; have := n.isLt; omega)
  simp only [e]

theorem headVar_rows (ys : FVec Ideal S16384x512 .f32) (r : Fin 16384) (q : Fin 512) :
    headMean (mulf (headDev (shapeCast S16384x8x64 ys shapeCasts_S16384x512_S16384x8x64)) (headDev (shapeCast S16384x8x64 ys shapeCasts_S16384x512_S16384x8x64)))
        (ix3 r (head q) 0)
      = mean (fun j => dev (fun j => ys (ix2 r j)) j * dev (fun j => ys (ix2 r j)) j) q := by
  rw [headMean_apply]
  refine congrArg (Ideal.div · _) (Finset.sum_congr rfl fun n _ => ?_)
  exact congrArg₂ (· * ·) (headDev_rows ys r (head q) n) (headDev_rows ys r (head q) n)

theorem refGated_rows (A : Args) (r : Fin 16384) (q : Fin 512) :
    refGated (shapeCast S16384x8x64 A.ys shapeCasts_S16384x512_S16384x8x64) A.gg A.gb A.bonus A.g (ix2 r q) = A.rowA r q := by
  rw [refGated_apply]
  simp only [headVar_rows, headDev_rows]
  have e : ∀ j : Fin 512, (⟨(head j).val * 64 + (place j).val, by omega⟩ : Fin 512) = j := fun j =>
    Fin.ext (by show j.val / 64 * 64 + j.val % 64 = j.val; omega)
  simp only [e]
  rfl

/-- The reference's residual stream, of the arguments. -/
def Args.refX (A : Args) : FVec Ideal S2x8192x1024 .f32 :=
  Merge.refX A.x A.mod (refMixed (refGated (shapeCast S16384x8x64 A.ys shapeCasts_S16384x512_S16384x8x64) A.gg A.gb A.bonus A.g) A.yb A.pm A.wa A.wb) A.wo

theorem Args.refX_apply (A : Args) (r : Fin 16384) (l : Fin 1024) :
    A.refX (ix3 (batch r) ⟨r.val % 8192, Nat.mod_lt _ (by decide)⟩ l) = A.rowX r l := by
  unfold Args.refX
  rw [Merge.refX_apply]
  have e : (⟨(batch r).val * 8192 + r.val % 8192, by have := (batch r).isLt; omega⟩ : Fin 16384) = r :=
    Fin.ext (by show r.val / 8192 * 8192 + r.val % 8192 = r.val; omega)
  simp only [e, refMixed_apply, refGated_rows]
  rfl

theorem Args.refX_rows (A : Args) : shapeCast S16384x1024 A.refX shapeCasts_S2x8192x1024_S16384x1024 = fun i => A.rowX (i 0) (i 1) := by
  funext i
  obtain ⟨r, l, rfl⟩ : ∃ (r : Fin 16384) (l : Fin 1024), i = ix2 r l := ⟨i 0, i 1, (ix2_eta i).symm⟩
  rw [rows_x]
  exact A.refX_apply _ _

theorem Args.refH_rows (A : Args) :
    truncf .bf16 (shapeCast S16384x1024 (refH A.refX A.mod A.ng) shapeCasts_S2x8192x1024_S16384x1024) bitsLt_bf16_f32 = fun i => A.rowH (i 0) (i 1) := by
  funext i
  obtain ⟨r, l, rfl⟩ : ∃ (r : Fin 16384) (l : Fin 1024), i = ix2 r l := ⟨i 0, i 1, (ix2_eta i).symm⟩
  change shapeCast S16384x1024 (refH A.refX A.mod A.ng) shapeCasts_S2x8192x1024_S16384x1024 (ix2 r l) = A.rowH r l
  rw [rows_x, refH_apply]
  exact congrArg (fun f => InProj.normed f _ _ _ _) (funext fun k => A.refX_apply _ k)

section Stages

variable (m : (ℓ : Loc nD τ sig) → Buf (Elt Ideal) ℓ) (c : Dev nD)

/-- The reference's arguments in memory. -/
def refArgs : Args where
  ys := m ((c : Thread nD τ).loc main_arg0)
  g := m ((c : Thread nD τ).loc main_arg1)
  bonus := m ((c : Thread nD τ).loc main_arg2)
  gg := m ((c : Thread nD τ).loc main_arg3)
  gb := m ((c : Thread nD τ).loc main_arg4)
  yb := m ((c : Thread nD τ).loc main_arg5)
  pm := m ((c : Thread nD τ).loc main_arg6)
  x := m ((c : Thread nD τ).loc main_arg7)
  mod := m ((c : Thread nD τ).loc main_arg8)
  ng := m ((c : Thread nD τ).loc main_arg9)
  wa := m ((c : Thread nD τ).loc main_arg10)
  wb := m ((c : Thread nD τ).loc main_arg11)
  wo := m ((c : Thread nD τ).loc main_arg12)

theorem res_x : res_out0 (F := Ideal) m c = fun (i : S16384x1024.Idx) => (refArgs m c).rowX (i 0) (i 1) :=
  (rfl : res_out0 (F := Ideal) m c = shapeCast S16384x1024 (refArgs m c).refX shapeCasts_S2x8192x1024_S16384x1024).trans (refArgs m c).refX_rows

theorem res_h : res_out1 (F := Ideal) m c = fun (i : S16384x1024.Idx) => (refArgs m c).rowH (i 0) (i 1) :=
  (rfl : res_out1 (F := Ideal) m c = truncf .bf16 (shapeCast S16384x1024 (refH (refArgs m c).refX (refArgs m c).mod (refArgs m c).ng) shapeCasts_S2x8192x1024_S16384x1024) bitsLt_bf16_f32).trans
    (refArgs m c).refH_rows

end Stages

end Cert.Proof.Merge

end
-- ==== Proof.MergeVal.lean ====
/-
  THE MERGE'S KERNEL: what its first two result arrays hold after the run.

  The grid's point `t` handles rows `256 t` to `256 t + 255`, all of batch `t / 32`; it writes its block of each result once.
-/
module

public import proofs.«01_k».proof.Proof.MergeRef
public import proofs.«01_k».proof.Proof.Gen.MergeIdeal.Value

@[expose] public section

set_option maxRecDepth 16384

noncomputable section

namespace Cert.Proof.Merge

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The kernel's arguments in memory. -/
def kerArgs : Args where
  ys := m ((c : Thread nD τ).loc main_arg0)
  g := m ((c : Thread nD τ).loc main_arg1)
  bonus := m ((c : Thread nD τ).loc main_arg2)
  gg := m ((c : Thread nD τ).loc main_arg3)
  gb := m ((c : Thread nD τ).loc main_arg4)
  yb := m ((c : Thread nD τ).loc main_arg5)
  pm := m ((c : Thread nD τ).loc main_arg6)
  x := m ((c : Thread nD τ).loc main_arg7)
  mod := m ((c : Thread nD τ).loc main_arg8)
  ng := m ((c : Thread nD τ).loc main_arg9)
  wa := m ((c : Thread nD τ).loc main_arg10)
  wb := m ((c : Thread nD τ).loc main_arg11)
  wo := m ((c : Thread nD τ).loc main_arg12)

/-! ## The arrays the region finds -/

theorem V_ng : V m c main_v0 = shapeCast S1x1024 (m ((c : Thread nD τ).loc main_arg9)) shapeCasts_S1024_S1x1024 := by
  unfold V; simp only [hostOps0, hostOps0_1, hostOps0_2, List.flatten_cons, List.flatten_nil, List.append_nil, List.cons_append, List.nil_append]; after_results_simp <;> rfl

theorem V_wa : V m c main_v1 = truncf (F := Ideal) (φ := .f32) .bf16 (m ((c : Thread nD τ).loc main_arg10)) bitsLt_bf16_f32 := by
  unfold V; simp only [hostOps0, hostOps0_1, hostOps0_2, List.flatten_cons, List.flatten_nil, List.append_nil, List.cons_append, List.nil_append]; after_results_simp <;> rfl

theorem V_wb : V m c main_v2 = truncf (F := Ideal) (φ := .f32) .bf16 (m ((c : Thread nD τ).loc main_arg11)) bitsLt_bf16_f32 := by
  unfold V; simp only [hostOps0, hostOps0_1, hostOps0_2, List.flatten_cons, List.flatten_nil, List.append_nil, List.cons_append, List.nil_append]; after_results_simp <;> rfl

theorem V_wo : V m c main_v3 = truncf (F := Ideal) (φ := .f32) .bf16 (m ((c : Thread nD τ).loc main_arg12)) bitsLt_bf16_f32 := by
  unfold V; simp only [hostOps0, hostOps0_1, hostOps0_2, List.flatten_cons, List.flatten_nil, List.append_nil, List.cons_append, List.nil_append]; after_results_simp <;> rfl

theorem V_gg : V m c main_v4 = shapeCast S1x512 (m ((c : Thread nD τ).loc main_arg3)) shapeCasts_S512_S1x512 := by
  unfold V; simp only [hostOps0, hostOps0_1, hostOps0_2, List.flatten_cons, List.flatten_nil, List.append_nil, List.cons_append, List.nil_append]; after_results_simp <;> rfl

theorem V_gb : V m c main_v5 = shapeCast S1x512 (m ((c : Thread nD τ).loc main_arg4)) shapeCasts_S512_S1x512 := by
  unfold V; simp only [hostOps0, hostOps0_1, hostOps0_2, List.flatten_cons, List.flatten_nil, List.append_nil, List.cons_append, List.nil_append]; after_results_simp <;> rfl

/-- The column numbers over 64, rounded down, as the host computes them. -/
def heads : IVec S256 32 :=
  select
    (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

theorem heads_apply : ∀ j : Fin 256, heads (ix1 j) = BitVec.ofNat 32 (j.val / 64) := by decide +kernel

theorem V_bd : V m c main_v16 = truncf (F := Ideal) .bf16
    (mulf (uitofp (F := Ideal) .f32 (cmpi .eq
        (broadcastInDim S256x256 ![0, 1] bcast_S256x1_S256x256_0_1 (broadcastInDim S256x1 ![0] bcast_S256_S256x1_0 heads))
        (broadcastInDim S256x256 ![0, 1] bcast_S1x256_S256x256_0_1 (broadcastInDim S1x256 ![1] bcast_S256_S1x256_1 heads))))
      (broadcastInDim S256x256 ![] bcast_S_S256x256 (constant (F := Ideal) S_ .f32 0x3C800000#32))) bitsLt_bf16_f32 := by
  unfold V; simp only [hostOps0, hostOps0_1, hostOps0_2, List.flatten_cons, List.flatten_nil, List.append_nil, List.cons_append, List.nil_append]; after_results_simp <;> rfl

/-- It is the matrix of the heads. -/
theorem isHeads : IsHeads fun j p => (V m c main_v16 : FVec Ideal S256x256 .bf16) (ix2 j p) := by
  intro j p
  show (V m c main_v16 : FVec Ideal S256x256 .bf16) (ix2 j p) = _
  rw [V_bd]
  pointwise [heads_apply]
  have e : (BitVec.ofNat 32 (j.val / 64) = BitVec.ofNat 32 (p.val / 64)) ↔ j.val / 64 = p.val / 64 :=
    ⟨fun h => by
      have h' := congrArg BitVec.toNat h
      simp only [BitVec.toNat_ofNat] at h'
      omega, fun h => by rw [h]⟩
  by_cases h : j.val / 64 = p.val / 64
  · rw [if_pos h, h]
    have e1 : FloatOps.uitofp (F := Ideal) FTy.f32 (IntOp.cmpi CmpIPredicate.eq (BitVec.ofNat 32 (p.val / 64)) (BitVec.ofNat 32 (p.val / 64))) = (1 : EReal) := by
      simp [IntOp.cmpi, FloatOps.uitofp]
    rw [e1, one_mul]
  · rw [if_neg h]
    have e1 : FloatOps.uitofp (F := Ideal) FTy.f32 (IntOp.cmpi CmpIPredicate.eq (BitVec.ofNat 32 (j.val / 64)) (BitVec.ofNat 32 (p.val / 64))) = (0 : EReal) := by
      have h2 := mt e.mp h
      simp [IntOp.cmpi, FloatOps.uitofp, h2]
    rw [e1, zero_mul]

/-! ## What a point leaves in each result's staging buffer -/

theorem hz : (![0, 0] : Fin 2 → Nat) = fun _ => 0 := funext fun a => by fin_cases a <;> rfl

section Outs

variable (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x256 .bf16) (harg7 : arg7.IsWhole) (arg8 : Memref sig .tc .vmem S256x512 .f32) (harg8 : arg8.IsWhole) (arg9 : Memref sig .tc .vmem S256x2048 .f32) (harg9 : arg9.IsWhole) (arg10 : Memref sig .tc .vmem S256x1024 .f32) (harg10 : arg10.IsWhole) (arg11 : Memref sig .tc .vmem S2x6x1024 .f32) (harg11 : arg11.IsWhole) (arg12 : Memref sig .tc .vmem S1x1024 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S2x1024x128 .bf16) (harg16 : arg16.IsWhole) (arg17 : Memref sig .tc .vmem S16x1 .f32) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S8x256 .f32) (harg20 : arg20.IsWhole) (arg21 : Memref sig .tc .vmem S16x128 .f32) (harg21 : arg21.IsWhole)
    (x0 : Vec Ideal S256x512 .f32) (x1 : Vec Ideal S256x512 .f32) (x2 : Vec Ideal S256x512 .f32) (x3 : Vec Ideal S1x512 .f32) (x4 : Vec Ideal S1x512 .f32) (x5 : Vec Ideal S256x256 .bf16) (x6 : Vec Ideal S256x512 .f32) (x7 : Vec Ideal S256x2048 .f32) (x8 : Vec Ideal S256x1024 .f32) (x9 : Vec Ideal S2x6x1024 .f32) (x10 : Vec Ideal S1x1024 .f32) (x11 : Vec Ideal S512x1024 .bf16) (x12 : Vec Ideal S512x1024 .bf16) (x13 : Vec Ideal S1024x1024 .bf16) (x14 : Vec Ideal S2x1024x128 .bf16) (x15 : Vec Ideal S16x1 .f32)

theorem out_x : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15
    = k0_pay11 (k0_pay3 (View.ld x9 (Rect.unit (s := S2x6x1024) (k0_off1 i) S1x6x1024.size (k0_off1_inb i)))) (k0_pay8 (k0_pay5 x5 x0) (k0_pay6 x5 x0) k0_pay7 x3 x4 x2 x1 x7 x11) (k0_pay9 x7) (k0_pay10 x6) x12 x8 x13 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S256x512) hz, View.ld_unit_zero (S := S1x512) hz, View.ld_unit_zero (S := S256x256) hz, View.ld_unit_zero (S := S256x2048) hz, View.ld_unit_zero (S := S256x1024) hz, View.ld_unit_zero (S := S1x1024) hz, View.ld_unit_zero (S := S512x1024) hz, View.ld_unit_zero (S := S1024x1024) hz]

theorem out_h : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15
    = k0_pay13 (k0_pay3 (View.ld x9 (Rect.unit (s := S2x6x1024) (k0_off1 i) S1x6x1024.size (k0_off1_inb i)))) (k0_pay8 (k0_pay5 x5 x0) (k0_pay6 x5 x0) k0_pay7 x3 x4 x2 x1 x7 x11) (k0_pay9 x7) (k0_pay10 x6) x12 x8 x13 x10 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S256x512) hz, View.ld_unit_zero (S := S1x512) hz, View.ld_unit_zero (S := S256x256) hz, View.ld_unit_zero (S := S256x2048) hz, View.ld_unit_zero (S := S256x1024) hz, View.ld_unit_zero (S := S1x1024) hz, View.ld_unit_zero (S := S512x1024) hz, View.ld_unit_zero (S := S1024x1024) hz]

end Outs

/-! ## A block's rows, of the arguments -/

section Rows

variable (A : Args) (q : Fin 16384) (r : Fin 256)
  {x0 x1 x2 x6 : Vec Ideal S256x512 .f32} {x3 x4 : Vec Ideal S1x512 .f32} {x5 : Vec Ideal S256x256 .bf16} {x7 : Vec Ideal S256x2048 .f32}
  {x8 : Vec Ideal S256x1024 .f32} {md : Vec Ideal S1x6x1024 .f32} {x10 : Vec Ideal S1x1024 .f32} {x11 x12 : Vec Ideal S512x1024 .bf16}
  {x13 : Vec Ideal S1024x1024 .bf16}

/-- Row `r` of the blocks is row `q` of the arguments. -/
structure Blocks (x0 x1 x2 x6 : Vec Ideal S256x512 .f32) (x3 x4 : Vec Ideal S1x512 .f32) (x5 : Vec Ideal S256x256 .bf16) (x7 : Vec Ideal S256x2048 .f32)
    (x8 : Vec Ideal S256x1024 .f32) (md : Vec Ideal S1x6x1024 .f32) (x10 : Vec Ideal S1x1024 .f32) (x11 x12 : Vec Ideal S512x1024 .bf16)
    (x13 : Vec Ideal S1024x1024 .bf16) : Prop where
  ys : ∀ j, x0 (ix2 r j) = A.ys (ix2 q j)
  g : ∀ j, x1 (ix2 r j) = A.g (ix2 q j)
  bonus : ∀ j, x2 (ix2 r j) = A.bonus (ix2 q j)
  gg : ∀ j, x3 (ix2 0 j) = A.gg (ix1 j)
  gb : ∀ j, x4 (ix2 0 j) = A.gb (ix1 j)
  heads : IsHeads fun j p => x5 (ix2 j p)
  yb : ∀ j, x6 (ix2 r j) = A.yb (ix2 q j)
  pm : ∀ j, x7 (ix2 r j) = A.pm (ix2 q j)
  x : ∀ j, x8 (ix2 r j) = A.x (ix2 q j)
  mod : ∀ a k, md (ix3 0 a k) = A.mod (ix3 (batch q) a k)
  ng : ∀ k, x10 (ix2 0 k) = A.ng (ix1 k)
  wa : ∀ j k, x11 (ix2 j k) = A.wa (ix2 j k)
  wb : ∀ j k, x12 (ix2 j k) = A.wb (ix2 j k)
  wo : ∀ j k, x13 (ix2 j k) = A.wo (ix2 j k)

variable {A q r} (hfin : ∀ j, IsReal (A.ys (ix2 q j)))
include hfin

theorem dev_real (j : Fin 512) : IsReal (dev (fun j => A.ys (ix2 q j)) j) := (hfin j).sub (IsReal.mean hfin j)

theorem dev_blk (h : Blocks A q r x0 x1 x2 x6 x3 x4 x5 x7 x8 md x10 x11 x12 x13) (j : Fin 512) :
    k0_pay5 x5 x0 (ix2 r j) = dev (fun j => A.ys (ix2 q j)) j := by
  rw [pay5_apply]
  simp only [h.ys]
  rw [twoPart_eq hfin h.heads]
  rfl

theorem var_blk (h : Blocks A q r x0 x1 x2 x6 x3 x4 x5 x7 x8 md x10 x11 x12 x13) (j : Fin 512) :
    k0_pay6 x5 x0 (ix2 r j) = mean (fun j => dev (fun j => A.ys (ix2 q j)) j * dev (fun j => A.ys (ix2 q j)) j) j := by
  rw [pay6_apply]
  simp only [dev_blk hfin h]
  exact twoPart_eq (fun j => (dev_real hfin j).mul (dev_real hfin j)) h.heads j

theorem rowX_blk (h : Blocks A q r x0 x1 x2 x6 x3 x4 x5 x7 x8 md x10 x11 x12 x13) (l : Fin 1024) :
    k0_pay11 (k0_pay3 md) (k0_pay8 (k0_pay5 x5 x0) (k0_pay6 x5 x0) k0_pay7 x3 x4 x2 x1 x7 x11) (k0_pay9 x7) (k0_pay10 x6) x12 x8 x13 (ix2 r l)
      = A.rowX q l := by
  rw [pay11_apply]
  simp only [pay8_apply, pay9_apply, dev_blk hfin h, var_blk hfin h, h.g, h.bonus, h.gg, h.gb, h.yb, h.pm, h.x, h.mod, h.wa, h.wb, h.wo]
  rfl

theorem rowH_blk (h : Blocks A q r x0 x1 x2 x6 x3 x4 x5 x7 x8 md x10 x11 x12 x13) (l : Fin 1024) :
    k0_pay13 (k0_pay3 md) (k0_pay8 (k0_pay5 x5 x0) (k0_pay6 x5 x0) k0_pay7 x3 x4 x2 x1 x7 x11) (k0_pay9 x7) (k0_pay10 x6) x12 x8 x13 x10 (ix2 r l)
      = A.rowH q l := by
  rw [pay13_apply]
  simp only [rowX_blk hfin h, h.ng, h.mod]
  rfl

end Rows

/-! ## The windows' blocks -/

theorem t_lt (t : Fin cfg0.N) : t.val < 64 := t.isLt

/-- Row `r` of point `t`'s blocks, in the arrays. -/
def rowOf (t : Fin cfg0.N) (r : Fin 256) : Fin 16384 := ⟨t.val * 256 + r.val, by have := t_lt t; omega⟩

theorem off1 : ∀ t : Fin cfg0.N, k0_off1 (grid0.coords t) 0 = t.val / 32 ∧ k0_off1 (grid0.coords t) 1 = 0 ∧ k0_off1 (grid0.coords t) 2 = 0 :=
  (by decide +kernel : ∀ t : Fin grid0.N, k0_off1 (grid0.coords t) 0 = t.val / 32 ∧ k0_off1 (grid0.coords t) 1 = 0 ∧ k0_off1 (grid0.coords t) 2 = 0)

theorem idx0 : ∀ t : Fin cfg0.N, win0_0.index t 0 = t.val ∧ win0_0.index t 1 = 0 :=
  (by decide +kernel : ∀ t : Fin grid0.N, win0_0.index t 0 = t.val ∧ win0_0.index t 1 = 0)

theorem blk_ys (t : Fin cfg0.N) (r : Fin 256) (k : Fin 512) :
    (iblk m c 0 t : FVec Ideal S256x512 .f32) (ix2 r k) = (kerArgs m c).ys (ix2 (rowOf t r) k) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 256 + 1 * r.val = t.val * 256 + r.val; rw [(idx0 t).1]; omega
  | ⟨1, _⟩ => show win0_0.index t 1 * 512 + 1 * k.val = k.val; rw [(idx0 t).2]; omega

theorem idx1 : ∀ t : Fin cfg0.N, win0_1.index t 0 = t.val ∧ win0_1.index t 1 = 0 :=
  (by decide +kernel : ∀ t : Fin grid0.N, win0_1.index t 0 = t.val ∧ win0_1.index t 1 = 0)

theorem blk_g (t : Fin cfg0.N) (r : Fin 256) (k : Fin 512) :
    (iblk m c 1 t : FVec Ideal S256x512 .f32) (ix2 r k) = (kerArgs m c).g (ix2 (rowOf t r) k) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 256 + 1 * r.val = t.val * 256 + r.val; rw [(idx1 t).1]; omega
  | ⟨1, _⟩ => show win0_1.index t 1 * 512 + 1 * k.val = k.val; rw [(idx1 t).2]; omega

theorem idx2 : ∀ t : Fin cfg0.N, win0_2.index t 0 = t.val ∧ win0_2.index t 1 = 0 :=
  (by decide +kernel : ∀ t : Fin grid0.N, win0_2.index t 0 = t.val ∧ win0_2.index t 1 = 0)

theorem blk_bonus (t : Fin cfg0.N) (r : Fin 256) (k : Fin 512) :
    (iblk m c 2 t : FVec Ideal S256x512 .f32) (ix2 r k) = (kerArgs m c).bonus (ix2 (rowOf t r) k) := by
  refine Eq.trans ?_ (congrFun (V_main_arg2 m c) _)
  unfold iblk
  rw [View.read_apply]
  show V m c main_arg2 _ = V m c main_arg2 _
  congr 1
  funext a
  apply Fin.ext
  match a with
  | ⟨0, _⟩ => show win0_2.index t 0 * 256 + 1 * r.val = t.val * 256 + r.val; rw [(idx2 t).1]; omega
  | ⟨1, _⟩ => show win0_2.index t 1 * 512 + 1 * k.val = k.val; rw [(idx2 t).2]; omega

theorem idx6 : ∀ t : Fin cfg0.N, win0_6.index t 0 = t.val ∧ win0_6.index t 1 = 0 :=
  (by decide +kernel : ∀ t : Fin grid0.N, win0_6.index t 0 = t.val ∧ win0_6.index t 1 = 0)

theorem blk_yb (t : Fin cfg0.N) (r : Fin 256) (k : Fin 512) :
    (iblk m c 6 t : FVec Ideal S256x512 .f32) (ix2 r k) = (kerArgs m c).yb (ix2 (rowOf t r) k) := by
  refine Eq.trans ?_ (congrFun (V_main_arg5 m c) _)
  unfold iblk
  rw [View.read_apply]
  show V m c main_arg5 _ = V m c main_arg5 _
  congr 1
  funext a
  apply Fin.ext
  match a with
  | ⟨0, _⟩ => show win0_6.index t 0 * 256 + 1 * r.val = t.val * 256 + r.val; rw [(idx6 t).1]; omega
  | ⟨1, _⟩ => show win0_6.index t 1 * 512 + 1 * k.val = k.val; rw [(idx6 t).2]; omega

theorem idx7 : ∀ t : Fin cfg0.N, win0_7.index t 0 = t.val ∧ win0_7.index t 1 = 0 :=
  (by decide +kernel : ∀ t : Fin grid0.N, win0_7.index t 0 = t.val ∧ win0_7.index t 1 = 0)

theorem blk_pm (t : Fin cfg0.N) (r : Fin 256) (k : Fin 2048) :
    (iblk m c 7 t : FVec Ideal S256x2048 .f32) (ix2 r k) = (kerArgs m c).pm (ix2 (rowOf t r) k) := by
  refine Eq.trans ?_ (congrFun (V_main_arg6 m c) _)
  unfold iblk
  rw [View.read_apply]
  show V m c main_arg6 _ = V m c main_arg6 _
  congr 1
  funext a
  apply Fin.ext
  match a with
  | ⟨0, _⟩ => show win0_7.index t 0 * 256 + 1 * r.val = t.val * 256 + r.val; rw [(idx7 t).1]; omega
  | ⟨1, _⟩ => show win0_7.index t 1 * 2048 + 1 * k.val = k.val; rw [(idx7 t).2]; omega

theorem idx8 : ∀ t : Fin cfg0.N, win0_8.index t 0 = t.val ∧ win0_8.index t 1 = 0 :=
  (by decide +kernel : ∀ t : Fin grid0.N, win0_8.index t 0 = t.val ∧ win0_8.index t 1 = 0)

theorem blk_x (t : Fin cfg0.N) (r : Fin 256) (k : Fin 1024) :
    (iblk m c 8 t : FVec Ideal S256x1024 .f32) (ix2 r k) = (kerArgs m c).x (ix2 (rowOf t r) k) := by
  refine Eq.trans ?_ (congrFun (V_main_arg7 m c) _)
  unfold iblk
  rw [View.read_apply]
  show V m c main_arg7 _ = V m c main_arg7 _
  congr 1
  funext a
  apply Fin.ext
  match a with
  | ⟨0, _⟩ => show win0_8.index t 0 * 256 + 1 * r.val = t.val * 256 + r.val; rw [(idx8 t).1]; omega
  | ⟨1, _⟩ => show win0_8.index t 1 * 1024 + 1 * k.val = k.val; rw [(idx8 t).2]; omega

theorem blk_gg (t : Fin cfg0.N) : (iblk m c 3 t : FVec Ideal S1x512 .f32) = V m c main_v4 := by
  have hz' : (fun a => win0_3.index t a * main_v4.ty.shape.size a) = fun _ => 0 := funext fun a => by fin_cases a <;> rfl
  exact Memref.read_access_unit_zero (Elt Ideal) main_v4 hz' (fun a => by rw [congrFun hz' a]; simp) _

theorem blk_gb (t : Fin cfg0.N) : (iblk m c 4 t : FVec Ideal S1x512 .f32) = V m c main_v5 := by
  have hz' : (fun a => win0_4.index t a * main_v5.ty.shape.size a) = fun _ => 0 := funext fun a => by fin_cases a <;> rfl
  exact Memref.read_access_unit_zero (Elt Ideal) main_v5 hz' (fun a => by rw [congrFun hz' a]; simp) _

theorem blk_bd (t : Fin cfg0.N) : (iblk m c 5 t : FVec Ideal S256x256 .bf16) = V m c main_v16 := by
  have hz' : (fun a => win0_5.index t a * main_v16.ty.shape.size a) = fun _ => 0 := funext fun a => by fin_cases a <;> rfl
  exact Memref.read_access_unit_zero (Elt Ideal) main_v16 hz' (fun a => by rw [congrFun hz' a]; simp) _

theorem blk_mod (t : Fin cfg0.N) : (iblk m c 9 t : FVec Ideal S2x6x1024 .f32) = V m c main_arg8 := by
  have hz' : (fun a => win0_9.index t a * main_arg8.ty.shape.size a) = fun _ => 0 := funext fun a => by fin_cases a <;> rfl
  exact Memref.read_access_unit_zero (Elt Ideal) main_arg8 hz' (fun a => by rw [congrFun hz' a]; simp) _

theorem blk_ng (t : Fin cfg0.N) : (iblk m c 10 t : FVec Ideal S1x1024 .f32) = V m c main_v0 := by
  have hz' : (fun a => win0_10.index t a * main_v0.ty.shape.size a) = fun _ => 0 := funext fun a => by fin_cases a <;> rfl
  exact Memref.read_access_unit_zero (Elt Ideal) main_v0 hz' (fun a => by rw [congrFun hz' a]; simp) _

theorem blk_wa (t : Fin cfg0.N) : (iblk m c 11 t : FVec Ideal S512x1024 .bf16) = V m c main_v1 := by
  have hz' : (fun a => win0_11.index t a * main_v1.ty.shape.size a) = fun _ => 0 := funext fun a => by fin_cases a <;> rfl
  exact Memref.read_access_unit_zero (Elt Ideal) main_v1 hz' (fun a => by rw [congrFun hz' a]; simp) _

theorem blk_wb (t : Fin cfg0.N) : (iblk m c 12 t : FVec Ideal S512x1024 .bf16) = V m c main_v2 := by
  have hz' : (fun a => win0_12.index t a * main_v2.ty.shape.size a) = fun _ => 0 := funext fun a => by fin_cases a <;> rfl
  exact Memref.read_access_unit_zero (Elt Ideal) main_v2 hz' (fun a => by rw [congrFun hz' a]; simp) _

theorem blk_wo (t : Fin cfg0.N) : (iblk m c 13 t : FVec Ideal S1024x1024 .bf16) = V m c main_v3 := by
  have hz' : (fun a => win0_13.index t a * main_v3.ty.shape.size a) = fun _ => 0 := funext fun a => by fin_cases a <;> rfl
  exact Memref.read_access_unit_zero (Elt Ideal) main_v3 hz' (fun a => by rw [congrFun hz' a]; simp) _

/-- The row of the modulation the point reads is its batch's. -/
theorem ld_mod (t : Fin cfg0.N) (y : Vec Ideal S2x6x1024 .f32) (r : Fin 256) (a : Fin 6) (k : Fin 1024) :
    View.ld y (Rect.unit (s := S2x6x1024) (k0_off1 (grid0.coords t)) S1x6x1024.size (k0_off1_inb (grid0.coords t))) (ix3 0 a k)
      = y (ix3 (batch (rowOf t r)) a k) := by
  show y _ = y _
  congr 1
  funext b
  apply Fin.ext
  match b with
  | ⟨0, _⟩ => show k0_off1 (grid0.coords t) 0 + 1 * 0 = (t.val * 256 + r.val) / 8192; rw [(off1 t).1]; omega
  | ⟨1, _⟩ => show k0_off1 (grid0.coords t) 1 + 1 * a.val = a.val; rw [(off1 t).2.1]; omega
  | ⟨2, _⟩ => show k0_off1 (grid0.coords t) 2 + 1 * k.val = k.val; rw [(off1 t).2.2]; omega

theorem vec512 (y : FVec Ideal S512 .f32) (j : Fin 512) : shapeCast S1x512 y shapeCasts_S512_S1x512 (ix2 0 j) = y (ix1 j) := by
  pointwise

theorem vec1024 (y : FVec Ideal S1024 .f32) (j : Fin 1024) : shapeCast S1x1024 y shapeCasts_S1024_S1x1024 (ix2 0 j) = y (ix1 j) := by
  pointwise

/-- Point `t`'s blocks, of the arguments. -/
theorem blocks (t : Fin cfg0.N) (r : Fin 256) :
    Blocks (kerArgs m c) (rowOf t r) r (iblk m c 0 t) (iblk m c 1 t) (iblk m c 2 t) (iblk m c 6 t) (iblk m c 3 t) (iblk m c 4 t) (iblk m c 5 t)
      (iblk m c 7 t) (iblk m c 8 t)
      (View.ld (iblk m c 9 t : FVec Ideal S2x6x1024 .f32) (Rect.unit (s := S2x6x1024) (k0_off1 (grid0.coords t)) S1x6x1024.size (k0_off1_inb (grid0.coords t))))
      (iblk m c 10 t) (iblk m c 11 t) (iblk m c 12 t) (iblk m c 13 t) where
  ys j := blk_ys m c t r j
  g j := blk_g m c t r j
  bonus j := blk_bonus m c t r j
  gg j := (congrFun ((blk_gg m c t).trans (V_gg m c)) _).trans (vec512 _ j)
  gb j := (congrFun ((blk_gb m c t).trans (V_gb m c)) _).trans (vec512 _ j)
  heads := fun j p => (congrFun (blk_bd m c t) _).trans (isHeads m c j p)
  yb j := blk_yb m c t r j
  pm j := blk_pm m c t r j
  x j := blk_x m c t r j
  mod a k := (ld_mod t _ r a k).trans (congrFun ((blk_mod m c t).trans (V_main_arg8 m c)) _)
  ng k := (congrFun ((blk_ng m c t).trans (V_ng m c)) _).trans (vec1024 _ k)
  wa j k := congrFun ((blk_wa m c t).trans (V_wa m c)) _
  wb j k := congrFun ((blk_wb m c t).trans (V_wb m c)) _
  wo j k := congrFun ((blk_wo m c t).trans (V_wo m c)) _

/-! ## The result arrays -/

/-- The result array of the residual stream. -/
def outX : Buf (Elt Ideal) ((c : Thread nD τ).loc main_v28_0) := fun (i : S16384x1024.Idx) => (kerArgs m c).rowX (i 0) (i 1)

theorem idx16 : ∀ t : Fin cfg0.N, win0_16.index t 0 = t.val ∧ win0_16.index t 1 = 0 :=
  (by decide +kernel : ∀ t : Fin grid0.N, win0_16.index t 0 = t.val ∧ win0_16.index t 1 = 0)

/-- Point `t` writes back its block of the result. -/
theorem flushed_x (hfin : ∀ i, IsReal ((kerArgs m c).ys i)) (t : Fin cfg0.N) (hf : (cfg0.win 16).flush t = true) :
    (dats m 0 c).flushed 16 t = ((cfg0.win 16).blk t).view.read (Elt Ideal) (outX m c) := by
  rw [Cert.MergeIdeal.Value.flushed16_A, out_x]
  funext (i : S256x1024.Idx)
  rw [View.read_apply]
  obtain ⟨r, l, rfl⟩ : ∃ (r : Fin 256) (l : Fin 1024), i = ix2 r l := ⟨i 0, i 1, (ix2_eta i).symm⟩
  refine (rowX_blk (fun _ => hfin _) (blocks m c t r) l).trans ?_
  show outX m c (ix2 (rowOf t r) l) = outX m c _
  congr 1
  funext a
  apply Fin.ext
  match a with
  | ⟨0, _⟩ => show t.val * 256 + r.val = win0_16.index t 0 * 256 + 1 * r.val; rw [(idx16 t).1]; omega
  | ⟨1, _⟩ => show l.val = win0_16.index t 1 * 1024 + 1 * l.val; rw [(idx16 t).2]; omega

/-- The points' blocks tile the array, so it ends holding the result. -/
theorem final_x (hfin : ∀ i, IsReal ((kerArgs m c).ys i)) : (dats m 0 c).arrAt 16 cfg0.N = outX m c :=
  (dats m 0 c).arrAt_eq_of_cover 16 (outX m c) (flushed_x m c hfin) fun i => by
    have h0 : (i 0 : Nat) < 16384 := (i 0).isLt
    have h1 : (i 1 : Nat) < 1024 := (i 1).isLt
    refine ⟨⟨(i 0 : Nat) / 256, by show _ < 64; omega⟩, flush0_16 _, ?_⟩
    generalize ht : (⟨(i 0 : Nat) / 256, _⟩ : Fin cfg0.N) = t
    have ht' : t.val = (i 0 : Nat) / 256 := by rw [← ht]
    show i ∈ ((View.whole main_v28_0).slice (win0_16.rect t)).set
    rw [View.set_slice_whole, Rect.mem_set_unit]
    intro a
    match a with
    | ⟨0, _⟩ => show win0_16.index t 0 * 256 ≤ (i 0 : Nat) ∧ (i 0 : Nat) < win0_16.index t 0 * 256 + 256
                rw [(idx16 t).1]; omega
    | ⟨1, _⟩ => show win0_16.index t 1 * 1024 ≤ (i 1 : Nat) ∧ (i 1 : Nat) < win0_16.index t 1 * 1024 + 1024
                rw [(idx16 t).2]; omega

/-- The result array of the modulated pre-norm. -/
def outH : Buf (Elt Ideal) ((c : Thread nD τ).loc main_v28_1) := fun (i : S16384x1024.Idx) => (kerArgs m c).rowH (i 0) (i 1)

theorem idx17 : ∀ t : Fin cfg0.N, win0_17.index t 0 = t.val ∧ win0_17.index t 1 = 0 :=
  (by decide +kernel : ∀ t : Fin grid0.N, win0_17.index t 0 = t.val ∧ win0_17.index t 1 = 0)

/-- Point `t` writes back its block of the result. -/
theorem flushed_h (hfin : ∀ i, IsReal ((kerArgs m c).ys i)) (t : Fin cfg0.N) (hf : (cfg0.win 17).flush t = true) :
    (dats m 0 c).flushed 17 t = ((cfg0.win 17).blk t).view.read (Elt Ideal) (outH m c) := by
  rw [Cert.MergeIdeal.Value.flushed17_A, out_h]
  funext (i : S256x1024.Idx)
  rw [View.read_apply]
  obtain ⟨r, l, rfl⟩ : ∃ (r : Fin 256) (l : Fin 1024), i = ix2 r l := ⟨i 0, i 1, (ix2_eta i).symm⟩
  refine (rowH_blk (fun _ => hfin _) (blocks m c t r) l).trans ?_
  show outH m c (ix2 (rowOf t r) l) = outH m c _
  congr 1
  funext a
  apply Fin.ext
  match a with
  | ⟨0, _⟩ => show t.val * 256 + r.val = win0_17.index t 0 * 256 + 1 * r.val; rw [(idx17 t).1]; omega
  | ⟨1, _⟩ => show l.val = win0_17.index t 1 * 1024 + 1 * l.val; rw [(idx17 t).2]; omega

/-- The points' blocks tile the array, so it ends holding the result. -/
theorem final_h (hfin : ∀ i, IsReal ((kerArgs m c).ys i)) : (dats m 0 c).arrAt 17 cfg0.N = outH m c :=
  (dats m 0 c).arrAt_eq_of_cover 17 (outH m c) (flushed_h m c hfin) fun i => by
    have h0 : (i 0 : Nat) < 16384 := (i 0).isLt
    have h1 : (i 1 : Nat) < 1024 := (i 1).isLt
    refine ⟨⟨(i 0 : Nat) / 256, by show _ < 64; omega⟩, flush0_17 _, ?_⟩
    generalize ht : (⟨(i 0 : Nat) / 256, _⟩ : Fin cfg0.N) = t
    have ht' : t.val = (i 0 : Nat) / 256 := by rw [← ht]
    show i ∈ ((View.whole main_v28_1).slice (win0_17.rect t)).set
    rw [View.set_slice_whole, Rect.mem_set_unit]
    intro a
    match a with
    | ⟨0, _⟩ => show win0_17.index t 0 * 256 ≤ (i 0 : Nat) ∧ (i 0 : Nat) < win0_17.index t 0 * 256 + 256
                rw [(idx17 t).1]; omega
    | ⟨1, _⟩ => show win0_17.index t 1 * 1024 ≤ (i 1 : Nat) ∧ (i 1 : Nat) < win0_17.index t 1 * 1024 + 1024
                rw [(idx17 t).2]; omega

end Cert.Proof.Merge

end
-- ==== Proof.Merge.lean ====
/-
  THE MERGE: the claims. The precondition makes the recurrence's output finite, so that the head means may be taken as the kernel
  takes them; the reference's two results, of the kernel's arguments, are the arrays that the kernel leaves.
-/
module

public import proofs.«01_k».proof.Defs
public import proofs.«01_k».proof.Proof.MergeVal
public import proofs.«01_k».proof.Proof.Gen.Merge.Frame
public import proofs.«01_k».proof.Proof.Gen.MergeRefIdeal.Run
public import proofs.«01_k».proof.Proof.Gen.Pre_rows_finite

@[expose] public section

set_option maxRecDepth 16384

noncomputable section

namespace Cert.Proof.Merge

open Cert.MergeIdeal Idealize.ShloMosaic Idealize.ShloMosaic.ValueIdx Idealize.ShloMosaic.TcCoe Idealize.SL.Sem

theorem infinity : Ideal.ofBits .f32 0x7F800000#32 = (⊤ : EReal) := by
  simp [Ideal.ofBits, Ideal.ieee, -EReal.coe_mul]

/-- An extended real whose magnitude is under infinity is a real. -/
theorem isReal_of_abs_lt {x : EReal} (h : max x (-x) < ⊤) : IsReal x := by
  induction x using EReal.rec with
  | bot => simp at h
  | coe r => exact ⟨r, rfl⟩
  | top => simp at h

/-- The precondition, all ones on every device, makes the recurrence's output finite. -/
theorem finite_of_pre (m : (ℓ : Loc nD τ sig) → Buf (Elt Ideal) ℓ) (h : Cert.Pre_MergeIdeal m) (c : Dev nD)
    (i : S16384x512.Idx) : IsReal ((kerArgs m c).ys i) := by
  have e := congrFun (h c) i
  have bit : ∀ p : Bool, BitVec.ofBool p = 1#1 → p = true := by decide
  refine isReal_of_abs_lt ?_
  have e' := of_decide_eq_true (bit _ e)
  rw [← infinity]
  exact e'

theorem preserves : Cert.preserves_Merge_MergeIdeal := trivial

theorem frame : Cert.quiescent_Merge := fun m ρ _ => Cert.Merge.Gen.frame m ρ

theorem frame_ideal : Cert.quiescent_MergeIdeal := fun m ρ _ => Cert.MergeIdeal.Gen.frame m ρ

theorem frame_ref : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- If the two programs' arguments agree one by one, they agree. -/
theorem same_args (m : (ℓ : Loc nD τ sig) → Buf (Elt Ideal) ℓ)
    (m' : (ℓ : Loc Cert.MergeRefIdeal.nD Cert.MergeRefIdeal.τ Cert.MergeRefIdeal.sig) → Buf (Elt Ideal) ℓ) (c : Dev nD)
    (h0 : (refArgs m' c).ys = (kerArgs m c).ys) (h1 : (refArgs m' c).g = (kerArgs m c).g) (h2 : (refArgs m' c).bonus = (kerArgs m c).bonus)
    (h3 : (refArgs m' c).gg = (kerArgs m c).gg) (h4 : (refArgs m' c).gb = (kerArgs m c).gb) (h5 : (refArgs m' c).yb = (kerArgs m c).yb)
    (h6 : (refArgs m' c).pm = (kerArgs m c).pm) (h7 : (refArgs m' c).x = (kerArgs m c).x) (h8 : (refArgs m' c).mod = (kerArgs m c).mod)
    (h9 : (refArgs m' c).ng = (kerArgs m c).ng) (h10 : (refArgs m' c).wa = (kerArgs m c).wa) (h11 : (refArgs m' c).wb = (kerArgs m c).wb)
    (h12 : (refArgs m' c).wo = (kerArgs m c).wo) : refArgs m' c = kerArgs m c := by
  generalize refArgs m' c = A at *
  generalize kerArgs m c = B at *
  cases A; cases B
  simp only at h0 h1 h2 h3 h4 h5 h6 h7 h8 h9 h10 h11 h12
  subst h0 h1 h2 h3 h4 h5 h6 h7 h8 h9 h10 h11 h12
  rfl

theorem algebraic : Cert.algebraic_MergeIdeal_MergeRefIdeal := fun m ρ m' ρ' hp hm =>
  have same : ∀ c : Dev nD, refArgs m' c = kerArgs m c := fun c =>
    have h := hm c
    same_args m m' c h.1 h.2.1 h.2.2.1 h.2.2.2.1 h.2.2.2.2.1 h.2.2.2.2.2.1 h.2.2.2.2.2.2.1 h.2.2.2.2.2.2.2.1 h.2.2.2.2.2.2.2.2.1
      h.2.2.2.2.2.2.2.2.2.1 h.2.2.2.2.2.2.2.2.2.2.1 h.2.2.2.2.2.2.2.2.2.2.2.1 h.2.2.2.2.2.2.2.2.2.2.2.2.1
  ⟨fun c => outX m c, fun c => outH m c,
    (θ_run Cert.MergeIdeal.defs _ _).mono (fun _ r c =>
        ⟨(r c).1.trans (final_x m c (finite_of_pre m hp c)), (r c).2.1.trans (final_h m c (finite_of_pre m hp c)), (r c).2.2.2.2⟩)
      (Cert.MergeIdeal.Value.run_blocks (F := Ideal) m ρ),
    (θ_run Cert.MergeRefIdeal.defs _ _).mono (fun _ r c =>
        ⟨(r c).1.trans ((res_x m' c).trans (congrArg (fun (A : Args) (i : S16384x1024.Idx) => A.rowX (i 0) (i 1)) (same c))),
          (r c).2.1.trans ((res_h m' c).trans (congrArg (fun (A : Args) (i : S16384x1024.Idx) => A.rowH (i 0) (i 1)) (same c))), (r c).2.2⟩)
      (Cert.MergeRefIdeal.Value.run (F := Ideal) m' ρ')⟩

end Cert.Proof.Merge

end
-- ==== Proof.FinalVal.lean ====
/-
  THE EXPERTS' RESIDUAL, the layers' last call: what the result array holds after the run, and the reference's result at an index.

  The grid's point `t` handles rows `512 t` to `512 t + 511`, all of batch `t / 16`; the first choices' outputs are the first 16384
  rows of the experts' array, the second choices' the last, so the point reads two blocks of it.
-/
module

public import proofs.«01_k».proof.Proof.Gen.FinalIdeal.Value
public import proofs.«01_k».proof.Proof.Gen.FinalRefIdeal.Run
public import proofs.«01_k».proof.Proof.InProjRef

@[expose] public section

set_option maxRecDepth 16384

noncomputable section

namespace Cert.Proof.Final

open Cert.FinalIdeal Cert.FinalIdeal.Gen Idealize.ShloMosaic Idealize.ShloMosaic.TcCoe Idealize.SL.Sem
open Idealize.ShloMosaic.Pipeline (Dat)

/-- Row `q` of the result: the residual, and the gated sum of the two choices' weighted outputs. -/
def ends (x : FVec Ideal S16384x1024 .f32) (y : FVec Ideal S32768x1024 .bf16) (w : FVec Ideal S16384x2 .f32) (mod : FVec Ideal S2x6x1024 .f32)
    (q : Fin 16384) (l : Fin 1024) : EReal :=
  x (ix2 q l) + mod (ix3 ⟨q.val / 8192, InProj.row_lt q⟩ 5 l)
    * (w (ix2 q 0) * y (ix2 ⟨q.val, by omega⟩ l) + w (ix2 q 1) * y (ix2 ⟨16384 + q.val, by omega⟩ l))

/-- The two halves of a block's columns, side by side. -/
def sides (a b : Vec Ideal S512x512 .bf16) (r : Fin 512) (l : Fin 1024) : EReal :=
  if h : l.val < 512 then a (ix2 r ⟨l.val, h⟩) else b (ix2 r ⟨l.val - 512, by omega⟩)

theorem pay1_apply (md : Vec Ideal S1x6x1024 .f32) (w : Vec Ideal S512x2 .f32) (x : Vec Ideal S512x1024 .f32)
    (a b a' b' : Vec Ideal S512x512 .bf16) (r : Fin 512) (l : Fin 1024) :
    k0_pay1 md w x a b a' b' (ix2 r l)
      = x (ix2 r l) + md (ix3 0 5 l) * (w (ix2 r 0) * sides a b r l + w (ix2 r 1) * sides a' b' r l) := by
  pointwise [k0_pay1, sides]

theorem ld_side (y : Vec Ideal S512x1024 .bf16) (o : ℕ) (inb : ∀ a, (![0, o] : Fin 2 → ℕ) a + S512x512.size a ≤ S512x1024.size a)
    (r : Fin 512) (l : Fin 512) (h : o + l.val < 1024) :
    View.ld y (Rect.unit (s := S512x1024) ![0, o] S512x512.size inb) (ix2 r l) = y (ix2 r ⟨o + l.val, h⟩) := by
  show y _ = y _
  congr 1
  funext a
  apply Fin.ext
  match a with
  | ⟨0, _⟩ => show 0 + 1 * r.val = r.val; omega
  | ⟨1, _⟩ => show o + 1 * l.val = o + l.val; omega

/-- The two halves of a block are the block. -/
theorem sides_ld (y : Vec Ideal S512x1024 .bf16) (r : Fin 512) (l : Fin 1024) :
    sides (View.ld y (Rect.unit (s := S512x1024) ![0, 0] S512x512.size inb_S512x1024_S512x512_0_0))
      (View.ld y (Rect.unit (s := S512x1024) ![0, 512] S512x512.size inb_S512x1024_S512x512_0_512)) r l = y (ix2 r l) := by
  unfold sides
  by_cases h : l.val < 512
  · rw [dif_pos h]
    refine (ld_side y 0 _ r ⟨l.val, h⟩ (by show 0 + l.val < 1024; omega)).trans (congrArg (fun k => y (ix2 r k)) (Fin.ext ?_))
    show 0 + l.val = l.val; omega
  · rw [dif_neg h]
    refine (ld_side y 512 _ r ⟨l.val - 512, by omega⟩ (by show 512 + (l.val - 512) < 1024; omega)).trans (congrArg (fun k => y (ix2 r k)) (Fin.ext ?_))
    show 512 + (l.val - 512) = l.val; omega

theorem hz : (![0, 0] : Fin 2 → Nat) = fun _ => 0 := funext fun a => by fin_cases a <;> rfl

theorem out_eq (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x2 .f32) (harg5 : arg5.IsWhole) (arg6 : Memref sig .tc .vmem S2x6x1024 .f32) (harg6 : arg6.IsWhole) (arg7 : Memref sig .tc .vmem S512x1024 .f32) (harg7 : arg7.IsWhole)
    (x0 : Vec Ideal S512x1024 .f32) (x1 : Vec Ideal S512x1024 .bf16) (x2 : Vec Ideal S512x1024 .bf16) (x3 : Vec Ideal S512x2 .f32) (x4 : Vec Ideal S2x6x1024 .f32) : out0_A_5 c i arg2 harg2 arg3 harg3 arg4 harg4 arg5 harg5 arg6 harg6 arg7 harg7 x0 x1 x2 x3 x4
    = k0_pay1 (View.ld x4 (Rect.unit (s := S2x6x1024) (k0_off1 i) S1x6x1024.size (k0_off1_inb i))) x3 x0
        (View.ld x1 (Rect.unit (s := S512x1024) ![0, 0] S512x512.size inb_S512x1024_S512x512_0_0))
        (View.ld x1 (Rect.unit (s := S512x1024) ![0, 512] S512x512.size inb_S512x1024_S512x512_0_512))
        (View.ld x2 (Rect.unit (s := S512x1024) ![0, 0] S512x512.size inb_S512x1024_S512x512_0_0))
        (View.ld x2 (Rect.unit (s := S512x1024) ![0, 512] S512x512.size inb_S512x1024_S512x512_0_512)) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  rw [View.canon_unit_zero hz]
  simp only [View.readAt_eq_ld, harg2.read_unread, harg3.read_unread, harg4.read_unread, harg5.read_unread, harg6.read_unread,
    View.ld_unit_zero (S := S512x1024) hz, View.ld_unit_zero (S := S512x2) hz]

variable (m : (ℓ : Loc nD τ sig) → Buf (Elt Ideal) ℓ) (c : Dev nD)

/-! ## The windows' blocks -/

theorem t_lt (t : Fin cfg0.N) : t.val < 32 := t.isLt

theorem off1 : ∀ t : Fin cfg0.N, k0_off1 (grid0.coords t) 0 = t.val / 16 ∧ k0_off1 (grid0.coords t) 1 = 0 ∧ k0_off1 (grid0.coords t) 2 = 0 :=
  (by decide +kernel : ∀ t : Fin grid0.N, k0_off1 (grid0.coords t) 0 = t.val / 16 ∧ k0_off1 (grid0.coords t) 1 = 0 ∧ k0_off1 (grid0.coords t) 2 = 0)

theorem idx0 : ∀ t : Fin cfg0.N, win0_0.index t 0 = t.val ∧ win0_0.index t 1 = 0 :=
  (by decide +kernel : ∀ t : Fin grid0.N, win0_0.index t 0 = t.val ∧ win0_0.index t 1 = 0)

theorem blk_x (t : Fin cfg0.N) (r : Fin 512) (k : Fin 1024) :
    (iblk m c 0 t : FVec Ideal S512x1024 .f32) (ix2 r k) = (m ((c : Thread nD τ).loc main_arg0) : FVec Ideal S16384x1024 .f32) (ix2 ⟨t.val * 512 + r.val, by have := t_lt t; omega⟩ k) := by
  unfold iblk
  rw [View.read_apply]
  show m ((c : Thread nD τ).loc main_arg0) _ = m ((c : Thread nD τ).loc main_arg0) _
  congr 1
  funext a
  apply Fin.ext
  match a with
  | ⟨0, _⟩ => show win0_0.index t 0 * 512 + 1 * r.val = t.val * 512 + r.val; rw [(idx0 t).1]; omega
  | ⟨1, _⟩ => show win0_0.index t 1 * 1024 + 1 * k.val = k.val; rw [(idx0 t).2]; omega

theorem idx1 : ∀ t : Fin cfg0.N, win0_1.index t 0 = t.val ∧ win0_1.index t 1 = 0 :=
  (by decide +kernel : ∀ t : Fin grid0.N, win0_1.index t 0 = t.val ∧ win0_1.index t 1 = 0)

theorem blk_first (t : Fin cfg0.N) (r : Fin 512) (k : Fin 1024) :
    (iblk m c 1 t : FVec Ideal S512x1024 .bf16) (ix2 r k) = (m ((c : Thread nD τ).loc main_arg1) : FVec Ideal S32768x1024 .bf16) (ix2 ⟨t.val * 512 + r.val, by have := t_lt t; omega⟩ k) := by
  unfold iblk
  rw [View.read_apply]
  show m ((c : Thread nD τ).loc main_arg1) _ = m ((c : Thread nD τ).loc main_arg1) _
  congr 1
  funext a
  apply Fin.ext
  match a with
  | ⟨0, _⟩ => show win0_1.index t 0 * 512 + 1 * r.val = t.val * 512 + r.val; rw [(idx1 t).1]; omega
  | ⟨1, _⟩ => show win0_1.index t 1 * 1024 + 1 * k.val = k.val; rw [(idx1 t).2]; omega

theorem idx2 : ∀ t : Fin cfg0.N, win0_2.index t 0 = 32 + t.val ∧ win0_2.index t 1 = 0 :=
  (by decide +kernel : ∀ t : Fin grid0.N, win0_2.index t 0 = 32 + t.val ∧ win0_2.index t 1 = 0)

theorem blk_second (t : Fin cfg0.N) (r : Fin 512) (k : Fin 1024) :
    (iblk m c 2 t : FVec Ideal S512x1024 .bf16) (ix2 r k) = (m ((c : Thread nD τ).loc main_arg1) : FVec Ideal S32768x1024 .bf16) (ix2 ⟨16384 + (t.val * 512 + r.val), by have := t_lt t; omega⟩ k) := by
  unfold iblk
  rw [View.read_apply]
  show m ((c : Thread nD τ).loc main_arg1) _ = m ((c : Thread nD τ).loc main_arg1) _
  congr 1
  funext a
  apply Fin.ext
  match a with
  | ⟨0, _⟩ => show win0_2.index t 0 * 512 + 1 * r.val = 16384 + (t.val * 512 + r.val); rw [(idx2 t).1]; omega
  | ⟨1, _⟩ => show win0_2.index t 1 * 1024 + 1 * k.val = k.val; rw [(idx2 t).2]; omega

theorem idx3 : ∀ t : Fin cfg0.N, win0_3.index t 0 = t.val ∧ win0_3.index t 1 = 0 :=
  (by decide +kernel : ∀ t : Fin grid0.N, win0_3.index t 0 = t.val ∧ win0_3.index t 1 = 0)

theorem blk_w (t : Fin cfg0.N) (r : Fin 512) (k : Fin 2) :
    (iblk m c 3 t : FVec Ideal S512x2 .f32) (ix2 r k) = (m ((c : Thread nD τ).loc main_arg2) : FVec Ideal S16384x2 .f32) (ix2 ⟨t.val * 512 + r.val, by have := t_lt t; omega⟩ k) := by
  unfold iblk
  rw [View.read_apply]
  show m ((c : Thread nD τ).loc main_arg2) _ = m ((c : Thread nD τ).loc main_arg2) _
  congr 1
  funext a
  apply Fin.ext
  match a with
  | ⟨0, _⟩ => show win0_3.index t 0 * 512 + 1 * r.val = t.val * 512 + r.val; rw [(idx3 t).1]; omega
  | ⟨1, _⟩ => show win0_3.index t 1 * 2 + 1 * k.val = k.val; rw [(idx3 t).2]; omega

theorem blk_mod (t : Fin cfg0.N) : (iblk m c 4 t : FVec Ideal S2x6x1024 .f32) = m ((c : Thread nD τ).loc main_arg3) := by
  have hz' : (fun a => win0_4.index t a * main_arg3.ty.shape.size a) = fun _ => 0 := funext fun a => by fin_cases a <;> rfl
  exact Memref.read_access_unit_zero (Elt Ideal) main_arg3 hz' (fun a => by rw [congrFun hz' a]; simp) _

/-- The row of the modulation the point reads is its batch's. -/
theorem ld_mod (t : Fin cfg0.N) (y : Vec Ideal S2x6x1024 .f32) (r : Fin 512) (a : Fin 6) (k : Fin 1024) :
    View.ld y (Rect.unit (s := S2x6x1024) (k0_off1 (grid0.coords t)) S1x6x1024.size (k0_off1_inb (grid0.coords t))) (ix3 0 a k)
      = y (ix3 ⟨(t.val * 512 + r.val) / 8192, by have := t_lt t; omega⟩ a k) := by
  show y _ = y _
  congr 1
  funext b
  apply Fin.ext
  match b with
  | ⟨0, _⟩ => show k0_off1 (grid0.coords t) 0 + 1 * 0 = (t.val * 512 + r.val) / 8192; rw [(off1 t).1]; omega
  | ⟨1, _⟩ => show k0_off1 (grid0.coords t) 1 + 1 * a.val = a.val; rw [(off1 t).2.1]; omega
  | ⟨2, _⟩ => show k0_off1 (grid0.coords t) 2 + 1 * k.val = k.val; rw [(off1 t).2.2]; omega

/-! ## The result array -/

/-- The result array, of the arguments. -/
def res : Buf (Elt Ideal) ((c : Thread nD τ).loc main_v0) := fun (i : S16384x1024.Idx) =>
  ends (m ((c : Thread nD τ).loc main_arg0)) (m ((c : Thread nD τ).loc main_arg1)) (m ((c : Thread nD τ).loc main_arg2))
    (m ((c : Thread nD τ).loc main_arg3)) (i 0) (i 1)

theorem idx5 : ∀ t : Fin cfg0.N, win0_5.index t 0 = t.val ∧ win0_5.index t 1 = 0 :=
  (by decide +kernel : ∀ t : Fin grid0.N, win0_5.index t 0 = t.val ∧ win0_5.index t 1 = 0)

/-- Point `t` writes back its block of the result. -/
theorem flushed (t : Fin cfg0.N) (hf : (cfg0.win 5).flush t = true) :
    (dats m 0 c).flushed 5 t = ((cfg0.win 5).blk t).view.read (Elt Ideal) (res m c) := by
  rw [Cert.FinalIdeal.Value.flushed5_A, out_eq]
  funext (i : S512x1024.Idx)
  rw [View.read_apply]
  obtain ⟨r, l, rfl⟩ : ∃ (r : Fin 512) (l : Fin 1024), i = ix2 r l := ⟨i 0, i 1, (ix2_eta i).symm⟩
  refine (pay1_apply _ _ _ _ _ _ _ r l).trans ?_
  rw [sides_ld, sides_ld, blk_x, blk_first, blk_second, blk_w, blk_w, ld_mod t _ r, blk_mod]
  show res m c (ix2 ⟨t.val * 512 + r.val, by have := t_lt t; omega⟩ l) = res m c _
  congr 1
  funext a
  apply Fin.ext
  match a with
  | ⟨0, _⟩ => show t.val * 512 + r.val = win0_5.index t 0 * 512 + 1 * r.val; rw [(idx5 t).1]; omega
  | ⟨1, _⟩ => show l.val = win0_5.index t 1 * 1024 + 1 * l.val; rw [(idx5 t).2]; omega

/-- The points' blocks tile the array, so it ends holding the result. -/
theorem final : (dats m 0 c).arrAt 5 cfg0.N = res m c :=
  (dats m 0 c).arrAt_eq_of_cover 5 (res m c) (flushed m c) fun i => by
    have h0 : (i 0 : Nat) < 16384 := (i 0).isLt
    have h1 : (i 1 : Nat) < 1024 := (i 1).isLt
    refine ⟨⟨(i 0 : Nat) / 512, by show _ < 32; omega⟩, flush0_5 _, ?_⟩
    generalize ht : (⟨(i 0 : Nat) / 512, _⟩ : Fin cfg0.N) = t
    have ht' : t.val = (i 0 : Nat) / 512 := by rw [← ht]
    show i ∈ ((View.whole main_v0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [(idx5 t).1]; omega
    | ⟨1, _⟩ => show win0_5.index t 1 * 1024 ≤ (i 1 : Nat) ∧ (i 1 : Nat) < win0_5.index t 1 * 1024 + 1024
                rw [(idx5 t).2]; omega

end Cert.Proof.Final

end
-- ==== Proof.Final.lean ====
/-
  THE EXPERTS' RESIDUAL: the claims. The reference's result, of the kernel's arguments, is the array that the kernel leaves.
-/
module

public import proofs.«01_k».proof.Defs
public import proofs.«01_k».proof.Proof.FinalVal
public import proofs.«01_k».proof.Proof.Gen.Final.Frame

@[expose] public section

set_option maxRecDepth 16384

noncomputable section

namespace Cert.Proof.Final

open Cert.FinalRefIdeal Cert.FinalRefIdeal.Gen Idealize.ShloMosaic Idealize.ShloMosaic.StableHlo Idealize.ShloMosaic.TcCoe Idealize.SL.Sem

/-- One choice's outputs: the first, or the second, 16384 rows. -/
def firsts (y : FVec Ideal S32768x1024 .bf16) : FVec Ideal S16384x1024 .f32 :=
  shapeCast _ (extractStridedSlice S1x16384x1024 ![0, 0, 0] (shapeCast _ (extf .f32 y bitsLt_bf16_f32) shapeCasts_S32768x1024_S2x16384x1024) slices_S2x16384x1024_S1x16384x1024_0_0_0) shapeCasts_S1x16384x1024_S16384x1024

def seconds (y : FVec Ideal S32768x1024 .bf16) : FVec Ideal S16384x1024 .f32 :=
  shapeCast _ (extractStridedSlice S1x16384x1024 ![1, 0, 0] (shapeCast _ (extf .f32 y bitsLt_bf16_f32) shapeCasts_S32768x1024_S2x16384x1024) slices_S2x16384x1024_S1x16384x1024_1_0_0) shapeCasts_S1x16384x1024_S16384x1024

/-- Their weighted sum. -/
def weighted (a b : FVec Ideal S16384x1024 .f32) (w : FVec Ideal S16384x2 .f32) : FVec Ideal S16384x1024 .f32 :=
  addf (mulf a (broadcastInDim S16384x1024 ![0, 1] bcast_S16384x1_S16384x1024_0_1 (extractStridedSlice S16384x1 ![0, 0] w slices_S16384x2_S16384x1_0_0)))
    (mulf b (broadcastInDim S16384x1024 ![0, 1] bcast_S16384x1_S16384x1024_0_1 (extractStridedSlice S16384x1 ![0, 1] w slices_S16384x2_S16384x1_0_1)))

/-- Gated, with the residual, row by row. -/
def refEnds (x s : FVec Ideal S16384x1024 .f32) (mod : FVec Ideal S2x6x1024 .f32) : FVec Ideal S16384x1024 .f32 :=
  shapeCast S16384x1024 (addf (shapeCast _ x shapeCasts_S16384x1024_S2x8192x1024) (mulf (broadcastInDim S2x8192x1024 ![0, 1, 2] bcast_S2x1x1024_S2x8192x1024_0_1_2
    (extractStridedSlice S2x1x1024 ![0, 5, 0] mod slices_S2x6x1024_S2x1x1024_0_5_0)) (shapeCast _ s shapeCasts_S16384x1024_S2x8192x1024))) shapeCasts_S2x8192x1024_S16384x1024

theorem firsts_apply (y : FVec Ideal S32768x1024 .bf16) (q : Fin 16384) (l : Fin 1024) :
    firsts y (ix2 q l) = y (ix2 ⟨q.val, by omega⟩ l) := by
  pointwise [firsts]

theorem seconds_apply (y : FVec Ideal S32768x1024 .bf16) (q : Fin 16384) (l : Fin 1024) :
    seconds y (ix2 q l) = y (ix2 ⟨16384 + q.val, by omega⟩ l) := by
  pointwise [seconds]

theorem weighted_apply (a b : FVec Ideal S16384x1024 .f32) (w : FVec Ideal S16384x2 .f32) (q : Fin 16384) (l : Fin 1024) :
    weighted a b w (ix2 q l) = a (ix2 q l) * w (ix2 q 0) + b (ix2 q l) * w (ix2 q 1) := by
  pointwise [weighted]

theorem refEnds_apply (x s : FVec Ideal S16384x1024 .f32) (mod : FVec Ideal S2x6x1024 .f32) (q : Fin 16384) (l : Fin 1024) :
    refEnds x s mod (ix2 q l) = x (ix2 q l) + mod (ix3 ⟨q.val / 8192, InProj.row_lt q⟩ 5 l) * s (ix2 q l) := by
  have e : (⟨q.val / 8192 * 8192 + q.val % 8192, by omega⟩ : Fin 16384) = q := Fin.ext (by show q.val / 8192 * 8192 + q.val % 8192 = q.val; omega)
  pointwise [refEnds, e]

theorem ref_eq (x : FVec Ideal S16384x1024 .f32) (y : FVec Ideal S32768x1024 .bf16) (w : FVec Ideal S16384x2 .f32) (mod : FVec Ideal S2x6x1024 .f32) :
    refEnds x (weighted (firsts y) (seconds y) w) mod = fun i => ends x y w mod (i 0) (i 1) := by
  funext i
  obtain ⟨q, l, rfl⟩ : ∃ (q : Fin 16384) (l : Fin 1024), i = ix2 q l := ⟨i 0, i 1, (ix2_eta i).symm⟩
  rw [refEnds_apply, weighted_apply, firsts_apply, seconds_apply, mul_comm (y _), mul_comm (y _)]
  rfl

theorem preserves : Cert.preserves_Final_FinalIdeal := trivial

theorem frame : Cert.quiescent_Final := fun m ρ _ => Cert.Final.Gen.frame m ρ

theorem frame_ideal : Cert.quiescent_FinalIdeal := fun m ρ _ => Cert.FinalIdeal.Gen.frame m ρ

theorem frame_ref : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

theorem algebraic : Cert.algebraic_FinalIdeal_FinalRefIdeal := fun m ρ m' ρ' _ hm =>
  ⟨fun c => res m c,
    (θ_run Cert.FinalIdeal.defs _ _).mono (fun _ r c => ⟨(r c).1.trans (final m c), (r c).2⟩)
      (Cert.FinalIdeal.Value.run_blocks (F := Ideal) m ρ),
    (θ_run Cert.FinalRefIdeal.defs _ _).mono (fun _ r c =>
        ⟨(r c).1.trans ((ref_eq _ _ _ _).trans (by rw [(hm c).1, (hm c).2.1, (hm c).2.2.1, (hm c).2.2.2]; rfl)), (r c).2⟩)
      (Cert.FinalRefIdeal.Value.run (F := Ideal) m' ρ')⟩

end Cert.Proof.Final

end
-- ==== Proof.AdaVal.lean ====
/-
  THE adaLN MODULATION: what the result array holds after the run.

  The conditions are padded with rows of zeros to eight rows. The grid's point `t` handles layer `t / 4` and the columns
  `1536 (t % 4)` to `1536 (t % 4) + 1535`, and it writes its block of the result once.
-/
module

public import proofs.«01_k».proof.Proof.Gen.AdaIdeal.Value
public import proofs.«01_k».proof.Proof.Gen.AdaRefIdeal.Run
public import Idealize.ShloMosaic.Lib.Routing.OpsSet
public import proofs.«01_k».proof.Proof.InProjPay

@[expose] public section

set_option maxRecDepth 16384

noncomputable section

namespace Cert.Proof.Ada

open Cert.AdaIdeal Cert.AdaIdeal.Gen Idealize.ShloMosaic Idealize.ShloMosaic.TcCoe Idealize.SL.Sem
open Idealize.ShloMosaic.Pipeline (Dat)

/-- The conditions, then rows of zeros. -/
def padded (x : FVec Ideal S2x1024 .f32) (r : Fin 8) (k : Fin 1024) : EReal :=
  if h : r.val < 2 then x (ix2 ⟨r.val, h⟩ k) else 0

/-- `silu`. -/
def act (x : EReal) : EReal := x * Ideal.div 1 (1 + Ideal.exp (-x))

/-- A row's modulation in layer `l`, at one column. -/
def modAt (y : Fin 1024 → EReal) (w : FVec Ideal S2x1024x6144 .f32) (b : FVec Ideal S2x6144 .f32) (l : Fin 2) (n : Fin 6144) : EReal :=
  (∑ k : Fin 1024, act (y k) * w (ix3 l k n)) + b (ix2 l n)

theorem pay1_apply (y : Vec Ideal S8x1024 .f32) (w : Vec Ideal S1x1024x1536 .f32) (b : Vec Ideal S1x1x1536 .f32) (r : Fin 8) (n : Fin 1536) :
    k0_pay1 y w b (ix3 0 r n) = (∑ k : Fin 1024, act (y (ix2 r k)) * w (ix3 0 k n)) + b (ix3 0 0 n) := by
  pointwise [k0_pay1, act, zero_sub]

theorem window_eq : ∀ (j : S2x1024.Idx) (a : Fin 2), scatter_S8x1024_S1_S2x1024_01_n_0_0.window j a = (j a).val
  | _, ⟨0, _⟩ => rfl
  | _, ⟨1, _⟩ => rfl

theorem start_eq (j : S2x1024.Idx) (idx : IVec S1 32) (h : ∀ e, idx e = 0#32) (a : Fin 2) :
    scatter_S8x1024_S1_S2x1024_01_n_0_0.start j idx a = 0 := by
  unfold ScatterDims.start
  split
  · rw [h]; rfl
  · rfl

/-- The conditions written over rows of zeros, from row 0, are the padded conditions. -/
theorem scatter_eq (z : FVec Ideal S8x1024 .f32) (hz : ∀ e, z e = 0) (idx : IVec S1 32) (h : ∀ e, idx e = 0#32) (x : FVec Ideal S2x1024 .f32)
    (r : Fin 8) (k : Fin 1024) :
    Host.scatter scatter_S8x1024_S1_S2x1024_01_n_0_0 (fun _ b => b) z idx x (ix2 r k) = padded x r k := by
  have lands : ∀ j : S2x1024.Idx, scatter_S8x1024_S1_S2x1024_01_n_0_0.resultIdx? j idx = some (ix2 r k)
      ↔ (j 0).val = r.val ∧ (j 1).val = k.val := fun j => by
    rw [Routing.resultIdx?_eq_some]
    constructor
    · intro q
      have q0 := q 0
      have q1 := q 1
      rw [window_eq, start_eq _ _ h] at q0 q1
      have e0 : ((j 0).val : Int) = (r.val : Int) := by rw [zero_add] at q0; exact q0
      have e1 : ((j 1).val : Int) = (k.val : Int) := by rw [zero_add] at q1; exact q1
      omega
    · rintro ⟨e0, e1⟩ a
      rw [window_eq, start_eq _ _ h, zero_add]
      match a with
      | ⟨0, _⟩ => exact congrArg Nat.cast e0
      | ⟨1, _⟩ => exact congrArg Nat.cast e1
  unfold padded
  by_cases hr : r.val < 2
  · rw [dif_pos hr]
    refine Routing.scatter_set_hit _ z idx x _ _ (fun j hj => ?_) (ix2 ⟨r.val, hr⟩ k) ((lands _).2 ⟨rfl, rfl⟩)
    obtain ⟨e0, e1⟩ := (lands j).1 hj
    congr 1
    funext a
    apply Fin.ext
    match a with
    | ⟨0, _⟩ => exact e0
    | ⟨1, _⟩ => exact e1
  · rw [dif_neg hr]
    refine (Routing.scatter_set_miss _ z idx x _ fun j hj => hr ?_).trans (hz _)
    have e0 := ((lands j).1 hj).1
    have : (j 0).val < 2 := (j 0).isLt
    omega

variable (m : (ℓ : Loc nD τ sig) → Buf (Elt Ideal) ℓ) (c : Dev nD)

/-! ## The arrays the region finds -/

theorem V_c : V m c main_v2 = Host.scatter scatter_S8x1024_S1_S2x1024_01_n_0_0 (fun _ b => b)
    (broadcastInDim S8x1024 ![] bcast_S_S8x1024 (constant (F := Ideal) S_ .f32 0x00000000#32))
    (broadcastInDim S1 ![] bcast_S_S1 (constantI S_ 32 0#32)) (m ((c : Thread nD τ).loc main_arg0)) := by
  unfold V; simp only [hostOps0]; after_results_simp <;> rfl

theorem V_b : V m c main_v3 = shapeCast S2x1x6144 (m ((c : Thread nD τ).loc main_arg2)) shapeCasts_S2x6144_S2x1x6144 := by
  unfold V; simp only [hostOps0]; after_results_simp <;> rfl

theorem bias_apply (y : FVec Ideal S2x6144 .f32) (l : Fin 2) (n : Fin 6144) :
    shapeCast S2x1x6144 y shapeCasts_S2x6144_S2x1x6144 (ix3 l 0 n) = y (ix2 l n) := by
  pointwise

theorem V_c_apply (r : Fin 8) (k : Fin 1024) : (V m c main_v2 : FVec Ideal S8x1024 .f32) (ix2 r k) = padded (m ((c : Thread nD τ).loc main_arg0)) r k := by
  rw [V_c]
  exact scatter_eq _ (fun e => by pointwise) _ (fun e => by pointwise) _ r k

theorem V_b_apply (l : Fin 2) (n : Fin 6144) : (V m c main_v3 : FVec Ideal S2x1x6144 .f32) (ix3 l 0 n)
    = (m ((c : Thread nD τ).loc main_arg2) : FVec Ideal S2x6144 .f32) (ix2 l n) := by
  rw [V_b]
  exact bias_apply _ l n

/-! ## The windows' blocks -/

theorem t_lt (t : Fin cfg0.N) : t.val < 8 := t.isLt

theorem blk_c (t : Fin cfg0.N) : (iblk m c 0 t : FVec Ideal S8x1024 .f32) = V m c main_v2 := by
  have hz' : (fun a => win0_0.index t a * main_v2.ty.shape.size a) = fun _ => 0 := funext fun a => by fin_cases a <;> rfl
  exact Memref.read_access_unit_zero (Elt Ideal) main_v2 hz' (fun a => by rw [congrFun hz' a]; simp) _

theorem idx1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

/-- The layer and the columns of point `t`. -/
abbrev layer (t : Fin cfg0.N) : Fin 2 := ⟨t.val / 4, by have := t_lt t; omega⟩
abbrev col (t : Fin cfg0.N) (n : Fin 1536) : Fin 6144 := ⟨t.val % 4 * 1536 + n.val, by omega⟩

theorem blk_w (t : Fin cfg0.N) (k : Fin 1024) (n : Fin 1536) :
    (iblk m c 1 t : FVec Ideal S1x1024x1536 .f32) (ix3 0 k n) = (m ((c : Thread nD τ).loc main_arg1) : FVec Ideal S2x1024x6144 .f32) (ix3 (layer t) k (col t n)) := by
  unfold iblk
  rw [View.read_apply]
  show V m c main_arg1 _ = _
  rw [V_main_arg1]
  congr 1
  funext a
  apply Fin.ext
  match a with
  | ⟨0, _⟩ => show win0_1.index t 0 * 1 + 1 * 0 = t.val / 4; rw [(idx1 t).1]; omega
  | ⟨1, _⟩ => show win0_1.index t 1 * 1024 + 1 * k.val = k.val; rw [(idx1 t).2.1]; omega
  | ⟨2, _⟩ => show win0_1.index t 2 * 1536 + 1 * n.val = t.val % 4 * 1536 + n.val; rw [(idx1 t).2.2]; omega

theorem idx2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)

theorem blk_b (t : Fin cfg0.N) (n : Fin 1536) :
    (iblk m c 2 t : FVec Ideal S1x1x1536 .f32) (ix3 0 0 n) = (m ((c : Thread nD τ).loc main_arg2) : FVec Ideal S2x6144 .f32) (ix2 (layer t) (col t n)) := by
  refine Eq.trans ?_ (V_b_apply m c (layer t) (col t n))
  unfold iblk
  rw [View.read_apply]
  show V m c main_v3 _ = V m c main_v3 _
  congr 1
  funext a
  apply Fin.ext
  match a with
  | ⟨0, _⟩ => show win0_2.index t 0 * 1 + 1 * 0 = t.val / 4; rw [(idx2 t).1]; omega
  | ⟨1, _⟩ => show win0_2.index t 1 * 1 + 1 * 0 = 0; rw [(idx2 t).2.1]
  | ⟨2, _⟩ => show win0_2.index t 2 * 1536 + 1 * n.val = t.val % 4 * 1536 + n.val; rw [(idx2 t).2.2]; omega

/-! ## The result array -/

/-- The result array, of the arguments. -/
def res : Buf (Elt Ideal) ((c : Thread nD τ).loc main_v4) := fun (i : S2x8x6144.Idx) =>
  modAt (padded (m ((c : Thread nD τ).loc main_arg0)) (i 1)) (m ((c : Thread nD τ).loc main_arg1)) (m ((c : Thread nD τ).loc main_arg2)) (i 0) (i 2)

theorem idx3 : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (y : Vec Ideal S8x1024 .f32) (w : Vec Ideal S1x1024x1536 .f32) (b : Vec Ideal S1x1x1536 .f32) : out0_3 y w b = k0_pay1 y w b := by
  unfold out0_3 r0_0 r0_1 r0_2 r0_3
  rw [View.canon_unit_zero hz3, View.ld_unit_zero (S := S8x1024) hz2, View.ld_unit_zero (S := S1x1024x1536) hz3, View.ld_unit_zero (S := S1x1x1536) hz3]

/-- No block is cut at the array's edge. -/
theorem cut_eq (t : Fin cfg0.N) (v : Vec Ideal S1x8x1536 .f32) (i : S1x8x1536.Idx) : (cfg0.win 3).cut (grid0.coords t) v i = v i := rfl

/-- What point `t` computes at row `r` and its column `n`. -/
theorem point (t : Fin cfg0.N) (r : Fin 8) (n : Fin 1536) :
    (∑ k : Fin 1024, act ((iblk m c 0 t : FVec Ideal S8x1024 .f32) (ix2 r k)) * (iblk m c 1 t : FVec Ideal S1x1024x1536 .f32) (ix3 0 k n))
        + (iblk m c 2 t : FVec Ideal S1x1x1536 .f32) (ix3 0 0 n)
      = res m c (ix3 (layer t) r (col t n)) := by
  rw [blk_b, blk_c]
  refine congrArg (· + _) (Finset.sum_congr rfl fun k _ => ?_)
  rw [V_c_apply, blk_w]
  rfl

/-- Point `t` writes back its block of the result. -/
theorem flushed (t : Fin cfg0.N) (hf : (cfg0.win 3).flush t = true) :
    (dats m 0 c).flushed 3 t = ((cfg0.win 3).blk t).view.read (Elt Ideal) (res m c) := by
  rw [Cert.AdaIdeal.Value.flushed3, out_eq]
  funext (i : S1x8x1536.Idx)
  rw [View.read_apply]
  refine (cut_eq t _ i).trans ?_
  obtain ⟨r, n, rfl⟩ : ∃ (r : Fin 8) (n : Fin 1536), i = ix3 0 r n :=
    ⟨i 1, i 2, (ix3_eta i).symm.trans (congrArg (fun a => ix3 a (i 1) (i 2)) (Subsingleton.elim (α := Fin 1) _ _))⟩
  refine (pay1_apply _ _ _ r n).trans ?_
  refine (point m c t r n).trans ?_
  congr 1
  funext a
  apply Fin.ext
  match a with
  | ⟨0, _⟩ => show t.val / 4 = win0_3.index t 0 * 1 + 1 * 0; rw [(idx3 t).1]; omega
  | ⟨1, _⟩ => show r.val = win0_3.index t 1 * 8 + 1 * r.val; rw [(idx3 t).2.1]; omega
  | ⟨2, _⟩ => show t.val % 4 * 1536 + n.val = win0_3.index t 2 * 1536 + 1 * n.val; rw [(idx3 t).2.2]; omega

/-- The points' blocks tile the array, so it ends holding the result. -/
theorem final : (dats m 0 c).arrAt 3 cfg0.N = res m c :=
  (dats m 0 c).arrAt_eq_of_cover 3 (res m c) (flushed m c) fun i => by
    have h0 : (i 0 : Nat) < 2 := (i 0).isLt
    have h1 : (i 1 : Nat) < 8 := (i 1).isLt
    have h2 : (i 2 : Nat) < 6144 := (i 2).isLt
    refine ⟨⟨(i 0 : Nat) * 4 + (i 2 : Nat) / 1536, by show _ < 8; omega⟩, flush0_3 _, ?_⟩
    generalize ht : (⟨(i 0 : Nat) * 4 + (i 2 : Nat) / 1536, _⟩ : Fin cfg0.N) = t
    have ht' : t.val = (i 0 : Nat) * 4 + (i 2 : Nat) / 1536 := by rw [← ht]
    show i ∈ ((View.whole main_v4).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [(idx3 t).1]; omega
    | ⟨1, _⟩ => show win0_3.index t 1 * 8 ≤ (i 1 : Nat) ∧ (i 1 : Nat) < win0_3.index t 1 * 8 + 8
                rw [(idx3 t).2.1]; omega
    | ⟨2, _⟩ => show win0_3.index t 2 * 1536 ≤ (i 2 : Nat) ∧ (i 2 : Nat) < win0_3.index t 2 * 1536 + 1536
                rw [(idx3 t).2.2]; omega

end Cert.Proof.Ada

end
-- ==== Proof.Ada.lean ====
/-
  THE adaLN MODULATION: the claims. The reference's result, of the kernel's arguments, is the array that the kernel leaves.
-/
module

public import proofs.«01_k».proof.Defs
public import proofs.«01_k».proof.Proof.AdaVal
public import proofs.«01_k».proof.Proof.Gen.Ada.Frame

@[expose] public section

set_option maxRecDepth 16384

noncomputable section

namespace Cert.Proof.Ada

open Cert.AdaRefIdeal Cert.AdaRefIdeal.Gen Idealize.ShloMosaic Idealize.ShloMosaic.StableHlo Idealize.ShloMosaic.TcCoe Idealize.SL.Sem

/-- The reference's padded conditions. -/
def refPadded (x : FVec Ideal S2x1024 .f32) : FVec Ideal S8x1024 .f32 :=
  pad S8x1024 ![0, 0] ![6, 0] ![0, 0] x (sitofp (F := Ideal) .f32 (constantI S_ 32 0#32)) pads_S2x1024_S8x1024_060_000 h_S_

/-- One layer's modulation of the rows `y`, from the layer's matrix and biases. -/
def refLayer (y : FVec Ideal S8x1024 .f32) (w : FVec Ideal S1x1024x6144 .f32) (b : FVec Ideal S1x6144 .f32) : FVec Ideal S1x8x6144 .f32 :=
  broadcastInDim S1x8x6144 ![1, 2] bcast_S8x6144_S1x8x6144_1_2 (addf (Host.dotGeneral dot_S8x1024_S1024x6144_S8x6144_1_0_0_1_n_n none
      (mulf y (Host.divf (broadcastInDim S8x1024 ![] bcast_S_S8x1024 (constant S_ .f32 0x3F800000#32))
        (addf (broadcastInDim S8x1024 ![] bcast_S_S8x1024 (constant S_ .f32 0x3F800000#32)) (Host.exp (Host.negf y)))))
      (shapeCast _ w shapeCasts_S1x1024x6144_S1024x6144))
    (broadcastInDim S8x6144 ![0, 1] bcast_S1x6144_S8x6144_0_1 (broadcastInDim S1x6144 ![1] bcast_S6144_S1x6144_1 (shapeCast _ b shapeCasts_S1x6144_S6144))))

/-- Both layers'. -/
def refBoth (x : FVec Ideal S2x1024 .f32) (w : FVec Ideal S2x1024x6144 .f32) (b : FVec Ideal S2x6144 .f32) : FVec Ideal S2x8x6144 .f32 :=
  concatenate S2x8x6144 0
    [⟨S1x8x6144, refLayer (refPadded x) (extractStridedSlice S1x1024x6144 ![0, 0, 0] w slices_S2x1024x6144_S1x1024x6144_0_0_0)
        (extractStridedSlice S1x6144 ![0, 0] b slices_S2x6144_S1x6144_0_0)⟩,
     ⟨S1x8x6144, refLayer (refPadded x) (extractStridedSlice S1x1024x6144 ![1, 0, 0] w slices_S2x1024x6144_S1x1024x6144_1_0_0)
        (extractStridedSlice S1x6144 ![1, 0] b slices_S2x6144_S1x6144_1_0)⟩]
    concatenates_S1x8x6144_S1x8x6144_S2x8x6144_d0

theorem refPadded_apply (x : FVec Ideal S2x1024 .f32) (r : Fin 8) (k : Fin 1024) : refPadded x (ix2 r k) = padded x r k := by
  have hz : FloatOps.sitofp (F := Ideal) .f32 (0#32) = 0 := by
    show (((0#32 : BitVec 32).toInt : ℝ) : EReal) = 0
    simp
  pointwise [refPadded, padded, hz]

theorem refLayer_apply (y : FVec Ideal S8x1024 .f32) (w : FVec Ideal S1x1024x6144 .f32) (b : FVec Ideal S1x6144 .f32) (r : Fin 8) (n : Fin 6144) :
    refLayer y w b (ix3 0 r n) = (∑ k : Fin 1024, act (y (ix2 r k)) * w (ix3 0 k n)) + b (ix2 0 n) := by
  pointwise [refLayer, act]

theorem stack_first (p q : FVec Ideal S1x8x6144 .f32) (r : Fin 8) (n : Fin 6144) :
    concatenate S2x8x6144 0 [⟨S1x8x6144, p⟩, ⟨S1x8x6144, q⟩] concatenates_S1x8x6144_S1x8x6144_S2x8x6144_d0 (ix3 0 r n) = p (ix3 0 r n) := by
  pointwise

theorem stack_second (p q : FVec Ideal S1x8x6144 .f32) (r : Fin 8) (n : Fin 6144) :
    concatenate S2x8x6144 0 [⟨S1x8x6144, p⟩, ⟨S1x8x6144, q⟩] concatenates_S1x8x6144_S1x8x6144_S2x8x6144_d0 (ix3 1 r n) = q (ix3 0 r n) := by
  pointwise

theorem w0_apply (w : FVec Ideal S2x1024x6144 .f32) (k : Fin 1024) (n : Fin 6144) :
    extractStridedSlice S1x1024x6144 ![0, 0, 0] w slices_S2x1024x6144_S1x1024x6144_0_0_0 (ix3 0 k n) = w (ix3 0 k n) := by
  pointwise

theorem w1_apply (w : FVec Ideal S2x1024x6144 .f32) (k : Fin 1024) (n : Fin 6144) :
    extractStridedSlice S1x1024x6144 ![1, 0, 0] w slices_S2x1024x6144_S1x1024x6144_1_0_0 (ix3 0 k n) = w (ix3 1 k n) := by
  pointwise

theorem b0_apply (b : FVec Ideal S2x6144 .f32) (n : Fin 6144) :
    extractStridedSlice S1x6144 ![0, 0] b slices_S2x6144_S1x6144_0_0 (ix2 0 n) = b (ix2 0 n) := by
  pointwise

theorem b1_apply (b : FVec Ideal S2x6144 .f32) (n : Fin 6144) :
    extractStridedSlice S1x6144 ![1, 0] b slices_S2x6144_S1x6144_1_0 (ix2 0 n) = b (ix2 1 n) := by
  pointwise

theorem refBoth_apply (x : FVec Ideal S2x1024 .f32) (w : FVec Ideal S2x1024x6144 .f32) (b : FVec Ideal S2x6144 .f32) (l : Fin 2) (r : Fin 8) (n : Fin 6144) :
    refBoth x w b (ix3 l r n) = modAt (padded x r) w b l n := by
  unfold refBoth modAt
  match l with
  | ⟨0, _⟩ =>
    refine (stack_first _ _ r n).trans ?_
    rw [refLayer_apply, b0_apply]
    exact congrArg (· + _) (Finset.sum_congr rfl fun k _ => by rw [w0_apply, refPadded_apply]; rfl)
  | ⟨1, _⟩ =>
    refine (stack_second _ _ r n).trans ?_
    rw [refLayer_apply, b1_apply]
    exact congrArg (· + _) (Finset.sum_congr rfl fun k _ => by rw [w1_apply, refPadded_apply]; rfl)

theorem ref_eq (x : FVec Ideal S2x1024 .f32) (w : FVec Ideal S2x1024x6144 .f32) (b : FVec Ideal S2x6144 .f32) :
    refBoth x w b = fun i => modAt (padded x (i 1)) w b (i 0) (i 2) := by
  funext i
  obtain ⟨l, r, n, rfl⟩ : ∃ (l : Fin 2) (r : Fin 8) (n : Fin 6144), i = ix3 l r n := ⟨i 0, i 1, i 2, (ix3_eta i).symm⟩
  exact refBoth_apply x w b l r n

theorem preserves : Cert.preserves_Ada_AdaIdeal := trivial

theorem frame : Cert.quiescent_Ada := fun m ρ _ => Cert.Ada.Gen.frame m ρ

theorem frame_ideal : Cert.quiescent_AdaIdeal := fun m ρ _ => Cert.AdaIdeal.Gen.frame m ρ

theorem frame_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem algebraic : Cert.algebraic_AdaIdeal_AdaRefIdeal := fun m ρ m' ρ' _ hm =>
  ⟨fun c => res m c,
    (θ_run Cert.AdaIdeal.defs _ _).mono (fun _ r c => ⟨(r c).1.trans (final m c), (r c).2⟩)
      (Cert.AdaIdeal.Value.run_blocks (F := Ideal) m ρ),
    (θ_run Cert.AdaRefIdeal.defs _ _).mono (fun _ r c =>
        ⟨(r c).1.trans ((ref_eq _ _ _).trans (by rw [(hm c).1, (hm c).2.1, (hm c).2.2]; rfl)), (r c).2⟩)
      (Cert.AdaRefIdeal.Value.run (F := Ideal) m' ρ')⟩

end Cert.Proof.Ada

end
-- ==== Proof.lean ====
/-
  The claim of this certificate (Defs.lean), of six calls. For the collect: the two kernels' frames and the two references'
  frames, the ideal program's agreement with the printed one, and the two value claims. The collect's run is proved once,
  over any float values (Proof/Launch.lean `run_main`); the reference's value is compared with it once, over any float
  values (Proof/Ref.lean `refVal_eq`). For the input projection (Proof/InProj.lean): the frames, the agreement, and the
  value claim over the extended reals. For the experts' perceptrons (Proof/Moe.lean): the same, under a precondition on the
  two tables of the blocks. For the merge of the two mixers (Proof/Merge.lean): the same, for its first two results, under a
  precondition on the recurrence's output. For the experts' residual (Proof/Final.lean) and the adaLN
  modulation (Proof/Ada.lean): the same, without one.
-/
module

public import proofs.«01_k».proof.Proof.Gen.Kernel
public import proofs.«01_k».proof.Proof.Gen.KernelIdeal
public import proofs.«01_k».proof.Proof.Gen.ReferenceIdeal.Run
public import proofs.«01_k».proof.Proof.Gen.Reference.Run
public import proofs.«01_k».proof.Proof.Gen.Pre_slots_in_range
public import proofs.«01_k».proof.Proof.Gen.InProjIdeal.Value
public import proofs.«01_k».proof.Proof.Gen.InProjRefIdeal.Run
public import proofs.«01_k».proof.Proof.Gen.InProj.Frame
public import proofs.«01_k».proof.Proof.Gen.MoeIdeal
public import proofs.«01_k».proof.Proof.Gen.Moe
public import proofs.«01_k».proof.Proof.Gen.MoeRefIdeal.Run
public import proofs.«01_k».proof.Proof.Gen.Pre_blocks_in_range
public import proofs.«01_k».proof.Proof.Gen.MergeIdeal.Value
public import proofs.«01_k».proof.Proof.Gen.Merge.Frame
public import proofs.«01_k».proof.Proof.Gen.MergeRefIdeal.Run
public import proofs.«01_k».proof.Proof.Gen.Pre_rows_finite
public import proofs.«01_k».proof.Proof.Gen.FinalIdeal.Value
public import proofs.«01_k».proof.Proof.Gen.Final.Frame
public import proofs.«01_k».proof.Proof.Gen.FinalRefIdeal.Run
public import proofs.«01_k».proof.Proof.Gen.AdaIdeal.Value
public import proofs.«01_k».proof.Proof.Gen.Ada.Frame
public import proofs.«01_k».proof.Proof.Gen.AdaRefIdeal.Run
public import proofs.«01_k».proof.Proof.Launch
public import proofs.«01_k».proof.Proof.Ref
public import proofs.«01_k».proof.Proof.InProj
public import proofs.«01_k».proof.Proof.Moe
public import proofs.«01_k».proof.Proof.Merge
public import proofs.«01_k».proof.Proof.Final
public import proofs.«01_k».proof.Proof.Ada

@[expose] public section

noncomputable section

namespace Cert.Proof

open Idealize.ShloMosaic Idealize.SL.Sem

theorem preserves : Cert.preserves_Kernel_KernelIdeal := trivial

theorem frame_kernelIdeal : Cert.quiescent_KernelIdeal := fun m ρ h =>
  (θ_run Cert.KernelIdeal.defs _ _).mono (fun _ r => ⟨fun c => ⟨(r.1 c).1, (r.1 c).2.1⟩, r.2⟩)
    (Collect.run_main (F := Ideal) m ρ (Ref.preOK_of_pre m h))

theorem frame_kernel : Cert.quiescent_Kernel := fun m ρ h =>
  (θ_run Cert.KernelIdeal.defs _ _).mono (fun _ r => ⟨fun c => ⟨(r.1 c).1, (r.1 c).2.1⟩, r.2⟩)
    (Collect.run_main (F := Bits) m ρ (Ref.preOK_of_pre (F := Bits) m h))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem algebraic : Cert.algebraic_KernelIdeal_ReferenceIdeal := fun m ρ m' ρ' h hm =>
  ⟨fun c => Collect.G m c,
    (θ_run Cert.KernelIdeal.defs _ _).mono (fun _ r c => ⟨(r.1 c).2.2, (r.1 c).1, (r.1 c).2.1⟩)
      (Collect.run_main (F := Ideal) m ρ (Ref.preOK_of_pre m h)),
    (θ_run Cert.ReferenceIdeal.defs _ _).mono
      (fun _ r c => ⟨(r c).1.trans ((congrArg₂ (Ref.refVal (F := Ideal)) (hm c).1 (hm c).2).trans (Ref.refVal_eq m (Ref.preOK_of_pre m h) c)), (r c).2⟩)
      (Cert.ReferenceIdeal.Value.run (F := Ideal) m' ρ')⟩

theorem bitexact : Cert.bitexact_Kernel_Reference := fun m ρ m' ρ' h hm =>
  ⟨fun c => Collect.G (F := Bits) m c,
    (θ_run Cert.KernelIdeal.defs _ _).mono (fun _ r c => ⟨(r.1 c).2.2, (r.1 c).1, (r.1 c).2.1⟩)
      (Collect.run_main (F := Bits) m ρ (Ref.preOK_of_pre (F := Bits) m h)),
    (θ_run Cert.Reference.defs _ _).mono
      (fun _ r c => ⟨(r c).1.trans ((congrArg₂ (Ref.refVal (F := Bits)) (hm c).1 (hm c).2).trans
        (Ref.refVal_eq (F := Bits) m (Ref.preOK_of_pre (F := Bits) m h) c)), (r c).2⟩)
      (Cert.Reference.Value.run (F := Bits) m' ρ')⟩

theorem claim : Cert.Claim :=
  ⟨Cert.Kernel.Gen.facts, Cert.KernelIdeal.Gen.facts, Cert.ReferenceIdeal.Gen.facts, Cert.Reference.Gen.facts,
    Cert.InProj.Gen.facts, Cert.InProjIdeal.Gen.facts, Cert.InProjRefIdeal.Gen.facts,
    Cert.Moe.Gen.facts, Cert.MoeIdeal.Gen.facts, Cert.MoeRefIdeal.Gen.facts,
    Cert.Merge.Gen.facts, Cert.MergeIdeal.Gen.facts, Cert.MergeRefIdeal.Gen.facts,
    Cert.Final.Gen.facts, Cert.FinalIdeal.Gen.facts, Cert.FinalRefIdeal.Gen.facts,
    Cert.Ada.Gen.facts, Cert.AdaIdeal.Gen.facts, Cert.AdaRefIdeal.Gen.facts,
    Cert.Pre_slots_in_range.Gen.facts, Cert.Pre_blocks_in_range.Gen.facts, Cert.Pre_rows_finite.Gen.facts,
    frame_kernel, frame_kernelIdeal, frame_referenceIdeal, frame_reference, InProj.frame, InProj.frame_ideal, InProj.frame_ref,
    Moe.frame, Moe.frame_ideal, Moe.frame_ref, Merge.frame, Merge.frame_ideal, Merge.frame_ref,
    Final.frame, Final.frame_ideal, Final.frame_ref, Ada.frame, Ada.frame_ideal, Ada.frame_ref,
    preserves, algebraic, bitexact, InProj.preserves, InProj.algebraic, Moe.preserves, Moe.algebraic, Merge.preserves, Merge.algebraic,
    Final.preserves, Final.algebraic, Ada.preserves, Ada.algebraic⟩

end Cert.Proof

end
